-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x32 : Shape := ⟨2, ![1024, 32]⟩
abbrev S1024 : Shape := ⟨1, ![1024]⟩
abbrev S16384x8 : Shape := ⟨2, ![16384, 8]⟩
abbrev S16384 : Shape := ⟨1, ![16384]⟩
abbrev S1024x20 : Shape := ⟨2, ![1024, 20]⟩
abbrev S230x128 : Shape := ⟨2, ![230, 128]⟩
abbrev S4020x128 : Shape := ⟨2, ![4020, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S1024 : S_.BroadcastsInDim S1024 (![] : Fin 0 → Fin S1024.rank)
  reducesTo_S1024_S_d0 : S1024.ReducesTo [0] S_
  bcast_S_S16384x8 : S_.BroadcastsInDim S16384x8 (![] : Fin 0 → Fin S16384x8.rank)
  reducesTo_S16384x8_S_d0_1 : S16384x8.ReducesTo [0, 1] S_

variable [Facts]

def fn_part2 {F : FTy → Type} [FloatOps F] (main_arg5 : IVec S1024 32) (main_arg6 : IVec S1024 32) (main_v30 : IVec S_ 1) (main_c_15 : IVec S_ 32) : IVec S_ 1 :=
  let main_v31 : IVec S1024 32 := broadcastInDim S1024 ![] bcast_S_S1024 main_c_15
  let main_v32 : IVec S1024 1 := cmpi .sge main_arg5 main_v31
  let main_c_16 : IVec S_ 1 := constantI S_ 1 1#1
  let main_v33 : IVec S_ 1 := (fun x v => Host.reduce IntOp.andi x v reducesTo_S1024_S_d0 h_S_) main_v32 main_c_16
  let main_c_17 : IVec S_ 32 := constantI S_ 32 230#32
  let main_v34 : IVec S1024 32 := broadcastInDim S1024 ![] bcast_S_S1024 main_c_17
  let main_v35 : IVec S1024 1 := cmpi .sle main_arg5 main_v34
  let main_c_18 : IVec S_ 1 := constantI S_ 1 1#1
  let main_v36 : IVec S_ 1 := (fun x v => Host.reduce IntOp.andi x v reducesTo_S1024_S_d0 h_S_) main_v35 main_c_18
  let main_v37 : IVec S_ 1 := andi main_v33 main_v36
  let main_v38 : IVec S_ 1 := andi main_v30 main_v37
  let main_c_19 : IVec S_ 32 := constantI S_ 32 0#32
  let main_v39 : IVec S1024 32 := broadcastInDim S1024 ![] bcast_S_S1024 main_c_19
  let main_v40 : IVec S1024 1 := cmpi .sge main_arg6 main_v39
  let main_c_20 : IVec S_ 1 := constantI S_ 1 1#1
  let main_v41 : IVec S_ 1 := (fun x v => Host.reduce IntOp.andi x v reducesTo_S1024_S_d0 h_S_) main_v40 main_c_20
  let main_c_21 : IVec S_ 32 := constantI S_ 32 16384#32
  let main_v42 : IVec S1024 32 := broadcastInDim S1024 ![] bcast_S_S1024 main_c_21
  let main_v43 : IVec S1024 1 := cmpi .sle main_arg6 main_v42
  let main_c_22 : IVec S_ 1 := constantI S_ 1 1#1
  let main_v44 : IVec S_ 1 := (fun x v => Host.reduce IntOp.andi x v reducesTo_S1024_S_d0 h_S_) main_v43 main_c_22
  let main_v45 : IVec S_ 1 := andi main_v41 main_v44
  let main_v46 : IVec S_ 1 := andi main_v38 main_v45
  main_v46

def fn_part1 {F : FTy → Type} [FloatOps F] (main_arg2 : IVec S16384x8 32) (main_arg3 : IVec S16384x8 32) (main_arg5 : IVec S1024 32) (main_arg6 : IVec S1024 32) (main_v14 : IVec S_ 1) (main_c_7 : IVec S_ 32) : IVec S_ 1 :=
  let main_v15 : IVec S16384x8 32 := broadcastInDim S16384x8 ![] bcast_S_S16384x8 main_c_7
  let main_v16 : IVec S16384x8 1 := cmpi .sge main_arg2 main_v15
  let main_c_8 : IVec S_ 1 := constantI S_ 1 1#1
  let main_v17 : IVec S_ 1 := (fun x v => Host.reduce IntOp.andi x v reducesTo_S16384x8_S_d0_1 h_S_) main_v16 main_c_8
  let main_c_9 : IVec S_ 32 := constantI S_ 32 230#32
  let main_v18 : IVec S16384x8 32 := broadcastInDim S16384x8 ![] bcast_S_S16384x8 main_c_9
  let main_v19 : IVec S16384x8 1 := cmpi .sle main_arg2 main_v18
  let main_c_10 : IVec S_ 1 := constantI S_ 1 1#1
  let main_v20 : IVec S_ 1 := (fun x v => Host.reduce IntOp.andi x v reducesTo_S16384x8_S_d0_1 h_S_) main_v19 main_c_10
  let main_v21 : IVec S_ 1 := andi main_v17 main_v20
  let main_v22 : IVec S_ 1 := andi main_v14 main_v21
  let main_c_11 : IVec S_ 32 := constantI S_ 32 0#32
  let main_v23 : IVec S16384x8 32 := broadcastInDim S16384x8 ![] bcast_S_S16384x8 main_c_11
  let main_v24 : IVec S16384x8 1 := cmpi .sge main_arg3 main_v23
  let main_c_12 : IVec S_ 1 := constantI S_ 1 1#1
  let main_v25 : IVec S_ 1 := (fun x v => Host.reduce IntOp.andi x v reducesTo_S16384x8_S_d0_1 h_S_) main_v24 main_c_12
  let main_c_13 : IVec S_ 32 := constantI S_ 32 4019#32
  let main_v26 : IVec S16384x8 32 := broadcastInDim S16384x8 ![] bcast_S_S16384x8 main_c_13
  let main_v27 : IVec S16384x8 1 := cmpi .sle main_arg3 main_v26
  let main_c_14 : IVec S_ 1 := constantI S_ 1 1#1
  let main_v28 : IVec S_ 1 := (fun x v => Host.reduce IntOp.andi x v reducesTo_S16384x8_S_d0_1 h_S_) main_v27 main_c_14
  let main_v29 : IVec S_ 1 := andi main_v25 main_v28
  let main_v30 : IVec S_ 1 := andi main_v22 main_v29
  let main_c_15 : IVec S_ 32 := constantI S_ 32 0#32
  fn_part2 (F := F) main_arg5 main_arg6 main_v30 main_c_15

def fn {F : FTy → Type} [FloatOps F] (main_arg0 : IVec S1024x32 32) (main_arg1 : IVec S1024 32) (main_arg2 : IVec S16384x8 32) (main_arg3 : IVec S16384x8 32) (main_arg4 : IVec S16384 32) (main_arg5 : IVec S1024 32) (main_arg6 : IVec S1024 32) (main_arg7 : IVec S1024x20 32) (main_arg8 : FVec F S230x128 .f32) (main_arg9 : FVec F S4020x128 .f32) (main_arg10 : FVec F S128x128 .f32) (main_arg11 : FVec F S128 .f32) (main_arg12 : FVec F S384x128 .f32) (main_arg13 : FVec F S384x128 .f32) (main_arg14 : FVec F S384 .f32) (main_arg15 : FVec F S384 .f32) : IVec S_ 1 :=
  let main_c : IVec S_ 32 := constantI S_ 32 0#32
  let main_v0 : IVec S1024x32 32 := broadcastInDim S1024x32 ![] bcast_S_S1024x32 main_c
  let main_v1 : IVec S1024x32 1 := cmpi .sge main_arg0 main_v0
  let main_c_0 : IVec S_ 1 := constantI S_ 1 1#1
  let main_v2 : IVec S_ 1 := (fun x v => Host.reduce IntOp.andi x v reducesTo_S1024x32_S_d0_1 h_S_) main_v1 main_c_0
  let main_c_1 : IVec S_ 32 := constantI S_ 32 16384#32
  let main_v3 : IVec S1024x32 32 := broadcastInDim S1024x32 ![] bcast_S_S1024x32 main_c_1
  let main_v4 : IVec S1024x32 1 := cmpi .sle main_arg0 main_v3
  let main_c_2 : IVec S_ 1 := constantI S_ 1 1#1
  let main_v5 : IVec S_ 1 := (fun x v => Host.reduce IntOp.andi x v reducesTo_S1024x32_S_d0_1 h_S_) main_v4 main_c_2
  let main_v6 : IVec S_ 1 := andi main_v2 main_v5
  let main_c_3 : IVec S_ 32 := constantI S_ 32 0#32
  let main_v7 : IVec S1024 32 := broadcastInDim S1024 ![] bcast_S_S1024 main_c_3
  let main_v8 : IVec S1024 1 := cmpi .sge main_arg1 main_v7
  let main_c_4 : IVec S_ 1 := constantI S_ 1 1#1
  let main_v9 : IVec S_ 1 := (fun x v => Host.reduce IntOp.andi x v reducesTo_S1024_S_d0 h_S_) main_v8 main_c_4
  let main_c_5 : IVec S_ 32 := constantI S_ 32 230#32
  let main_v10 : IVec S1024 32 := broadcastInDim S1024 ![] bcast_S_S1024 main_c_5
  let main_v11 : IVec S1024 1 := cmpi .sle main_arg1 main_v10
  let main_c_6 : IVec S_ 1 := constantI S_ 1 1#1
  let main_v12 : IVec S_ 1 := (fun x v => Host.reduce IntOp.andi x v reducesTo_S1024_S_d0 h_S_) main_v11 main_c_6
  let main_v13 : IVec S_ 1 := andi main_v9 main_v12
  let main_v14 : IVec S_ 1 := andi main_v6 main_v13
  let main_c_7 : IVec S_ 32 := constantI S_ 32 0#32
  fn_part1 (F := F) main_arg2 main_arg3 main_arg5 main_arg6 main_v14 main_c_7
-- ==== Kernel.lean ====
abbrev S1024x32 : Shape := ⟨2, ![1024, 32]⟩
abbrev S1024 : Shape := ⟨1, ![1024]⟩
abbrev S16384x8 : Shape := ⟨2, ![16384, 8]⟩
abbrev S16384 : Shape := ⟨1, ![16384]⟩
abbrev S1024x20 : Shape := ⟨2, ![1024, 20]⟩
abbrev S230x128 : Shape := ⟨2, ![230, 128]⟩
abbrev S4020x128 : Shape := ⟨2, ![4020, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩
abbrev S4096x128 : Shape := ⟨2, ![4096, 128]⟩
abbrev S1 : Shape := ⟨1, ![1]⟩
abbrev S256x128 : Shape := ⟨2, ![256, 128]⟩
abbrev S128x384 : Shape := ⟨2, ![128, 384]⟩
abbrev S1x128 : Shape := ⟨2, ![1, 128]⟩
abbrev S1x384 : Shape := ⟨2, ![1, 384]⟩
abbrev S256 : Shape := ⟨1, ![256]⟩
abbrev S256x1 : Shape := ⟨2, ![256, 1]⟩
abbrev S8x16384 : Shape := ⟨2, ![8, 16384]⟩
abbrev S32x32x128 : Shape := ⟨3, ![32, 32, 128]⟩
abbrev S131072x128 : Shape := ⟨2, ![131072, 128]⟩
abbrev S32x128 : Shape := ⟨2, ![32, 128]⟩
abbrev S2x128x128 : Shape := ⟨3, ![2, 128, 128]⟩
abbrev S1x32x128 : Shape := ⟨3, ![1, 32, 128]⟩
abbrev S1x128x128 : Shape := ⟨3, ![1, 128, 128]⟩
abbrev S8x16x1024x128 : Shape := ⟨4, ![8, 16, 1024, 128]⟩
abbrev S8x16384x1 : Shape := ⟨3, ![8, 16384, 1]⟩
abbrev S16x1x1024 : Shape := ⟨3, ![16, 1, 1024]⟩
abbrev S16384x128 : Shape := ⟨2, ![16384, 128]⟩
abbrev S8x1024x1 : Shape := ⟨3, ![8, 1024, 1]⟩
abbrev S1x1x1024 : Shape := ⟨3, ![1, 1, 1024]⟩
abbrev S8x1x1024x128 : Shape := ⟨4, ![8, 1, 1024, 128]⟩
abbrev S1024x128 : Shape := ⟨2, ![1024, 128]⟩
abbrev S8192x1 : Shape := ⟨2, ![8192, 1]⟩
abbrev S1x256 : Shape := ⟨2, ![1, 256]⟩
abbrev S8192x256 : Shape := ⟨2, ![8192, 256]⟩
abbrev S8192x128 : Shape := ⟨2, ![8192, 128]⟩
abbrev S8192x384 : Shape := ⟨2, ![8192, 384]⟩
abbrev S8x1024x384 : Shape := ⟨3, ![8, 1024, 384]⟩
abbrev S1024x1 : Shape := ⟨2, ![1024, 1]⟩
abbrev S1024x384 : Shape := ⟨2, ![1024, 384]⟩
abbrev S1x1024x384 : Shape := ⟨3, ![1, 1024, 384]⟩
abbrev S8x128 : Shape := ⟨2, ![8, 128]⟩
abbrev S16392x128 : Shape := ⟨2, ![16392, 128]⟩
abbrev S32768 : Shape := ⟨1, ![32768]⟩
abbrev S33792 : Shape := ⟨1, ![33792]⟩
abbrev S32x11x96 : Shape := ⟨3, ![32, 11, 96]⟩
abbrev S33792x128 : Shape := ⟨2, ![33792, 128]⟩
abbrev S11x96 : Shape := ⟨2, ![11, 96]⟩
abbrev S2x96x128 : Shape := ⟨3, ![2, 96, 128]⟩
abbrev S1x11x96 : Shape := ⟨3, ![1, 11, 96]⟩
abbrev S1x96x128 : Shape := ⟨3, ![1, 96, 128]⟩
abbrev S96x128 : Shape := ⟨2, ![96, 128]⟩
abbrev S1x96 : Shape := ⟨2, ![1, 96]⟩
abbrev S96 : Shape := ⟨1, ![96]⟩
abbrev S2048 : Shape := ⟨1, ![2048]⟩
abbrev S32x1x64 : Shape := ⟨3, ![32, 1, 64]⟩
abbrev S2048x128 : Shape := ⟨2, ![2048, 128]⟩
abbrev S1x64 : Shape := ⟨2, ![1, 64]⟩
abbrev S2x64x128 : Shape := ⟨3, ![2, 64, 128]⟩
abbrev S1x1x64 : Shape := ⟨3, ![1, 1, 64]⟩
abbrev S1x64x128 : Shape := ⟨3, ![1, 64, 128]⟩
abbrev S64x128 : Shape := ⟨2, ![64, 128]⟩
abbrev S64 : Shape := ⟨1, ![64]⟩
abbrev S32768x128 : Shape := ⟨2, ![32768, 128]⟩
abbrev S8x1x128 : Shape := ⟨3, ![8, 1, 128]⟩
abbrev S1x1x128 : Shape := ⟨3, ![1, 1, 128]⟩
abbrev S128x32x128 : Shape := ⟨3, ![128, 32, 128]⟩
abbrev S128x1x128 : Shape := ⟨3, ![128, 1, 128]⟩
abbrev S128x32 : Shape := ⟨2, ![128, 32]⟩

abbrev nBuf : Table → Nat
  | .hbm => 61
  | .local .tc .vmem => 25
  | .local .scVector .vmem => 6
  | _ => 0

abbrev bufTy : (tb : Table) → Fin (nBuf tb) → BufTy
  | .hbm, ⟨0, _⟩ => ⟨S1024x32, .i32⟩
  | .hbm, ⟨1, _⟩ => ⟨S1024, .i32⟩
  | .hbm, ⟨2, _⟩ => ⟨S16384x8, .i32⟩
  | .hbm, ⟨3, _⟩ => ⟨S16384x8, .i32⟩
  | .hbm, ⟨4, _⟩ => ⟨S16384, .i32⟩
  | .hbm, ⟨5, _⟩ => ⟨S1024, .i32⟩
  | .hbm, ⟨6, _⟩ => ⟨S1024, .i32⟩
  | .hbm, ⟨7, _⟩ => ⟨S1024x20, .i32⟩
  | .hbm, ⟨8, _⟩ => ⟨S230x128, .f32⟩
  | .hbm, ⟨9, _⟩ => ⟨S4020x128, .f32⟩
  | .hbm, ⟨10, _⟩ => ⟨S128x128, .f32⟩
  | .hbm, ⟨11, _⟩ => ⟨S128, .f32⟩
  | .hbm, ⟨12, _⟩ => ⟨S384x128, .f32⟩
  | .hbm, ⟨13, _⟩ => ⟨S384x128, .f32⟩
  | .hbm, ⟨14, _⟩ => ⟨S384, .f32⟩
  | .hbm, ⟨15, _⟩ => ⟨S384, .f32⟩
  | .hbm, ⟨16, _⟩ => ⟨S_, .f32⟩
  | .hbm, ⟨17, _⟩ => ⟨S4096x128, .f32⟩
  | .hbm, ⟨18, _⟩ => ⟨S_, .i32⟩
  | .hbm, ⟨19, _⟩ => ⟨S1, .i32⟩
  | .hbm, ⟨20, _⟩ => ⟨S4096x128, .f32⟩
  | .hbm, ⟨21, _⟩ => ⟨S_, .f32⟩
  | .hbm, ⟨22, _⟩ => ⟨S256x128, .f32⟩
  | .hbm, ⟨23, _⟩ => ⟨S_, .i32⟩
  | .hbm, ⟨24, _⟩ => ⟨S1, .i32⟩
  | .hbm, ⟨25, _⟩ => ⟨S256x128, .f32⟩
  | .hbm, ⟨26, _⟩ => ⟨S128x128, .f32⟩
  | .hbm, ⟨27, _⟩ => ⟨S128x384, .f32⟩
  | .hbm, ⟨28, _⟩ => ⟨S128x384, .f32⟩
  | .hbm, ⟨29, _⟩ => ⟨S1x128, .f32⟩
  | .hbm, ⟨30, _⟩ => ⟨S1x384, .f32⟩
  | .hbm, ⟨31, _⟩ => ⟨S1x384, .f32⟩
  | .hbm, ⟨32, _⟩ => ⟨S4096x128, .f32⟩
  | .hbm, ⟨33, _⟩ => ⟨S256x128, .f32⟩
  | .hbm, ⟨34, _⟩ => ⟨S8x16384, .i32⟩
  | .hbm, ⟨35, _⟩ => ⟨S32x32x128, .i32⟩
  | .hbm, ⟨36, _⟩ => ⟨S131072x128, .f32⟩
  | .hbm, ⟨37, _⟩ => ⟨S8x16x1024x128, .f32⟩
  | .hbm, ⟨38, _⟩ => ⟨S8x16384, .i32⟩
  | .hbm, ⟨39, _⟩ => ⟨S8x16384x1, .i32⟩
  | .hbm, ⟨40, _⟩ => ⟨S16x1x1024, .i32⟩
  | .hbm, ⟨41, _⟩ => ⟨S16384x128, .f32⟩
  | .hbm, ⟨42, _⟩ => ⟨S_, .f32⟩
  | .hbm, ⟨43, _⟩ => ⟨S8x128, .f32⟩
  | .hbm, ⟨44, _⟩ => ⟨S16392x128, .f32⟩
  | .hbm, ⟨45, _⟩ => ⟨S32768, .i32⟩
  | .hbm, ⟨46, _⟩ => ⟨S33792, .i32⟩
  | .hbm, ⟨47, _⟩ => ⟨S_, .i32⟩
  | .hbm, ⟨48, _⟩ => ⟨S33792, .i32⟩
  | .hbm, ⟨49, _⟩ => ⟨S33792, .i32⟩
  | .hbm, ⟨50, _⟩ => ⟨S32x11x96, .i32⟩
  | .hbm, ⟨51, _⟩ => ⟨S33792x128, .f32⟩
  | .hbm, ⟨52, _⟩ => ⟨S2048, .i32⟩
  | .hbm, ⟨53, _⟩ => ⟨S32x1x64, .i32⟩
  | .hbm, ⟨54, _⟩ => ⟨S2048x128, .f32⟩
  | .hbm, ⟨55, _⟩ => ⟨S32768x128, .f32⟩
  | .hbm, ⟨56, _⟩ => ⟨S1024x128, .f32⟩
  | .hbm, ⟨57, _⟩ => ⟨S8x1x128, .f32⟩
  | .hbm, ⟨58, _⟩ => ⟨S1024, .f32⟩
  | .hbm, ⟨59, _⟩ => ⟨S1024x128, .f32⟩
  | .hbm, ⟨60, _⟩ => ⟨S1024x128, .f32⟩
  | .local .tc .vmem, ⟨0, _⟩ => ⟨S4096x128, .f32⟩
  | .local .tc .vmem, ⟨1, _⟩ => ⟨S128x128, .f32⟩
  | .local .tc .vmem, ⟨2, _⟩ => ⟨S1x128, .f32⟩
  | .local .tc .vmem, ⟨3, _⟩ => ⟨S256x128, .f32⟩
  | .local .tc .vmem, ⟨4, _⟩ => ⟨S4096x128, .f32⟩
  | .local .tc .vmem, ⟨5, _⟩ => ⟨S256x128, .f32⟩
  | .local .tc .vmem, ⟨6, _⟩ => ⟨S8x1024x1, .i32⟩
  | .local .tc .vmem, ⟨7, _⟩ => ⟨S8x1024x1, .i32⟩
  | .local .tc .vmem, ⟨8, _⟩ => ⟨S1x1x1024, .i32⟩
  | .local .tc .vmem, ⟨9, _⟩ => ⟨S1x1x1024, .i32⟩
  | .local .tc .vmem, ⟨10, _⟩ => ⟨S8x1x1024x128, .f32⟩
  | .local .tc .vmem, ⟨11, _⟩ => ⟨S8x1x1024x128, .f32⟩
  | .local .tc .vmem, ⟨12, _⟩ => ⟨S256x128, .f32⟩
  | .local .tc .vmem, ⟨13, _⟩ => ⟨S128x384, .f32⟩
  | .local .tc .vmem, ⟨14, _⟩ => ⟨S128x384, .f32⟩
  | .local .tc .vmem, ⟨15, _⟩ => ⟨S1x384, .f32⟩
  | .local .tc .vmem, ⟨16, _⟩ => ⟨S1x384, .f32⟩
  | .local .tc .vmem, ⟨17, _⟩ => ⟨S1024x128, .f32⟩
  | .local .tc .vmem, ⟨18, _⟩ => ⟨S1024x128, .f32⟩
  | .local .tc .vmem, ⟨19, _⟩ => ⟨S4096x128, .f32⟩
  | .local .tc .vmem, ⟨20, _⟩ => ⟨S4096x128, .f32⟩
  | .local .tc .vmem, ⟨21, _⟩ => ⟨S128x128, .f32⟩
  | .local .tc .vmem, ⟨22, _⟩ => ⟨S128x128, .f32⟩
  | .local .tc .vmem, ⟨23, _⟩ => ⟨S1x1x128, .f32⟩
  | .local .tc .vmem, ⟨24, _⟩ => ⟨S1x1x128, .f32⟩
  | .local .scVector .vmem, ⟨0, _⟩ => ⟨S32x128, .i32⟩
  | .local .scVector .vmem, ⟨1, _⟩ => ⟨S2x128x128, .f32⟩
  | .local .scVector .vmem, ⟨2, _⟩ => ⟨S11x96, .i32⟩
  | .local .scVector .vmem, ⟨3, _⟩ => ⟨S2x96x128, .f32⟩
  | .local .scVector .vmem, ⟨4, _⟩ => ⟨S1x64, .i32⟩
  | .local .scVector .vmem, ⟨5, _⟩ => ⟨S2x64x128, .f32⟩
  | _, _ => ⟨S1024x32, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => true
  | ⟨73, _⟩ => true
  | ⟨74, _⟩ => true
  | ⟨75, _⟩ => true
  | ⟨76, _⟩ => true
  | ⟨77, _⟩ => true
  | _ => false

abbrev sig : RefSig :=
  ofTables nBuf rfl bufTy 4 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_c_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v12_0_scv : Ref sig .scVector := ⟨.hbm, 32, rfl⟩
abbrev main_v14_scv : Ref sig .scVector := ⟨.hbm, 35, rfl⟩
abbrev main_v15_scv : Ref sig .scVector := ⟨.hbm, 36, rfl⟩
abbrev main_v22_scv : Ref sig .scVector := ⟨.hbm, 44, rfl⟩
abbrev main_v27_scv : Ref sig .scVector := ⟨.hbm, 50, rfl⟩
abbrev main_v28_scv : Ref sig .scVector := ⟨.hbm, 51, rfl⟩
abbrev main_v12_1_scv : Ref sig .scVector := ⟨.hbm, 33, rfl⟩
abbrev main_v30_scv : Ref sig .scVector := ⟨.hbm, 53, rfl⟩
abbrev main_v31_scv : Ref sig .scVector := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg8_1 : Ref sig .tc := ⟨.vmem, 18, rfl⟩
abbrev cc5_stg0_0 : Ref sig .tc := ⟨.vmem, 19, rfl⟩
abbrev cc5_stg0_1 : Ref sig .tc := ⟨.vmem, 20, rfl⟩
abbrev cc5_stg1_0 : Ref sig .tc := ⟨.vmem, 21, rfl⟩
abbrev cc5_stg1_1 : Ref sig .tc := ⟨.vmem, 22, rfl⟩
abbrev cc5_stg2_0 : Ref sig .tc := ⟨.vmem, 23, rfl⟩
abbrev cc5_stg2_1 : Ref sig .tc := ⟨.vmem, 24, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc4_scratch0 : Ref sig .scVector := ⟨.vmem, 4, rfl⟩
abbrev cc4_scratch1 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc2_sem0_0 : DmaSem sig := 41
abbrev cc2_sem0_1 : DmaSem sig := 42
abbrev cc2_sem1_0 : DmaSem sig := 43
abbrev cc2_sem1_1 : DmaSem sig := 44
abbrev cc2_sem2_0 : DmaSem sig := 45
abbrev cc2_sem2_1 : DmaSem sig := 46
abbrev cc2_sem3_0 : DmaSem sig := 47
abbrev cc2_sem4_0 : DmaSem sig := 48
abbrev cc2_sem5_0 : DmaSem sig := 49
abbrev cc2_sem6_0 : DmaSem sig := 50
abbrev cc2_sem7_0 : DmaSem sig := 51
abbrev cc2_sem8_0 : DmaSem sig := 52
abbrev cc2_sem8_1 : DmaSem sig := 53
abbrev cc5_sem0_0 : DmaSem sig := 72
abbrev cc5_sem0_1 : DmaSem sig := 73
abbrev cc5_sem1_0 : DmaSem sig := 74
abbrev cc5_sem1_1 : DmaSem sig := 75
abbrev cc5_sem2_0 : DmaSem sig := 76
abbrev cc5_sem2_1 : DmaSem sig := 77
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_450_r0 : BitVec 32 := 0#32
  let c0_i32_451_r0 : BitVec 32 := 0#32
  ![v1.toNat, 0, 0]
def k1_off2 (i : grid1.Coords) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v18 : BitVec 32 := Scalar.addi v2 c0_i32_19
  let c0_i32_452_r1 : BitVec 32 := 0#32
  ![v18.toNat, 0]
abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x1024x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_156_r0 : BitVec 32 := 0#32
  let c0_i32_157_r0 : BitVec 32 := 0#32
  ![v1.toNat, 0, 0]
def k3_off2 (i : grid3.Coords) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1056_i32 : BitVec 32 := 1056#32
  let v2 : BitVec 32 := Scalar.muli v1 c1056_i32
  let v18 : BitVec 32 := Scalar.addi v2 c0_i32_19
  let c0_i32_158_r1 : BitVec 32 := 0#32
  ![v18.toNat, 0]
abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  let c0_i32_16_r0 : BitVec 32 := 0#32
  ![v1.toNat, 0, 0]
def k4_off2 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_13 : BitVec 32 := 0#32
  let v13 : BitVec 32 := Scalar.addi v2 c0_i32_13
  let c0_i32_17_r1 : BitVec 32 := 0#32
  ![v13.toNat, 0]
abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S1024x32 : Shape := ⟨2, ![1024, 32]⟩
abbrev S1024 : Shape := ⟨1, ![1024]⟩
abbrev S16384x8 : Shape := ⟨2, ![16384, 8]⟩
abbrev S16384 : Shape := ⟨1, ![16384]⟩
abbrev S1024x20 : Shape := ⟨2, ![1024, 20]⟩
abbrev S230x128 : Shape := ⟨2, ![230, 128]⟩
abbrev S4020x128 : Shape := ⟨2, ![4020, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩
abbrev S1x128 : Shape := ⟨2, ![1, 128]⟩
abbrev S231x128 : Shape := ⟨2, ![231, 128]⟩
abbrev S16384x8x1 : Shape := ⟨3, ![16384, 8, 1]⟩
abbrev S16384x8x128 : Shape := ⟨3, ![16384, 8, 128]⟩
abbrev S1x1x128 : Shape := ⟨3, ![1, 1, 128]⟩
abbrev S16384x128 : Shape := ⟨2, ![16384, 128]⟩
abbrev S8x16384x128 : Shape := ⟨3, ![8, 16384, 128]⟩
abbrev S8 : Shape := ⟨1, ![8]⟩
abbrev S1x16384x128 : Shape := ⟨3, ![1, 16384, 128]⟩
abbrev S1 : Shape := ⟨1, ![1]⟩
abbrev S128x384 : Shape := ⟨2, ![128, 384]⟩
abbrev S16384x384 : Shape := ⟨2, ![16384, 384]⟩
abbrev S1x384 : Shape := ⟨2, ![1, 384]⟩
abbrev S16384x1 : Shape := ⟨2, ![16384, 1]⟩
abbrev S16385x128 : Shape := ⟨2, ![16385, 128]⟩
abbrev S230 : Shape := ⟨1, ![230]⟩
abbrev S230x1 : Shape := ⟨2, ![230, 1]⟩
abbrev S16385 : Shape := ⟨1, ![16385]⟩
abbrev S16385x1 : Shape := ⟨2, ![16385, 1]⟩
abbrev S1024x1 : Shape := ⟨2, ![1024, 1]⟩
abbrev S1024x128 : Shape := ⟨2, ![1024, 128]⟩
abbrev S128x1024 : Shape := ⟨2, ![128, 1024]⟩
abbrev S16385x1024 : Shape := ⟨2, ![16385, 1024]⟩
abbrev S1024x16385 : Shape := ⟨2, ![1024, 16385]⟩
abbrev S1024x32x1 : Shape := ⟨3, ![1024, 32, 1]⟩
abbrev S1024x32x2 : Shape := ⟨3, ![1024, 32, 2]⟩

abbrev nBuf : Space → Nat
  | .hbm => 197
  | .vmem => 0
  | .smem => 0
  | _ => 0

abbrev hbmTy0_0 (i : Nat) : BufTy := match i % 128 with
  | 0 => ⟨S1024x32, .i32⟩
  | 1 => ⟨S1024, .i32⟩
  | 2 => ⟨S16384x8, .i32⟩
  | 3 => ⟨S16384x8, .i32⟩
  | 4 => ⟨S16384, .i32⟩
  | 5 => ⟨S1024, .i32⟩
  | 6 => ⟨S1024, .i32⟩
  | 7 => ⟨S1024x20, .i32⟩
  | 8 => ⟨S230x128, .f32⟩
  | 9 => ⟨S4020x128, .f32⟩
  | 10 => ⟨S128x128, .f32⟩
  | 11 => ⟨S128, .f32⟩
  | 12 => ⟨S384x128, .f32⟩
  | 13 => ⟨S384x128, .f32⟩
  | 14 => ⟨S384, .f32⟩
  | 15 => ⟨S384, .f32⟩
  | 16 => ⟨S_, .f32⟩
  | 17 => ⟨S1x128, .f32⟩
  | 18 => ⟨S231x128, .f32⟩
  | 19 => ⟨S_, .i32⟩
  | 20 => ⟨S16384x8, .i32⟩
  | 21 => ⟨S16384x8, .i1⟩
  | 22 => ⟨S_, .i32⟩
  | 23 => ⟨S16384x8, .i32⟩
  | 24 => ⟨S16384x8, .i32⟩
  | 25 => ⟨S16384x8, .i32⟩
  | 26 => ⟨S16384x8x1, .i32⟩
  | 27 => ⟨S16384x8x128, .f32⟩
  | 28 => ⟨S_, .i32⟩
  | 29 => ⟨S16384x8, .i32⟩
  | 30 => ⟨S16384x8, .i1⟩
  | 31 => ⟨S_, .i32⟩
  | 32 => ⟨S16384x8, .i32⟩
  | 33 => ⟨S16384x8, .i32⟩
  | 34 => ⟨S16384x8, .i32⟩
  | 35 => ⟨S16384x8x1, .i32⟩
  | 36 => ⟨S16384x8x128, .f32⟩
  | 37 => ⟨S128x128, .f32⟩
  | 38 => ⟨S16384x8x128, .f32⟩
  | 39 => ⟨S1x1x128, .f32⟩
  | 40 => ⟨S16384x8x128, .f32⟩
  | 41 => ⟨S16384x8x128, .f32⟩
  | 42 => ⟨S16384x8x128, .f32⟩
  | 43 => ⟨S_, .f32⟩
  | 44 => ⟨S16384x128, .f32⟩
  | 45 => ⟨S8x16384x128, .f32⟩
  | 46 => ⟨S8, .i32⟩
  | 47 => ⟨S_, .i32⟩
  | 48 => ⟨S8x16384x128, .f32⟩
  | 49 => ⟨S8, .i32⟩
  | 50 => ⟨S384x128, .f32⟩
  | 51 => ⟨S384, .f32⟩
  | 52 => ⟨S384x128, .f32⟩
  | 53 => ⟨S384, .f32⟩
  | 54 => ⟨S16384, .i32⟩
  | 55 => ⟨S_, .i32⟩
  | 56 => ⟨S16384x128, .f32⟩
  | 57 => ⟨S_, .i32⟩
  | 58 => ⟨S_, .i1⟩
  | 59 => ⟨S_, .i32⟩
  | 60 => ⟨S_, .i32⟩
  | 61 => ⟨S1x16384x128, .f32⟩
  | 62 => ⟨S16384x128, .f32⟩
  | 63 => ⟨S1, .i32⟩
  | 64 => ⟨S_, .i32⟩
  | 65 => ⟨S128x384, .f32⟩
  | 66 => ⟨S16384x384, .f32⟩
  | 67 => ⟨S1x384, .f32⟩
  | 68 => ⟨S16384x384, .f32⟩
  | 69 => ⟨S16384x384, .f32⟩
  | 70 => ⟨S128x384, .f32⟩
  | 71 => ⟨S16384x384, .f32⟩
  | 72 => ⟨S1x384, .f32⟩
  | 73 => ⟨S16384x384, .f32⟩
  | 74 => ⟨S16384x384, .f32⟩
  | 75 => ⟨S16384x128, .f32⟩
  | 76 => ⟨S16384x128, .f32⟩
  | 77 => ⟨S16384x128, .f32⟩
  | 78 => ⟨S16384x128, .f32⟩
  | 79 => ⟨S16384x128, .f32⟩
  | 80 => ⟨S16384x128, .f32⟩
  | 81 => ⟨S16384x128, .f32⟩
  | 82 => ⟨S16384x128, .f32⟩
  | 83 => ⟨S16384x128, .f32⟩
  | 84 => ⟨S_, .f32⟩
  | 85 => ⟨S16384x128, .f32⟩
  | 86 => ⟨S16384x128, .f32⟩
  | 87 => ⟨S_, .f32⟩
  | 88 => ⟨S16384x128, .f32⟩
  | 89 => ⟨S16384x128, .f32⟩
  | 90 => ⟨S16384x128, .f32⟩
  | 91 => ⟨S16384x128, .f32⟩
  | 92 => ⟨S16384x128, .f32⟩
  | 93 => ⟨S_, .f32⟩
  | 94 => ⟨S16384x128, .f32⟩
  | 95 => ⟨S16384x128, .f32⟩
  | 96 => ⟨S_, .f32⟩
  | 97 => ⟨S16384x128, .f32⟩
  | 98 => ⟨S16384x128, .f32⟩
  | 99 => ⟨S16384x128, .f32⟩
  | 100 => ⟨S16384x128, .f32⟩
  | 101 => ⟨S16384x128, .f32⟩
  | 102 => ⟨S_, .f32⟩
  | 103 => ⟨S16384x128, .f32⟩
  | 104 => ⟨S16384x128, .f32⟩
  | 105 => ⟨S16384x128, .f32⟩
  | 106 => ⟨S16384x128, .f32⟩
  | 107 => ⟨S16384x128, .f32⟩
  | 108 => ⟨S16384, .i32⟩
  | 109 => ⟨S16384, .i1⟩
  | 110 => ⟨S16384x1, .i1⟩
  | 111 => ⟨S16384x128, .i1⟩
  | 112 => ⟨S16384x128, .f32⟩
  | 113 => ⟨S_, .i32⟩
  | 114 => ⟨S_, .i32⟩
  | 115 => ⟨S_, .f32⟩
  | 116 => ⟨S1x128, .f32⟩
  | 117 => ⟨S16385x128, .f32⟩
  | 118 => ⟨S230x128, .f32⟩
  | 119 => ⟨S_, .f32⟩
  | 120 => ⟨S230, .f32⟩
  | 121 => ⟨S230x1, .f32⟩
  | 122 => ⟨S230x1, .f32⟩
  | 123 => ⟨S_, .f32⟩
  | 124 => ⟨S230x1, .f32⟩
  | 125 => ⟨S230x1, .f32⟩
  | 126 => ⟨S230x128, .f32⟩
  | 127 => ⟨S230x128, .f32⟩
  | _ => ⟨S1024x32, .i32⟩

abbrev hbmTy0_1 (i : Nat) : BufTy := match i % 128 with
  | 0 => ⟨S231x128, .f32⟩
  | 1 => ⟨S16385x128, .f32⟩
  | 2 => ⟨S_, .f32⟩
  | 3 => ⟨S16385, .f32⟩
  | 4 => ⟨S16385x1, .f32⟩
  | 5 => ⟨S16385x1, .f32⟩
  | 6 => ⟨S_, .f32⟩
  | 7 => ⟨S16385x1, .f32⟩
  | 8 => ⟨S16385x1, .f32⟩
  | 9 => ⟨S16385x128, .f32⟩
  | 10 => ⟨S16385x128, .f32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S1024x1, .i32⟩
  | 19 => ⟨S1024x128, .f32⟩
  | 20 => ⟨S128x1024, .f32⟩
  | 21 => ⟨S16385x1024, .f32⟩
  | 22 => ⟨S1024x16385, .f32⟩
  | 23 => ⟨S1024, .i32⟩
  | 24 => ⟨S1024x1, .i32⟩
  | 25 => ⟨S_, .f32⟩
  | 26 => ⟨S1024x16385, .f32⟩
  | 27 => ⟨S_, .i32⟩
  | 28 => ⟨S1024x1, .i32⟩
  | 29 => ⟨S1024x1, .i1⟩
  | 30 => ⟨S_, .i32⟩
  | 31 => ⟨S1024x1, .i32⟩
  | 32 => ⟨S1024x1, .i32⟩
  | 33 => ⟨S1024x1, .i32⟩
  | 34 => ⟨S_, .i32⟩
  | 35 => ⟨S1024x32, .i32⟩
  | 36 => ⟨S1024x32, .i1⟩
  | 37 => ⟨S_, .i32⟩
  | 38 => ⟨S1024x32, .i32⟩
  | 39 => ⟨S1024x32, .i32⟩
  | 40 => ⟨S1024x32, .i32⟩
  | 41 => ⟨S1024x32, .i32⟩
  | 42 => ⟨S1024x32x1, .i32⟩
  | 43 => ⟨S1024x32x1, .i32⟩
  | 44 => ⟨S1024x32x2, .i32⟩
  | 45 => ⟨S_, .f32⟩
  | 46 => ⟨S1024x32, .f32⟩
  | 47 => ⟨S1024x16385, .f32⟩
  | 48 => ⟨S1024x16385, .f32⟩
  | 49 => ⟨S_, .f32⟩
  | 50 => ⟨S1024, .f32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S1024x1, .i32⟩
  | 59 => ⟨S1024x128, .f32⟩
  | 60 => ⟨S_, .i32⟩
  | 61 => ⟨S1024, .i32⟩
  | 62 => ⟨S1024, .i1⟩
  | 63 => ⟨S_, .i32⟩
  | 64 => ⟨S1024, .i32⟩
  | 65 => ⟨S1024, .i32⟩
  | 66 => ⟨S1024, .i32⟩
  | 67 => ⟨S1024x1, .i32⟩
  | 68 => ⟨S1024x128, .f32⟩
  | _ => ⟨S1024x32, .i32⟩

abbrev hbmTy (i : Nat) : BufTy := match i / 128 with
  | 0 => hbmTy0_0 i
  | 1 => hbmTy0_1 i
  | _ => ⟨S1024x32, .i32⟩

abbrev bufTy : (tb : Table) → Fin (tcTables nBuf tb) → BufTy
  | .hbm, ⟨i, _⟩ => hbmTy i
  | _, _ => ⟨S1024x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_v25_3 : Ref sig .tc := ⟨.hbm, 51, rfl⟩
abbrev main_v25_4 : Ref sig .tc := ⟨.hbm, 52, rfl⟩
abbrev main_v25_5 : Ref sig .tc := ⟨.hbm, 53, rfl⟩
abbrev main_v25_6 : Ref sig .tc := ⟨.hbm, 54, rfl⟩
abbrev main_v25_7 : Ref sig .tc := ⟨.hbm, 55, rfl⟩
abbrev main_v25_8 : Ref sig .tc := ⟨.hbm, 56, rfl⟩
abbrev main_while0c_c_31 : Ref sig .tc := ⟨.hbm, 57, rfl⟩
abbrev main_while0c_v90 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_v0 : Ref sig .tc := ⟨.hbm, 61, rfl⟩
abbrev main_while0b_v90 : Ref sig .tc := ⟨.hbm, 62, rfl⟩
abbrev main_while0b_call1_v0 : Ref sig .tc := ⟨.hbm, 63, rfl⟩
abbrev main_while0b_v91 : Ref sig .tc := ⟨.hbm, 64, rfl⟩
abbrev main_while0b_v92 : Ref sig .tc := ⟨.hbm, 65, rfl⟩
abbrev main_while0b_v93 : Ref sig .tc := ⟨.hbm, 66, rfl⟩
abbrev main_while0b_v94 : Ref sig .tc := ⟨.hbm, 67, rfl⟩
abbrev main_while0b_v95 : Ref sig .tc := ⟨.hbm, 68, rfl⟩
abbrev main_while0b_v96 : Ref sig .tc := ⟨.hbm, 69, rfl⟩
abbrev main_while0b_v97 : Ref sig .tc := ⟨.hbm, 70, rfl⟩
abbrev main_while0b_v98 : Ref sig .tc := ⟨.hbm, 71, rfl⟩
abbrev main_while0b_v99 : Ref sig .tc := ⟨.hbm, 72, rfl⟩
abbrev main_while0b_v100 : Ref sig .tc := ⟨.hbm, 73, rfl⟩
abbrev main_while0b_v101 : Ref sig .tc := ⟨.hbm, 74, rfl⟩
abbrev main_while0b_v102 : Ref sig .tc := ⟨.hbm, 75, rfl⟩
abbrev main_while0b_v103 : Ref sig .tc := ⟨.hbm, 76, rfl⟩
abbrev main_while0b_v104 : Ref sig .tc := ⟨.hbm, 77, rfl⟩
abbrev main_while0b_v105 : Ref sig .tc := ⟨.hbm, 78, rfl⟩
abbrev main_while0b_v106 : Ref sig .tc := ⟨.hbm, 79, rfl⟩
abbrev main_while0b_v107 : Ref sig .tc := ⟨.hbm, 80, rfl⟩
abbrev main_while0b_v108 : Ref sig .tc := ⟨.hbm, 81, rfl⟩
abbrev main_while0b_v109 : Ref sig .tc := ⟨.hbm, 82, rfl⟩
abbrev main_while0b_v110 : Ref sig .tc := ⟨.hbm, 83, rfl⟩
abbrev main_while0b_cst_31 : Ref sig .tc := ⟨.hbm, 84, rfl⟩
abbrev main_while0b_v111 : Ref sig .tc := ⟨.hbm, 85, rfl⟩
abbrev main_while0b_v112 : Ref sig .tc := ⟨.hbm, 86, rfl⟩
abbrev main_while0b_cst_32 : Ref sig .tc := ⟨.hbm, 87, rfl⟩
abbrev main_while0b_v113 : Ref sig .tc := ⟨.hbm, 88, rfl⟩
abbrev main_while0b_v114 : Ref sig .tc := ⟨.hbm, 89, rfl⟩
abbrev main_while0b_v115 : Ref sig .tc := ⟨.hbm, 90, rfl⟩
abbrev main_while0b_v116 : Ref sig .tc := ⟨.hbm, 91, rfl⟩
abbrev main_while0b_v117 : Ref sig .tc := ⟨.hbm, 92, rfl⟩
abbrev main_while0b_cst_33 : Ref sig .tc := ⟨.hbm, 93, rfl⟩
abbrev main_while0b_v118 : Ref sig .tc := ⟨.hbm, 94, rfl⟩
abbrev main_while0b_v119 : Ref sig .tc := ⟨.hbm, 95, rfl⟩
abbrev main_while0b_cst_34 : Ref sig .tc := ⟨.hbm, 96, rfl⟩
abbrev main_while0b_v120 : Ref sig .tc := ⟨.hbm, 97, rfl⟩
abbrev main_while0b_v121 : Ref sig .tc := ⟨.hbm, 98, rfl⟩
abbrev main_while0b_v122 : Ref sig .tc := ⟨.hbm, 99, rfl⟩
abbrev main_while0b_v123 : Ref sig .tc := ⟨.hbm, 100, rfl⟩
abbrev main_while0b_v124 : Ref sig .tc := ⟨.hbm, 101, rfl⟩
abbrev main_while0b_cst_35 : Ref sig .tc := ⟨.hbm, 102, rfl⟩
abbrev main_while0b_v125 : Ref sig .tc := ⟨.hbm, 103, rfl⟩
abbrev main_while0b_v126 : Ref sig .tc := ⟨.hbm, 104, rfl⟩
abbrev main_while0b_v127 : Ref sig .tc := ⟨.hbm, 105, rfl⟩
abbrev main_while0b_v128 : Ref sig .tc := ⟨.hbm, 106, rfl⟩
abbrev main_while0b_v129 : Ref sig .tc := ⟨.hbm, 107, rfl⟩
abbrev main_while0b_v130 : Ref sig .tc := ⟨.hbm, 108, rfl⟩
abbrev main_while0b_v131 : Ref sig .tc := ⟨.hbm, 109, rfl⟩
abbrev main_while0b_v132 : Ref sig .tc := ⟨.hbm, 110, rfl⟩
abbrev main_while0b_call2_v0 : Ref sig .tc := ⟨.hbm, 111, rfl⟩
abbrev main_while0b_v133 : Ref sig .tc := ⟨.hbm, 112, rfl⟩
abbrev main_while0b_c_36 : Ref sig .tc := ⟨.hbm, 113, rfl⟩
abbrev main_while0b_v134 : Ref sig .tc := ⟨.hbm, 114, rfl⟩
abbrev main_cst_5 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_cst_6 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_cst_7 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_cst_8 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_cst_9 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_c_10 : Ref sig .tc := ⟨.hbm, 139, rfl⟩
abbrev main_v45 : Ref sig .tc := ⟨.hbm, 140, rfl⟩
abbrev main_v46 : Ref sig .tc := ⟨.hbm, 141, rfl⟩
abbrev main_c_11 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_cst_12 : Ref sig .tc := ⟨.hbm, 153, rfl⟩
abbrev main_v57 : Ref sig .tc := ⟨.hbm, 154, rfl⟩
abbrev main_c_13 : Ref sig .tc := ⟨.hbm, 155, rfl⟩
abbrev main_v58 : Ref sig .tc := ⟨.hbm, 156, rfl⟩
abbrev main_v59 : Ref sig .tc := ⟨.hbm, 157, rfl⟩
abbrev main_c_14 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_c_15 : Ref sig .tc := ⟨.hbm, 162, rfl⟩
abbrev main_v63 : Ref sig .tc := ⟨.hbm, 163, rfl⟩
abbrev main_v64 : Ref sig .tc := ⟨.hbm, 164, rfl⟩
abbrev main_c_16 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_cst_17 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_cst_18 : Ref sig .tc := ⟨.hbm, 177, rfl⟩
abbrev main_v75 : Ref sig .tc := ⟨.hbm, 178, rfl⟩
abbrev main_c_19 : Ref sig .tc := ⟨.hbm, 179, rfl⟩
abbrev main_v76 : Ref sig .tc := ⟨.hbm, 180, rfl⟩
abbrev main_v77 : Ref sig .tc := ⟨.hbm, 181, rfl⟩
abbrev main_c_20 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_c_21 : Ref sig .tc := ⟨.hbm, 188, rfl⟩
abbrev main_v83 : Ref sig .tc := ⟨.hbm, 189, rfl⟩
abbrev main_v84 : Ref sig .tc := ⟨.hbm, 190, rfl⟩
abbrev main_c_22 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩

abbrev nD : Nat := 1
abbrev τ : Topo := Topo.v7x

variable {F : FTy → Type} [FloatOps F]

abbrev main_while0_count : Scf.Loop 32 := ⟨0#32, 8#32, 1#32⟩
-- ==== Proof.GatherLoop.lean ====
/-
  A vector subcore's gather loop, once for every size: a list of chunks, two row slots in alternation. The gather of
  chunk `g + 1` is started into the other slot before the gather of chunk `g` is awaited and its rows copied out.
  `gProg` is the program, `wp_gProg` what it does: afterwards every chunk's piece of the result holds the table's rows
  that the chunk's list names, and everything else is back as it was.
-/
module

public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Pipeline.BigSepL
public import Idealize.ShloMosaic.Lib.Tactic

@[expose] public section

noncomputable section

namespace Cert.Proof.GatherLoop

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {nD : Nat} {τ : Topo} {sig : RefSig} {F : FTy → Type} {Λ : Labels}
variable {cc : Fin τ.nSC} {ii : Fin τ.nSub}

/-- A slot of the row scratch and the semaphore its gathers complete on. -/
structure Slot (sig : RefSig) (sB : Shape) where
  /-- The rows. -/
  buf : Memref sig .scVector .vmem sB .f32
  /-- The semaphore. -/
  sem : DmaSem sig

/-- What a chunk names: its list of row numbers, its piece of the result, the semaphore of its copy out. -/
structure Chunk (sig : RefSig) (sI sB : Shape) where
  /-- The row numbers. -/
  off : Memref sig .scVector .vmem sI .i32
  /-- The piece of the result. -/
  out : Memref sig .scVector .hbm sB .f32
  /-- The semaphore. -/
  sem : DmaSem sig

variable {sT sI sB sR : Shape} {a : Nat}
variable (tbl : Memref sig .scVector .hbm sT .f32) (hg : sT.Gathers a sB) (hn : sI.numel = sB.size hg.axis') (hr : sT.StreamRows a)

/-- Start chunk `x`'s gather into slot `b`. -/
def gStart (x : Chunk sig sI sB) (b : Slot sig sB) : Prog (TpuEff nD τ sig (Elt F) Λ (.scVector cc ii)) PUnit :=
  SparseCore.enqueueIndirectGather rfl tbl b.buf hg x.off hn b.sem (View.wordExact_bits rfl) rfl (Or.inl rfl) hr

/-- Await the gather into slot `b`, copy its rows to chunk `x`'s piece of the result, await the copy. -/
def gFin (x : Chunk sig sI sB) (b : Slot sig sB) : Prog (TpuEff nD τ sig (Elt F) Λ (.scVector cc ii)) PUnit := do
  SparseCore.waitIndirectGather b.sem tbl b.buf (View.wordExact_bits rfl) (View.wordExact_bits rfl)
  Prog.lift (.enqueueDma b.buf (.here x.out) (.dma x.sem) (View.wordExact_bits rfl) (View.wordExact_bits rfl) ⟨Or.inl rfl, trivial⟩)
  Prog.lift (.waitDma2 x.sem b.buf x.out (View.wordExact_bits rfl) (View.wordExact_bits rfl))

variable {J : Type} (ch : J → Chunk sig sI sB)

/-- The loop from chunk `j` on, its gather already started into `A`; `B` is the free slot. -/
def gLoop : List J → J → Slot sig sB → Slot sig sB → Prog (TpuEff nD τ sig (Elt F) Λ (.scVector cc ii)) PUnit
  | [], j, A, _ => gFin tbl (ch j) A
  | k :: l, j, A, B => do
    gStart tbl hg hn hr (ch k) B
    gFin tbl (ch j) A
    gLoop l k B A

/-- The whole task: the lists fetched, the first gather started, the loop. -/
def gProg (isrc : Memref sig .scVector .hbm sR .i32) (idst : Memref sig .scVector .vmem sR .i32) (isem : DmaSem sig)
    (l : List J) (j : J) (A B : Slot sig sB) : Prog (TpuEff nD τ sig (Elt F) Λ (.scVector cc ii)) PUnit := do
  Prog.lift (.enqueueDma isrc (.here idst) (.dma isem) (View.wordExact_bits rfl) (View.wordExact_bits rfl) ⟨Or.inl rfl, trivial⟩)
  Prog.lift (.waitDma2 isem isrc idst (View.wordExact_bits rfl) (View.wordExact_bits rfl))
  gStart tbl hg hn hr (ch j) A
  gLoop tbl hg hn hr ch l j A B

variable (cc) (ii)

variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (EC : UEmb Counters (MT nD τ sig Ix (Elt F) Name U Lvl)) (𝒱 : Variants) (bd : Option 𝒱.V) (d : Dev nD)
variable [Infinite Name] [EC.LandsIn (upEmb : UEmb _ (MT nD τ sig Ix (Elt F) Name U Lvl))]
variable (ι : Ix) (q : PosShare TreeShare)
variable (ft : Buf (Elt F) (tbl.view.loc (d, Proc.scVector cc ii)))
variable (fo : (j : J) → Buf (Elt F) ((ch j).off.view.loc (d, Proc.scVector cc ii)))
variable (fR : (j : J) → Buf (Elt F) ((ch j).out.view.loc (d, Proc.scVector cc ii)))

local notation "th" => ((d, Proc.scVector cc ii) : Thread nD τ)

/-- Every word of chunk `j`'s list names a row of the table. -/
def InRange (j : J) : Prop := ∀ x, ((ch j).off.view.read (Elt F) (fo j) x).toNat < sT.size hg.axis

/-- The result `fR` holds, in chunk `j`'s piece, the table's rows the chunk's list names. -/
def Holds (j : J) (hin : InRange cc ii hg ch d fo j) : Prop :=
  (ch j).out.view.read (Elt F) (fR j)
    = SparseCore.gatherPayload hg (tbl.view.read (Elt F) ft) (SparseCore.rows ((ch j).off.view.read (Elt F) (fo j)) hn hin)

/-- Chunk `j` before its copy out: its list, its piece of the result at anything, its semaphore at zero. -/
def before (j : J) : sProp 𝕄 :=
  iprop(((ch j).off.view.loc th ↦[(ch j).off.view.set]{fullShare} fo j)
    ∗ (∃ f, (ch j).out.view.loc th ↦[(ch j).out.view.set]{fullShare} f) ∗ semVal (th, SemLoc.dma (ch j).sem) 0)

/-- Chunk `j` after its copy out: its list, its piece of the result, its semaphore at zero. -/
def after (j : J) : sProp 𝕄 :=
  iprop(((ch j).off.view.loc th ↦[(ch j).off.view.set]{fullShare} fo j)
    ∗ ((ch j).out.view.loc th ↦[(ch j).out.view.set]{fullShare} fR j) ∗ semVal (th, SemLoc.dma (ch j).sem) 0)

/-- A free slot: its rows at anything, its semaphore at zero. -/
def free (b : Slot sig sB) : sProp 𝕄 :=
  iprop((∃ f, b.buf.view.loc th ↦[b.buf.view.set]{fullShare} f) ∗ semVal (th, SemLoc.dma b.sem) 0)

/-- A share of the table. -/
def share (q : PosShare TreeShare) : sProp 𝕄 := tbl.view.loc th ↦[tbl.view.set]{q} ft

/-- Chunk `j`'s gather under way into slot `b`, over the share `q` of the table. -/
def flying (q : PosShare TreeShare) (j : J) (b : Slot sig sB) : sProp 𝕄 :=
  iprop(∃ (hin : InRange cc ii hg ch d fo j) (fd : Buf (Elt F) (b.buf.view.loc th)),
    Transfers.Flight EC th (.dma b.sem) ι b.buf.view.dmaCredit
      iprop((b.buf.view.loc th ↦[b.buf.view.set]{fullShare}
            (b.buf.view.write (Elt F) fd (SparseCore.gatherPayload hg (tbl.view.read (Elt F) ft)
              (SparseCore.rows ((ch j).off.view.read (Elt F) (fo j)) hn hin)) Finset.univ))
        ∗ (tbl.view.loc th ↦[tbl.view.set]{q} ft) ∗ ((ch j).off.view.loc th ↦[(ch j).off.view.set]{fullShare} fo j)))

/-- The rest of a chunk under way: its piece of the result and its semaphore. -/
def rest (j : J) : sProp 𝕄 :=
  iprop((∃ f, (ch j).out.view.loc th ↦[(ch j).out.view.set]{fullShare} f) ∗ semVal (th, SemLoc.dma (ch j).sem) 0)

/-- Starting a gather: the free slot, a share of the table and the chunk's list go into the flight. -/
theorem wp_gStart (hs : 0 < sB.numel)
    (hN : ∀ v : Memref sig .scVector .vmem sB .f32,
      ∑ k, (v.slice (sB.rowRect hg.axis' k) (sB.stride_rowRect hg.axis' k)).view.dmaCredit = v.view.dmaCredit)
    (j : J) (hin : InRange cc ii hg ch d fo j) (b : Slot sig sB)
    {α : Type} {k : PUnit → Prog (TpuEff nD τ sig (Elt F) Λ (.scVector cc ii)) α} {Q : α → sProp 𝕄} :
    iprop(before cc ii ch d fo j ∗ free cc ii d b ∗ share cc ii tbl d ft q)
      ⊢ iprop((iprop(flying cc ii tbl hg hn ch EC d ι ft fo q j b ∗ rest cc ii ch d j) -∗ wp frame (wpE defs 𝒱 th bd) Set.univ (k ⟨⟩) Q)
          -∗ wp frame (wpE defs 𝒱 th bd) Set.univ (gStart tbl hg hn hr (ch j) b >>= k) Q) := by
  unfold before free share gStart
  iintro ⟨⟨Hoff, Ho, Hos⟩, ⟨⟨%fd, Hb⟩, Hsem⟩, Ht⟩ Hk
  iapply (SparseCore.wp_indirectGatherLocal EC 𝒱 th bd (hg := hg) ι b.buf.view.dmaCredit (hN b.buf) hs hin) $$ [Ht Hb Hoff Hsem]
  · isplitl [Ht]; · iexact Ht
    isplitl [Hb]; · iexact Hb
    isplitl [Hoff]; · iexact Hoff
    iexact Hsem
  iintro Hfl
  iapply Hk
  isplitl [Hfl]
  · unfold flying; iexists hin; iexists fd; iexact Hfl
  · unfold rest
    isplitl [Ho] <;> iassumption

/-- Finishing a chunk: its gather awaited, its rows copied out to the result, the slot free again. -/
theorem wp_gFin (j : J) (hj : ∀ hin, Holds cc ii tbl hg hn ch d ft fo fR j hin) (hs : 0 < sB.numel) (b : Slot sig sB) {O : CellTallies nD τ sig Ix} {W : Waits sig Ix}
    {α : Type} {k : PUnit → Prog (TpuEff nD τ sig (Elt F) Λ (.scVector cc ii)) α} {Q : α → sProp 𝕄} :
    iprop(Transfers.MayWaits th ι O ∗ flying cc ii tbl hg hn ch EC d ι ft fo q j b ∗ rest cc ii ch d j ∗ owes th O W)
      ⊢ iprop((iprop(after cc ii ch d fo fR j ∗ free cc ii d b ∗ share cc ii tbl d ft q
              ∗ ∃ W', ⌜∀ p ∈ W', p ∈ W ∨ p.2 = ι⌝ ∗ owes th O W') -∗ wp frame (wpE defs 𝒱 th bd) Set.univ (k ⟨⟩) Q)
          -∗ wp frame (wpE defs 𝒱 th bd) Set.univ (gFin tbl (ch j) b >>= k) Q) := by
  unfold flying rest gFin
  iintro ⟨#Hmw, ⟨%hin, %fd, Hfl⟩, ⟨⟨%f, Ho⟩, Hos⟩, HO⟩ Hk
  iapply (Transfers.wp_waitLocalO EC 𝒱 th bd ι (rfl : b.buf.view.dmaCredit = _)) $$ [Hfl HO]
  · isplitl [Hfl]; · iexact Hfl
    isplitl [HO]; · iexact HO
    iapply (Transfers.MayWaits.elim (SemLoc.dma b.sem)) $$ Hmw
  iintro ⟨⟨Hb, Ht, Hoff⟩, Hsem, HO⟩
  iapply (Transfers.wp_dmaLocal EC 𝒱 th bd ι ((ch j).out.view.amount (.dma (ch j).sem)) rfl (View.dmaCredit_pos _ hs) subset_rfl) $$ [Hb Ho Hos]
  · isplitl [Hb]; · iexact Hb
    isplitl [Ho]; · iexact Ho
    iexact Hos
  iintro Hfl
  iapply (Transfers.wp_waitLocalO EC 𝒱 th bd ι (rfl : (ch j).out.view.dmaCredit = _)) $$ [Hfl HO]
  · isplitl [Hfl]; · iexact Hfl
    isplitl [HO]; · iexact HO
    iapply (Transfers.MayWaits.elim (SemLoc.dma (ch j).sem)) $$ Hmw
  iintro ⟨⟨Ho, Hb⟩, Hos, HO⟩
  iapply Hk
  unfold after free share
  isplitl [Hoff Ho Hos]
  · isplitl [Hoff]; · iexact Hoff
    isplitl [Ho]
    · iapply (Entails.of_eq (pointsTo_congr (fun x hx => ?_))) $$ Ho
      obtain ⟨y, -, rfl⟩ := Finset.mem_map.mp hx
      rw [show (ReadAs.same : ReadAs (Elt F) sB .f32 sB .f32).apply (b.buf.view.read (Elt F) (b.buf.view.write (Elt F) fd _ Finset.univ))
          = (ch j).out.view.read (Elt F) (fR j) from (View.read_write_univ (v := b.buf.view) _ _).trans (hj hin).symm]
      rw [View.write_emb_of_mem _ _ (Finset.mem_univ y), View.read_apply, cast_cast, cast_eq]
    iexact Hos
  isplitl [Hb Hsem]
  · isplitl [Hb]
    · iexists _; iexact Hb
    iexact Hsem
  isplitl [Ht]; · iexact Ht
  iexists _
  isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-- The loop: the chunk under way and those to come are copied out in order. -/
theorem wp_gLoop (hs : 0 < sB.numel)
    (hN : ∀ v : Memref sig .scVector .vmem sB .f32,
      ∑ k, (v.slice (sB.rowRect hg.axis' k) (sB.stride_rowRect hg.axis' k)).view.dmaCredit = v.view.dmaCredit)
    (hin : ∀ j, InRange cc ii hg ch d fo j) (hj : ∀ j hin, Holds cc ii tbl hg hn ch d ft fo fR j hin)
    {O : CellTallies nD τ sig Ix} :
    ∀ (l : List J) (j : J) (A B : Slot sig sB) (q q' : PosShare TreeShare) (W : Waits sig Ix) (Q : PUnit → sProp 𝕄),
    iprop(Transfers.MayWaits th ι O ∗ flying cc ii tbl hg hn ch EC d ι ft fo q j A ∗ rest cc ii ch d j ∗ free cc ii d B ∗ share cc ii tbl d ft q'
        ∗ bigSepL l (before cc ii ch d fo) ∗ owes th O W
        ∗ (iprop(bigSepL (j :: l) (after cc ii ch d fo fR) ∗ free cc ii d A ∗ free cc ii d B ∗ share cc ii tbl d ft q ∗ share cc ii tbl d ft q'
              ∗ ∃ W', ⌜∀ p ∈ W', p ∈ W ∨ p.2 = ι⌝ ∗ owes th O W') -∗ Q ⟨⟩))
      ⊢ wp frame (wpE defs 𝒱 th bd) Set.univ (gLoop tbl hg hn hr ch l j A B) Q
  | [], j, A, B, q, q', W, Q => by
    iintro ⟨#Hmw, Hfl, Hr, HB, Hq', -, HO, Hk⟩
    rw [show gLoop tbl hg hn hr ch [] j A B = (gFin tbl (ch j) A >>= fun u => (Prog.ret u : Prog (TpuEff nD τ sig (Elt F) Λ (.scVector cc ii)) PUnit)) from rfl]
    iapply (wp_gFin cc ii tbl hg hn ch EC 𝒱 bd d ι q ft fo fR j (hj j) hs A (O := O) (W := W)) $$ [Hfl Hr HO]
    · isplitr; · iexact Hmw
      isplitl [Hfl]; · iexact Hfl
      isplitl [Hr]; · iexact Hr
      iexact HO
    iintro ⟨Ha, HA, Hq, HW⟩
    rw [wp_ret]
    imodintro
    iapply Hk
    isplitl [Ha]; · rw [bigSepL_singleton]; iexact Ha
    isplitl [HA]; · iexact HA
    isplitl [HB]; · iexact HB
    isplitl [Hq]; · iexact Hq
    isplitl [Hq']; · iexact Hq'
    iexact HW
  | k :: l, j, A, B, q, q', W, Q => by
    rw [show gLoop tbl hg hn hr ch (k :: l) j A B = (gStart tbl hg hn hr (ch k) B >>= fun _ => gFin tbl (ch j) A >>= fun _ => (gLoop tbl hg hn hr ch l k B A : Prog (TpuEff nD τ sig (Elt F) Λ (.scVector cc ii)) PUnit)) from rfl,
      bigSepL_cons' k, bigSepL_cons' j]
    iintro ⟨#Hmw, Hfl, Hr, HB, Hq', ⟨Hb, Hl⟩, HO, Hk⟩
    iapply (wp_gStart cc ii tbl hg hn hr ch EC 𝒱 bd d ι q' ft fo hs hN k (hin k) B) $$ [Hb HB Hq']
    · isplitl [Hb]; · iexact Hb
      isplitl [HB]; · iexact HB
      iexact Hq'
    iintro ⟨Hfl', Hr'⟩
    iapply (wp_gFin cc ii tbl hg hn ch EC 𝒱 bd d ι q ft fo fR j (hj j) hs A (O := O) (W := W)) $$ [Hfl Hr HO]
    · isplitr; · iexact Hmw
      isplitl [Hfl]; · iexact Hfl
      isplitl [Hr]; · iexact Hr
      iexact HO
    iintro ⟨Ha, HA, Hq, %W', %hW', HO⟩
    iapply (wp_gLoop hs hN hin hj l k B A q' q W' Q)
    isplitr; · iexact Hmw
    isplitl [Hfl']; · iexact Hfl'
    isplitl [Hr']; · iexact Hr'
    isplitl [HA]; · iexact HA
    isplitl [Hq]; · iexact Hq
    isplitl [Hl]; · iexact Hl
    isplitl [HO]; · iexact HO
    iintro ⟨Hal, HB, HA, Hq', Hq, %W'', %hW'', HO⟩
    iapply Hk
    isplitl [Ha Hal]
    · isplitl [Ha]; · iexact Ha
      iexact Hal
    isplitl [HA]; · iexact HA
    isplitl [HB]; · iexact HB
    isplitl [Hq]; · iexact Hq
    isplitl [Hq']; · iexact Hq'
    iexists W''
    isplitr
    · ipureintro; intro p hp
      rcases hW'' p hp with h | h
      · exact hW' p h
      · exact .inr h
    iexact HO

/-- A share of the table is its two halves. -/
theorem share_halves : (share cc ii tbl d ft q : sProp 𝕄) ⊣⊢ iprop(share cc ii tbl d ft q.left ∗ share cc ii tbl d ft q.right) :=
  pointsTo_share (PosShare.mem_left_op_right q)

/-- Chunk `j`'s list. -/
def list (j : J) : sProp 𝕄 := (ch j).off.view.loc th ↦[(ch j).off.view.set]{fullShare} fo j

/-- Chunk `j` copied out: its piece of the result and its semaphore. -/
def done (j : J) : sProp 𝕄 :=
  iprop(((ch j).out.view.loc th ↦[(ch j).out.view.set]{fullShare} fR j) ∗ semVal (th, SemLoc.dma (ch j).sem) 0)

/-- A list of pairs of resources is a pair of lists. -/
theorem bigSepL_pair {I : Type} (Φ Ψ : I → sProp 𝕄) : ∀ l : List I,
    bigSepL l (fun i => iprop(Φ i ∗ Ψ i)) ⊣⊢ iprop(bigSepL l Φ ∗ bigSepL l Ψ)
  | [] => by
    constructor
    · iintro -
      isplitl <;> iempintro
    · iintro -
      iempintro
  | i :: l => by
    rw [bigSepL_cons' i l Φ, bigSepL_cons' i l Ψ, bigSepL_cons' i l (fun i => iprop(Φ i ∗ Ψ i))]
    constructor
    · iintro ⟨⟨Hi, Hj⟩, Hl⟩
      ihave Hl' := (bigSepL_pair Φ Ψ l).1 $$ Hl
      icases Hl' with ⟨Ha, Hb⟩
      isplitl [Hi Ha]
      · isplitl [Hi] <;> iassumption
      · isplitl [Hj] <;> iassumption
    · iintro ⟨⟨Hi, Ha⟩, Hj, Hb⟩
      isplitl [Hi Hj]
      · isplitl [Hi] <;> iassumption
      iapply (bigSepL_pair Φ Ψ l).2
      isplitl [Ha] <;> iassumption

include EC in
/-- The whole task, from the tile's share of the table and its block of row numbers: every chunk of the tile's list
    copied out, the scratch and the semaphores back. -/
theorem wp_gProg (hs : 0 < sB.numel) (hsR : 0 < sR.numel)
    (hN : ∀ v : Memref sig .scVector .vmem sB .f32,
      ∑ k, (v.slice (sB.rowRect hg.axis' k) (sB.stride_rowRect hg.axis' k)).view.dmaCredit = v.view.dmaCredit)
    (hin : ∀ j, InRange cc ii hg ch d fo j) (hj : ∀ j hin, Holds cc ii tbl hg hn ch d ft fo fR j hin)
    (isrc : Memref sig .scVector .hbm sR .i32) (idst : Memref sig .scVector .vmem sR .i32) (isem : DmaSem sig)
    (l : List J) (j : J) (A B : Slot sig sB) (qi : PosShare TreeShare) (fi : Buf (Elt F) (isrc.view.loc th))
    (fd : Buf (Elt F) (idst.view.loc th))
    (hlist : (idst.view.loc th ↦[idst.view.set]{fullShare} (idst.view.write (Elt F) fd (isrc.view.read (Elt F) fi) Finset.univ) : sProp 𝕄)
        ⊣⊢ bigSepL (j :: l) (list cc ii ch d fo))
    {O : CellTallies nD τ sig Ix} {W : Waits sig Ix} :
    iprop(Transfers.MayWaits th ι O ∗ (isrc.view.loc th ↦[isrc.view.set]{qi} fi)
        ∗ (idst.view.loc th ↦[idst.view.set]{fullShare} fd) ∗ semVal (th, SemLoc.dma isem) 0
        ∗ free cc ii d A ∗ free cc ii d B ∗ share cc ii tbl d ft q ∗ bigSepL (j :: l) (rest cc ii ch d) ∗ owes th O W)
      ⊢ wp frame (wpE defs 𝒱 th bd) Set.univ (gProg tbl hg hn hr ch isrc idst isem l j A B) fun _ =>
        (iprop((isrc.view.loc th ↦[isrc.view.set]{qi} fi)
        ∗ (∃ f, idst.view.loc th ↦[idst.view.set]{fullShare} f) ∗ semVal (th, SemLoc.dma isem) 0
        ∗ free cc ii d A ∗ free cc ii d B ∗ share cc ii tbl d ft q ∗ bigSepL (j :: l) (done cc ii ch d fR)
        ∗ ∃ W', ⌜∀ p ∈ W', p ∈ W ∨ p.2 = ι⌝ ∗ owes th O W') : sProp 𝕄) := by
  unfold gProg
  iintro ⟨#Hmw, Hi, Hd, His, HA, HB, Ht, Hr, HO⟩
  iapply (Transfers.wp_dmaLocal EC 𝒱 th bd ι (idst.view.amount (.dma isem)) rfl (View.dmaCredit_pos _ hsR) subset_rfl) $$ [Hi Hd His]
  · isplitl [Hi]; · iexact Hi
    isplitl [Hd]; · iexact Hd
    iexact His
  iintro Hfl
  iapply (Transfers.wp_waitLocalO EC 𝒱 th bd ι (rfl : idst.view.dmaCredit = _)) $$ [Hfl HO]
  · isplitl [Hfl]; · iexact Hfl
    isplitl [HO]; · iexact HO
    iapply (Transfers.MayWaits.elim (SemLoc.dma isem)) $$ Hmw
  iintro ⟨⟨Hd, Hi⟩, His, HO⟩
  ihave Hl := hlist.1 $$ Hd
  ihave Hb := (bigSepL_pair (list cc ii ch d fo) (rest cc ii ch d) (j :: l)).2 $$ [Hl Hr]
  · isplitl [Hl] <;> iassumption
  ihave Hb := (Entails.of_eq (bigSepL_cons' j l (fun i => iprop(list cc ii ch d fo i ∗ rest cc ii ch d i)))) $$ Hb
  icases Hb with ⟨Hj, Hl⟩
  ihave Ht := (share_halves cc ii tbl d q ft).1 $$ Ht
  icases Ht with ⟨Hq, Hq'⟩
  iapply (wp_gStart cc ii tbl hg hn hr ch EC 𝒱 bd d ι q.left ft fo hs hN j (hin j) A) $$ [Hj HA Hq]
  · isplitl [Hj]; · iapply (show iprop(list cc ii ch d fo j ∗ rest cc ii ch d j) ⊢ before cc ii ch d fo j from Entails.of_eq rfl); iexact Hj
    isplitl [HA]; · iexact HA
    iexact Hq
  iintro ⟨Hfl, Hr⟩
  iapply (wp_gLoop cc ii tbl hg hn hr ch EC 𝒱 bd d ι ft fo fR hs hN hin hj l j A B q.left q.right _ _)
  isplitr; · iexact Hmw
  isplitl [Hfl]; · iexact Hfl
  isplitl [Hr]; · iexact Hr
  isplitl [HB]; · iexact HB
  isplitl [Hq']; · iexact Hq'
  isplitl [Hl]; · iexact Hl
  isplitl [HO]; · iexact HO
  iintro ⟨Ha, HA, HB, Hq, Hq', %W', %hW', HO⟩
  ihave Ha := (show bigSepL (j :: l) (after cc ii ch d fo fR) ⊢ bigSepL (j :: l) (fun i => iprop(list cc ii ch d fo i ∗ done cc ii ch d fR i)) from
    Entails.of_eq rfl) $$ Ha
  ihave Ha := (bigSepL_pair (list cc ii ch d fo) (done cc ii ch d fR) (j :: l)).1 $$ Ha
  icases Ha with ⟨Hl, Hdone⟩
  ihave Hd := hlist.2 $$ Hl
  isplitl [Hi]; · iexact Hi
  isplitl [Hd]; · iexists _; iexact Hd
  isplitl [His]; · iexact His
  isplitl [HA]; · iexact HA
  isplitl [HB]; · iexact HB
  isplitl [Hq Hq']
  · iapply (share_halves cc ii tbl d q ft).2
    isplitl [Hq] <;> iassumption
  isplitl [Hdone]; · iexact Hdone
  iexists W'; isplitr
  · ipureintro; intro p hp
    rcases hW' p hp with h | h
    · rcases Finset.mem_insert.mp h with h | h
      · exact .inr (h ▸ rfl)
      · exact .inl h
    · exact .inr h
  iexact HO

end Cert.Proof.GatherLoop
-- ==== Proof.GatherTile.lean ====
/-
  The shape of a tile's gather task at any sizes: `n` chunks of `b` rows of a table of `T` rows. The lists' rows, the two
  slots and the tile's pieces of the result as rectangles of the memrefs; what the result holds (`gathered`); and the
  task's run from its resources (`wp_tile`).
-/
module

public import proofs.«01_k».proof.Proof.GatherLoop
public import Idealize.ShloMosaic.Lib.ValueIdx

@[expose] public section

noncomputable section

namespace Cert.Proof.GatherTile

open Cert.Proof.GatherLoop
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {nD : Nat} {τ : Topo} {sig : RefSig} {F : FTy → Type}

/-! ## What a gather leaves -/

/-- The gathered rows: row `x` of the result is the row of the table that word `x` of the row numbers names, the words
    counted tile by tile, chunk by chunk. -/
def gathered {V : Type} {T n b R : ℕ} [NeZero T] [NeZero n] [NeZero b] (t : (⟨2, ![T, 128]⟩ : Shape).Idx → V)
    (w : (⟨3, ![32, n, b]⟩ : Shape).Idx → BitVec 32) : (⟨2, ![R, 128]⟩ : Shape).Idx → V :=
  fun x => t (ix2 (Fin.ofNat T (w (ix3 (Fin.ofNat 32 ((x 0).val / b / n)) (Fin.ofNat n ((x 0).val / b)) (Fin.ofNat b (x 0).val))).toNat) (x 1))

/-! ## Cutting a memref into rectangles -/

section Cut

variable {Ix : Type} [DecidableEq Ix] {Name : Type} [DecidableEq Name] {U : Type} [URA U] {Lvl : Type} [Preorder Lvl]

local notation "𝕄" => MT nD τ sig Ix (Elt F) Name U Lvl

/-- A view's elements held are the elements of disjoint rectangles that cover its shape. -/
theorem pts_cut {c : Thread nD τ} {sp : Space} {s : Shape} {e : EltTy} (v : View sig c.2.kind sp s e) {I : Type} [Fintype I]
    (r : I → Rect s) (hd : ∀ i j, i ≠ j → Disjoint (r i).set (r j).set) (hc : ∀ x, ∃ i, x ∈ (r i).set)
    (q : PosShare TreeShare) (f : Buf (Elt F) (v.loc c)) :
    (v.loc c ↦[v.set]{q} f : sProp 𝕄) = bigSep Finset.univ fun i => v.loc c ↦[(v.slice (r i)).set]{q} f := by
  classical
  have hs : v.set = Finset.univ.biUnion fun i => (v.slice (r i)).set := by
    ext y
    simp only [Finset.mem_biUnion, Finset.mem_univ, true_and]
    constructor
    · intro hy
      obtain ⟨x, -, rfl⟩ := Finset.mem_map.mp hy
      obtain ⟨i, hi⟩ := hc x
      exact ⟨i, by rw [View.set_slice]; exact Finset.mem_map_of_mem _ hi⟩
    · rintro ⟨i, hi⟩
      exact v.set_slice_subset (r i) hi
  rw [hs]
  refine pointsTo_biUnion Finset.univ _ fun i _ j _ h => ?_
  rw [View.set_slice, View.set_slice, Finset.disjoint_map]
  exact hd i j h

end Cut

/-! ## A tile's chunks -/

section Chunks

variable {n b T R : ℕ}

/-- Row `g` of the lists lies within them. -/
theorem inbList (g : Fin n) : ∀ a, (![g.val, 0] : Fin 2 → ℕ) a + (⟨2, ![1, b]⟩ : Shape).size a ≤ (⟨2, ![n, b]⟩ : Shape).size a := by
  intro a; fin_cases a
  · show g.val + 1 ≤ n; have := g.isLt; omega
  · show 0 + b ≤ b; omega

/-- Slot `k` lies within the row scratch. -/
theorem inbSlot (k : Fin 2) : ∀ a, (![k.val, 0, 0] : Fin 3 → ℕ) a + (⟨3, ![1, b, 128]⟩ : Shape).size a ≤ (⟨3, ![2, b, 128]⟩ : Shape).size a := by
  intro a; fin_cases a
  · show k.val + 1 ≤ 2; have := k.isLt; omega
  · show 0 + b ≤ b; omega
  · show 0 + 128 ≤ 128; omega

/-- Row `g` of the lists. -/
abbrev rList (g : Fin n) : Rect (⟨2, ![n, b]⟩ : Shape) := Rect.unit ![g.val, 0] (⟨2, ![1, b]⟩ : Shape).size (inbList g)
/-- Slot `k` of the row scratch. -/
abbrev rSlot (k : Fin 2) : Rect (⟨3, ![2, b, 128]⟩ : Shape) := Rect.unit ![k.val, 0, 0] (⟨3, ![1, b, 128]⟩ : Shape).size (inbSlot k)

variable (M2 : Memref sig .scVector .hbm ⟨2, ![T, 128]⟩ .f32) (M3 : Memref sig .scVector .hbm ⟨3, ![32, n, b]⟩ .i32)
  (M4 : Memref sig .scVector .hbm ⟨2, ![R, 128]⟩ .f32) (M5 : Memref sig .scVector .vmem ⟨2, ![n, b]⟩ .i32)
  (M6 : Memref sig .scVector .vmem ⟨3, ![2, b, 128]⟩ .f32)

/-- The table, as the gathers read it. -/
def tblOf (h : ∀ a, (![0, 0] : Fin 2 → ℕ) a + (⟨2, ![T, 128]⟩ : Shape).size a ≤ (⟨2, ![T, 128]⟩ : Shape).size a) :
    Memref sig .scVector .hbm ⟨2, ![T, 128]⟩ .f32 :=
  M2.slice (Rect.unit (s := ⟨2, ![T, 128]⟩) ![0, 0] (⟨2, ![T, 128]⟩ : Shape).size h) (fun _ => rfl)

/-- The tile's block of row numbers, at offsets `off`. -/
def isrcOf (off : Fin 3 → ℕ) (h : ∀ a, off a + (⟨3, ![1, n, b]⟩ : Shape).size a ≤ (⟨3, ![32, n, b]⟩ : Shape).size a)
    (hq : (⟨3, ![1, n, b]⟩ : Shape).Squeezes ⟨2, ![n, b]⟩) : Memref sig .scVector .hbm ⟨2, ![n, b]⟩ .i32 :=
  (M3.slice (Rect.unit (s := ⟨3, ![32, n, b]⟩) off (⟨3, ![1, n, b]⟩ : Shape).size h) (fun _ => rfl)).squeeze ⟨2, ![n, b]⟩ hq

/-- Slot `k` and its semaphore. -/
def slotOf (hq : (⟨3, ![1, b, 128]⟩ : Shape).Squeezes ⟨2, ![b, 128]⟩) (s : DmaSem sig) (k : Fin 2) : Slot sig ⟨2, ![b, 128]⟩ :=
  ⟨(M6.slice (rSlot k) (fun _ => rfl)).squeeze ⟨2, ![b, 128]⟩ hq, s⟩

/-- Chunk `g`: row `g` of the lists, the piece of the result at offsets `off g`, the semaphore `sem g`. -/
def chunkOf (hq : (⟨2, ![1, b]⟩ : Shape).Squeezes ⟨1, ![b]⟩) (off : Fin n → Fin 2 → ℕ)
    (h : ∀ g a, off g a + (⟨2, ![b, 128]⟩ : Shape).size a ≤ (⟨2, ![R, 128]⟩ : Shape).size a) (sem : Fin n → DmaSem sig) (g : Fin n) :
    Chunk sig ⟨1, ![b]⟩ ⟨2, ![b, 128]⟩ :=
  ⟨(M5.slice (rList g) (fun _ => rfl)).squeeze ⟨1, ![b]⟩ hq,
    M4.slice (Rect.unit (s := ⟨2, ![R, 128]⟩) (off g) (⟨2, ![b, 128]⟩ : Shape).size (h g)) (fun _ => rfl), sem g⟩

variable (cc : Fin τ.nSC) (ii : Fin τ.nSub) (d : Dev nD)
variable (h2 : ∀ a, (![0, 0] : Fin 2 → ℕ) a + (⟨2, ![T, 128]⟩ : Shape).size a ≤ (⟨2, ![T, 128]⟩ : Shape).size a)
variable (off3 : Fin 3 → ℕ) (h3 : ∀ a, off3 a + (⟨3, ![1, n, b]⟩ : Shape).size a ≤ (⟨3, ![32, n, b]⟩ : Shape).size a)
  (hq3 : (⟨3, ![1, n, b]⟩ : Shape).Squeezes ⟨2, ![n, b]⟩)
variable (hq5 : (⟨2, ![1, b]⟩ : Shape).Squeezes ⟨1, ![b]⟩) (hq6 : (⟨3, ![1, b, 128]⟩ : Shape).Squeezes ⟨2, ![b, 128]⟩)
variable (off4 : Fin n → Fin 2 → ℕ)
    (h4 : ∀ g a, off4 g a + (⟨2, ![b, 128]⟩ : Shape).size a ≤ (⟨2, ![R, 128]⟩ : Shape).size a) (osem : Fin n → DmaSem sig)

local notation "th" => ((d, Proc.scVector cc ii) : Thread nD τ)

variable (ft : Buf (Elt F) (M2.view.loc (d, Proc.scVector cc ii))) (fi : Buf (Elt F) (M3.view.loc (d, Proc.scVector cc ii)))
  (fd : Buf (Elt F) (M5.view.loc (d, Proc.scVector cc ii))) (fR : Buf (Elt F) (M4.view.loc (d, Proc.scVector cc ii)))

/-- The lists' buffer once the tile's block of row numbers has been fetched into it. -/
def fetched : Buf (Elt F) (M5.view.loc th) :=
  M5.view.write (Elt F) fd ((isrcOf M3 off3 h3 hq3).view.read (Elt F) fi) Finset.univ

/-- Word `x` of chunk `g`'s list is word `(w, g, x)` of the row numbers, `w` the tile's block. -/
theorem list_word (w : Fin 32) (hoff3 : off3 = ![w.val, 0, 0]) (g : Fin n) (x : (⟨1, ![b]⟩ : Shape).Idx) :
    (chunkOf M4 M5 hq5 off4 h4 osem g).off.view.read (Elt F) (fetched M3 M5 cc ii d off3 h3 hq3 fi fd) x
      = M3.view.read (Elt F) fi (ix3 w g (x 0)) := by
  subst hoff3
  have e1 : (chunkOf M4 M5 hq5 off4 h4 osem g).off.view.read (Elt F) (fetched M3 M5 cc ii d ![w.val, 0, 0] h3 hq3 fi fd) x
      = M5.view.read (Elt F) (fetched M3 M5 cc ii d ![w.val, 0, 0] h3 hq3 fi fd) ((rList g).emb (Shape.reshapeEquiv hq5.numel_eq x)) := rfl
  have e2 : M5.view.read (Elt F) (fetched M3 M5 cc ii d ![w.val, 0, 0] h3 hq3 fi fd)
      = (isrcOf M3 ![w.val, 0, 0] h3 hq3).view.read (Elt F) fi := View.read_write_univ _ _
  have e3 : (rList g).emb (Shape.reshapeEquiv hq5.numel_eq x) = ix2 g (x 0) := by
    rw [Shape.reshapeEquiv_cons_one]
    funext a
    refine Fin.ext ?_
    fin_cases a
    · show g.val + 1 * 0 = g.val; omega
    · show 0 + 1 * (x 0).val = (x 0).val; omega
  rw [e1, e2, e3]
  show M3.view.read (Elt F) fi ((Rect.unit (s := ⟨3, ![32, n, b]⟩) ![w.val, 0, 0] (⟨3, ![1, n, b]⟩ : Shape).size h3).emb (Shape.reshapeEquiv hq3.numel_eq (ix2 g (x 0)))) = _
  congr 1
  rw [Shape.reshapeEquiv_cons_one]
  funext a
  refine Fin.ext ?_
  fin_cases a
  · show w.val + 1 * 0 = w.val; omega
  · show 0 + 1 * g.val = g.val; omega
  · show 0 + 1 * (x 0).val = (x 0).val; omega

variable [NeZero T] [NeZero n] [NeZero b]

/-- Every row number within the table's rows puts every chunk's list in range. -/
theorem inRange_of (w : Fin 32) (hoff3 : off3 = ![w.val, 0, 0]) (hg : (⟨2, ![T, 128]⟩ : Shape).Gathers 0 ⟨2, ![b, 128]⟩)
    (hr : ∀ x, (M3.view.read (Elt F) fi x).toNat < T) (g : Fin n) :
    InRange cc ii hg (chunkOf M4 M5 hq5 off4 h4 osem) d (fun _ => fetched M3 M5 cc ii d off3 h3 hq3 fi fd) g := by
  intro x
  rw [list_word M3 M4 M5 cc ii d off3 h3 hq3 hq5 off4 h4 osem fi fd w hoff3]
  exact hr _

/-- If the result reads as the gathered rows, each chunk's piece of it holds what the chunk's gather delivers. -/
theorem holds_of (w : Fin 32) (hoff3 : off3 = ![w.val, 0, 0]) (hoff4 : ∀ g, off4 g = ![(w.val * n + g.val) * b, 0])
    (hg : (⟨2, ![T, 128]⟩ : Shape).Gathers 0 ⟨2, ![b, 128]⟩) (hn : (⟨1, ![b]⟩ : Shape).numel = (⟨2, ![b, 128]⟩ : Shape).size hg.axis')
    (hr : ∀ x, (M3.view.read (Elt F) fi x).toNat < T)
    (hR : M4.view.read (Elt F) fR = gathered (M2.view.read (Elt F) ft) (M3.view.read (Elt F) fi)) (g : Fin n)
    (hin : InRange cc ii hg (chunkOf M4 M5 hq5 off4 h4 osem) d (fun _ => fetched M3 M5 cc ii d off3 h3 hq3 fi fd) g) :
    Holds cc ii (tblOf M2 h2) hg hn (chunkOf M4 M5 hq5 off4 h4 osem) d ft (fun _ => fetched M3 M5 cc ii d off3 h3 hq3 fi fd)
      (fun _ => fR) g hin := by
  funext y
  have hb : (y 0).val < b := (y 0).isLt
  have hbpos : 0 < b := by omega
  show M4.view.read (Elt F) fR ((Rect.unit (s := ⟨2, ![R, 128]⟩) (off4 g) (⟨2, ![b, 128]⟩ : Shape).size (h4 g)).emb y)
    = M2.view.read (Elt F) ft ((Rect.unit (s := ⟨2, ![T, 128]⟩) ![0, 0] (⟨2, ![T, 128]⟩ : Shape).size h2).emb (hg.idx _ y))
  rw [hR]
  have e0 : (((Rect.unit (s := ⟨2, ![R, 128]⟩) (off4 g) (⟨2, ![b, 128]⟩ : Shape).size (h4 g)).emb y) 0).val = (w.val * n + g.val) * b + (y 0).val := by
    show off4 g 0 + 1 * (y 0).val = _
    rw [hoff4]; show (w.val * n + g.val) * b + 1 * (y 0).val = _; omega
  have e1 : (((Rect.unit (s := ⟨2, ![R, 128]⟩) (off4 g) (⟨2, ![b, 128]⟩ : Shape).size (h4 g)).emb y) 1).val = (y 1).val := by
    show off4 g 1 + 1 * (y 1).val = _
    rw [hoff4]; show 0 + 1 * (y 1).val = _; omega
  have ed : ((w.val * n + g.val) * b + (y 0).val) / b = w.val * n + g.val := by
    rw [Nat.add_comm, Nat.add_mul_div_right _ _ hbpos, Nat.div_eq_of_lt hb, Nat.zero_add]
  have em : ((w.val * n + g.val) * b + (y 0).val) % b = (y 0).val := by
    rw [Nat.add_comm, Nat.add_mul_mod_self_right, Nat.mod_eq_of_lt hb]
  have hnpos : 0 < n := Nat.pos_of_ne_zero (NeZero.ne n)
  have ed' : (w.val * n + g.val) / n = w.val := by
    rw [Nat.add_comm, Nat.add_mul_div_right _ _ hnpos, Nat.div_eq_of_lt g.isLt, Nat.zero_add]
  have em' : (w.val * n + g.val) % n = g.val := by
    rw [Nat.add_comm, Nat.add_mul_mod_self_right, Nat.mod_eq_of_lt g.isLt]
  unfold gathered
  rw [e0, ed, ed']
  have a1 : Fin.ofNat 32 w.val = w := Fin.ext (Nat.mod_eq_of_lt w.isLt)
  have a2 : Fin.ofNat n (w.val * n + g.val) = g := Fin.ext em'
  have a3 : Fin.ofNat b ((w.val * n + g.val) * b + (y 0).val) = (⟨(y 0).val, hb⟩ : Fin b) := Fin.ext em
  rw [a1, a2, a3]
  congr 1
  funext a
  refine Fin.ext ?_
  fin_cases a
  · show (M3.view.read (Elt F) fi (ix3 w g ⟨(y 0).val, hb⟩)).toNat % T = 0 + 1 * (hg.idx _ y hg.axis).val
    rw [Nat.mod_eq_of_lt (hr _), Shape.Gathers.idx_axis]
    show _ = 0 + 1 * ((chunkOf M4 M5 hq5 off4 h4 osem g).off.view.read (Elt F) (fetched M3 M5 cc ii d off3 h3 hq3 fi fd) _).toNat
    rw [list_word M3 M4 M5 cc ii d off3 h3 hq3 hq5 off4 h4 osem fi fd w hoff3, Nat.zero_add, Nat.one_mul]
    have ex : ((⟨1, ![b]⟩ : Shape).rowMajor.symm (Fin.cast hn.symm (y hg.axis'))) 0 = (⟨(y 0).val, hb⟩ : Fin b) := by
      refine Fin.ext ?_
      rw [← Shape.rowMajor_val_one, Equiv.apply_symm_apply]
      rfl
    exact congrArg (fun k => (M3.view.read (Elt F) fi (ix3 w g k)).toNat) ex.symm
  · show _ = 0 + 1 * (hg.idx _ y 1).val
    rw [Shape.Gathers.idx_of_ne hg _ y 1 (show (1 : Fin 2).val ≠ 0 by decide)]
    refine e1.trans ?_
    show (y 1).val = 0 + 1 * (y 1).val
    omega

section Run

variable {Λ : Labels} {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (EC : UEmb Counters (MT nD τ sig Ix (Elt F) Name U Lvl)) (𝒱 : Variants) (bd : Option 𝒱.V)
variable [Infinite Name] [EC.LandsIn (upEmb : UEmb _ (MT nD τ sig Ix (Elt F) Name U Lvl))]

/-- The slots are disjoint and cover the row scratch. -/
theorem slots_cut (q : PosShare TreeShare) (f : Buf (Elt F) (M6.view.loc th)) (sA sB : DmaSem sig) :
    (M6.view.loc th ↦[M6.view.set]{q} f : sProp 𝕄)
      = iprop(((slotOf M6 hq6 sA 0).buf.view.loc th ↦[(slotOf M6 hq6 sA 0).buf.view.set]{q} f)
        ∗ ((slotOf M6 hq6 sB 1).buf.view.loc th ↦[(slotOf M6 hq6 sB 1).buf.view.set]{q} f)) := by
  rw [pts_cut (c := th) M6.view (fun k : Fin 2 => rSlot (b := b) k) ?_ ?_ q f, BI.bigSep_fin_two]
  · unfold slotOf
    rw [show ((M6.slice (rSlot 0) (fun _ => rfl)).squeeze ⟨2, ![b, 128]⟩ hq6).view.set = (M6.view.slice (rSlot 0)).set from View.set_reshape _ _,
      show ((M6.slice (rSlot 1) (fun _ => rfl)).squeeze ⟨2, ![b, 128]⟩ hq6).view.set = (M6.view.slice (rSlot 1)).set from View.set_reshape _ _]
    rfl
  · intro i j hij
    refine Finset.disjoint_left.mpr fun x hx hy => hij (Fin.ext ?_)
    have h1 := Rect.mem_set_unit.mp hx 0
    have h2 := Rect.mem_set_unit.mp hy 0
    have h1' : i.val ≤ (x 0).val ∧ (x 0).val < i.val + 1 := h1
    have h2' : j.val ≤ (x 0).val ∧ (x 0).val < j.val + 1 := h2
    omega
  · intro x
    refine ⟨x 0, Rect.mem_set_unit.mpr fun a => ?_⟩
    fin_cases a
    · show (x 0).val ≤ (x 0).val ∧ (x 0).val < (x 0).val + 1; omega
    · exact ⟨Nat.zero_le _, by show (x 1).val < 0 + b; have : (x 1).val < b := (x 1).isLt; omega⟩
    · exact ⟨Nat.zero_le _, by show (x 2).val < 0 + 128; have : (x 2).val < 128 := (x 2).isLt; omega⟩

/-- The two slots, each at contents of its own, are the row scratch at some contents. -/
theorem slots_join (q : PosShare TreeShare) (sA sB : DmaSem sig) (f : Buf (Elt F) ((slotOf M6 hq6 sA 0).buf.view.loc th))
    (g : Buf (Elt F) ((slotOf M6 hq6 sB 1).buf.view.loc th)) :
    iprop(((slotOf M6 hq6 sA 0).buf.view.loc th ↦[(slotOf M6 hq6 sA 0).buf.view.set]{q} f)
        ∗ ((slotOf M6 hq6 sB 1).buf.view.loc th ↦[(slotOf M6 hq6 sB 1).buf.view.set]{q} g))
      ⊢ (iprop(∃ f, M6.view.loc th ↦[M6.view.set]{q} f) : sProp 𝕄) := by
  classical
  have hd : Disjoint (slotOf M6 hq6 sA 0).buf.view.set (slotOf M6 hq6 sB 1).buf.view.set := by
    unfold slotOf
    rw [show ((M6.slice (rSlot 0) (fun _ => rfl)).squeeze ⟨2, ![b, 128]⟩ hq6).view.set = (M6.view.slice (rSlot 0)).set from View.set_reshape _ _,
      show ((M6.slice (rSlot 1) (fun _ => rfl)).squeeze ⟨2, ![b, 128]⟩ hq6).view.set = (M6.view.slice (rSlot 1)).set from View.set_reshape _ _]
    rw [View.set_slice, View.set_slice]
    refine (Finset.disjoint_map _).mpr ?_
    refine Finset.disjoint_left.mpr fun x hx hy => ?_
    have h1 : 0 ≤ (x 0).val ∧ (x 0).val < 0 + 1 := Rect.mem_set_unit.mp hx 0
    have h2 : 1 ≤ (x 0).val ∧ (x 0).val < 1 + 1 := Rect.mem_set_unit.mp hy 0
    omega
  iintro ⟨HA, HB⟩
  iexists ((slotOf M6 hq6 sB 1).buf.view.set.piecewise g f)
  iapply (Entails.of_eq (slots_cut M6 cc ii d hq6 q ((slotOf M6 hq6 sB 1).buf.view.set.piecewise g f) sA sB).symm)
  isplitl [HA]
  · iapply (Entails.of_eq (pointsTo_congr (fun x hx => (Finset.piecewise_eq_of_notMem _ g f (Finset.disjoint_left.mp hd hx)).symm))) $$ HA
  · iapply (Entails.of_eq (pointsTo_congr (fun x hx => (Finset.piecewise_eq_of_mem _ g f hx).symm))) $$ HB

/-- The lists' rows are disjoint and cover the lists. -/
theorem lists_cut (q : PosShare TreeShare) (f : Buf (Elt F) (M5.view.loc th)) :
    (M5.view.loc th ↦[M5.view.set]{q} f : sProp 𝕄)
      = bigSep Finset.univ fun g : Fin n => (chunkOf M4 M5 hq5 off4 h4 osem g).off.view.loc th
          ↦[(chunkOf M4 M5 hq5 off4 h4 osem g).off.view.set]{q} f := by
  rw [pts_cut (c := th) M5.view (fun k : Fin n => rList (b := b) k) ?_ ?_ q f]
  · refine congrArg (bigSep Finset.univ) (funext fun g => ?_)
    unfold chunkOf
    rw [show ((M5.slice (rList g) (fun _ => rfl)).squeeze ⟨1, ![b]⟩ hq5).view.set = (M5.view.slice (rList g)).set from View.set_reshape _ _]
  · intro i j hij
    refine Finset.disjoint_left.mpr fun x hx hy => hij (Fin.ext ?_)
    have h1 := Rect.mem_set_unit.mp hx 0
    have h2 := Rect.mem_set_unit.mp hy 0
    have h1' : i.val ≤ (x 0).val ∧ (x 0).val < i.val + 1 := h1
    have h2' : j.val ≤ (x 0).val ∧ (x 0).val < j.val + 1 := h2
    omega
  · intro x
    refine ⟨x 0, Rect.mem_set_unit.mpr fun a => ?_⟩
    fin_cases a
    · show (x 0).val ≤ (x 0).val ∧ (x 0).val < (x 0).val + 1; omega
    · exact ⟨Nat.zero_le _, by show (x 1).val < 0 + b; have : (x 1).val < b := (x 1).isLt; omega⟩

/-- Chunk `g`'s piece of the result at contents `f`. -/
def piece (g : Fin n) (f : Buf (Elt F) (M4.view.loc th)) : sProp 𝕄 :=
  M4.view.loc th ↦[(M4.view.slice (Rect.unit (s := ⟨2, ![R, 128]⟩) (off4 g) (⟨2, ![b, 128]⟩ : Shape).size (h4 g))).set]{fullShare} f

variable (sA sB isem : DmaSem sig) (q qi : PosShare TreeShare) (ι : Ix)

include EC in
/-- A tile's task on its resources: shares of the table and of the row numbers, its scratch, its pieces of the result
    and its semaphores at zero go in; they come back with the gathered rows in the pieces. -/
theorem wp_tile (w : Fin 32) (hoff3 : off3 = ![w.val, 0, 0]) (hoff4 : ∀ g, off4 g = ![(w.val * n + g.val) * b, 0])
    (hg : (⟨2, ![T, 128]⟩ : Shape).Gathers 0 ⟨2, ![b, 128]⟩) (hn : (⟨1, ![b]⟩ : Shape).numel = (⟨2, ![b, 128]⟩ : Shape).size hg.axis')
    (hsr : (⟨2, ![T, 128]⟩ : Shape).StreamRows 0) (l : List (Fin n)) (hl : (Finset.univ : Finset (Fin n)) = ((0 : Fin n) :: l).toFinset)
    (hnd : ((0 : Fin n) :: l).Nodup)
    (hr : ∀ x, (M3.view.read (Elt F) fi x).toNat < T)
    (hR : M4.view.read (Elt F) fR = gathered (M2.view.read (Elt F) ft) (M3.view.read (Elt F) fi))
    (hs : 0 < (⟨2, ![b, 128]⟩ : Shape).numel) (hsR : 0 < (⟨2, ![n, b]⟩ : Shape).numel)
    (hN : ∀ v : Memref sig .scVector .vmem (⟨2, ![b, 128]⟩ : Shape) .f32,
      ∑ k, (v.slice ((⟨2, ![b, 128]⟩ : Shape).rowRect hg.axis' k) ((⟨2, ![b, 128]⟩ : Shape).stride_rowRect hg.axis' k)).view.dmaCredit = v.view.dmaCredit)
    {O : CellTallies nD τ sig Ix} {W : Waits sig Ix} :
    iprop(Transfers.MayWaits th ι O
        ∗ (M3.view.loc th ↦[M3.view.set]{qi} fi) ∗ (M2.view.loc th ↦[M2.view.set]{q} ft)
        ∗ bigSep Finset.univ (fun g => iprop(∃ f, piece M4 cc ii d off4 h4 g f))
        ∗ (∃ f, M5.view.loc th ↦[M5.view.set]{fullShare} f) ∗ (∃ f, M6.view.loc th ↦[M6.view.set]{fullShare} f)
        ∗ semVal (th, SemLoc.dma isem) 0 ∗ bigSep Finset.univ (fun g => semVal (th, SemLoc.dma (osem g)) 0)
        ∗ semVal (th, SemLoc.dma sA) 0 ∗ semVal (th, SemLoc.dma sB) 0 ∗ owes th O W)
      ⊢ wp frame (wpE defs 𝒱 th bd) Set.univ
          (gProg (F := F) (tblOf M2 h2) hg hn hsr (chunkOf M4 M5 hq5 off4 h4 osem) (isrcOf M3 off3 h3 hq3) M5 isem l 0
            (slotOf M6 hq6 sA 0) (slotOf M6 hq6 sB 1)) fun _ =>
        (iprop((M3.view.loc th ↦[M3.view.set]{qi} fi) ∗ (M2.view.loc th ↦[M2.view.set]{q} ft)
        ∗ bigSep Finset.univ (fun g => piece M4 cc ii d off4 h4 g fR)
        ∗ (∃ f, M5.view.loc th ↦[M5.view.set]{fullShare} f) ∗ (∃ f, M6.view.loc th ↦[M6.view.set]{fullShare} f)
        ∗ semVal (th, SemLoc.dma isem) 0 ∗ bigSep Finset.univ (fun g => semVal (th, SemLoc.dma (osem g)) 0)
        ∗ semVal (th, SemLoc.dma sA) 0 ∗ semVal (th, SemLoc.dma sB) 0
        ∗ ∃ W', ⌜∀ p ∈ W', p ∈ W ∨ p.2 = ι⌝ ∗ owes th O W') : sProp 𝕄) := by
  classical
  have hsub3 : (isrcOf M3 off3 h3 hq3).view.set ⊆ M3.view.set := by
    unfold isrcOf
    rw [show ((M3.slice (Rect.unit (s := ⟨3, ![32, n, b]⟩) off3 (⟨3, ![1, n, b]⟩ : Shape).size h3) (fun _ => rfl)).squeeze ⟨2, ![n, b]⟩ hq3).view.set
      = (M3.view.slice (Rect.unit (s := ⟨3, ![32, n, b]⟩) off3 (⟨3, ![1, n, b]⟩ : Shape).size h3)).set from View.set_reshape _ _]
    exact View.set_slice_subset _ _
  have hsub2 : (tblOf M2 h2).view.set ⊆ M2.view.set := View.set_slice_subset _ _
  rw [BI.bigSep_univ_eq_bigSepL _ hl hnd (fun g => iprop(∃ f, piece M4 cc ii d off4 h4 g f)),
    BI.bigSep_univ_eq_bigSepL _ hl hnd (fun g => piece M4 cc ii d off4 h4 g fR),
    BI.bigSep_univ_eq_bigSepL _ hl hnd (fun g => semVal (th, SemLoc.dma (osem g)) 0)]
  iintro ⟨#Hmw, Hi, Ht, Hp, ⟨%fd, H5⟩, ⟨%f6, H6⟩, His, Hos, HA, HB, HO⟩
  ihave Hi := (pointsTo_split_subset hsub3).1 $$ Hi
  icases Hi with ⟨Hi, Hi'⟩
  ihave Ht := (pointsTo_split_subset hsub2).1 $$ Ht
  icases Ht with ⟨Ht, Ht'⟩
  ihave H6 := (Entails.of_eq (slots_cut M6 cc ii d hq6 fullShare f6 sA sB)) $$ H6
  icases H6 with ⟨H6a, H6b⟩
  ihave Hr := (bigSepL_pair _ _ (0 :: l)).2 $$ [Hp Hos]
  · isplitl [Hp]; · iexact Hp
    iexact Hos
  have hlist := fun f => (Entails.of_eq ((lists_cut (Ix := Ix) (Name := Name) (U := U) (Lvl := Lvl) M4 M5 cc ii d hq5 off4 h4 osem fullShare f).trans
    (BI.bigSep_univ_eq_bigSepL (0 :: l) hl hnd _)) : _ ⊢ (_ : sProp 𝕄))
  have hlist' := fun f => (Entails.of_eq ((lists_cut (Ix := Ix) (Name := Name) (U := U) (Lvl := Lvl) M4 M5 cc ii d hq5 off4 h4 osem fullShare f).trans
    (BI.bigSep_univ_eq_bigSepL (0 :: l) hl hnd _)).symm : _ ⊢ (_ : sProp 𝕄))
  ihave Hw := (wp_gProg (defs := defs) cc ii (tblOf M2 h2) hg hn hsr (chunkOf M4 M5 hq5 off4 h4 osem) EC 𝒱 bd d ι q ft
      (fun _ => fetched M3 M5 cc ii d off3 h3 hq3 fi fd) (fun _ => fR) hs hsR hN
      (inRange_of M3 M4 M5 cc ii d off3 h3 hq3 hq5 off4 h4 osem fi fd w hoff3 hg hr)
      (holds_of M2 M3 M4 M5 cc ii d h2 off3 h3 hq3 hq5 off4 h4 osem ft fi fd fR w hoff3 hoff4 hg hn hr hR)
      (isrcOf M3 off3 h3 hq3) M5 isem l 0 (slotOf M6 hq6 sA 0) (slotOf M6 hq6 sB 1) qi fi fd ⟨hlist _, hlist' _⟩) $$ [Hi Ht Hr H5 H6a H6b His HA HB HO]
  · isplitr; · iexact Hmw
    isplitl [Hi]; · iexact Hi
    isplitl [H5]; · iexact H5
    isplitl [His]; · iexact His
    isplitl [H6a HA]
    · unfold free; isplitl [H6a]; · iexists f6; iexact H6a
      iexact HA
    isplitl [H6b HB]
    · unfold free; isplitl [H6b]; · iexists f6; iexact H6b
      iexact HB
    isplitl [Ht]; · unfold share; iexact Ht
    isplitl [Hr]; · iexact Hr
    iexact HO
  iapply (wp_wand frame (wpE defs 𝒱 th bd)) $$ Hw
  iintro %u ⟨Hi, H5, His, HA, HB, Ht, Hd, HW⟩
  unfold free share
  icases HA with ⟨⟨%fA, HA⟩, HsA⟩
  icases HB with ⟨⟨%fB, HB⟩, HsB⟩
  ihave H6 := (slots_join M6 cc ii d hq6 fullShare sA sB fA fB) $$ [HA HB]
  · isplitl [HA]; · iexact HA
    iexact HB
  ihave Hi := (pointsTo_split_subset (q := qi) (f := fi) hsub3).2 $$ [Hi Hi']
  · isplitl [Hi]; · iexact Hi
    iexact Hi'
  ihave Ht := (pointsTo_split_subset (q := q) (f := ft) hsub2).2 $$ [Ht Ht']
  · isplitl [Ht]; · iexact Ht
    iexact Ht'
  ihave Hd := (show bigSepL (0 :: l) (done cc ii (chunkOf M4 M5 hq5 off4 h4 osem) d fun _ => fR)
      ⊢ (bigSepL (0 :: l) (fun g => iprop(piece M4 cc ii d off4 h4 g fR ∗ semVal (th, SemLoc.dma (osem g)) 0)) : sProp 𝕄) from
    Entails.of_eq rfl) $$ Hd
  ihave Hd := (bigSepL_pair (fun g => piece M4 cc ii d off4 h4 g fR) (fun g => semVal (th, SemLoc.dma (osem g)) 0) (0 :: l)).1 $$ Hd
  icases Hd with ⟨Hp, Hos⟩
  isplitl [Hi]; · iexact Hi
  isplitl [Ht]; · iexact Ht
  isplitl [Hp]; · iexact Hp
  isplitl [H5]; · iexact H5
  isplitl [H6]; · iexact H6
  isplitl [His]; · iexact His
  isplitl [Hos]; · iexact Hos
  isplitl [HsA]; · iexact HsA
  isplitl [HsB]; · iexact HsB
  iexact HW

end Run

end Chunks

end Cert.Proof.GatherTile
-- ==== Proof.GatherTask.lean ====
/-
  A gather call's tiles, at any sizes: how the arrays the call is handed go out to its 32 tiles and come back
  (`cut_go`, `join_td`), and a tile's task from what its thread is handed (`wp_task`).
-/
module

public import proofs.«01_k».proof.Proof.GatherTile

@[expose] public section

noncomputable section

namespace Cert.Proof.GatherTask

open Cert.Proof.GatherLoop Cert.Proof.GatherTile
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {nD : Nat} {τ : Topo} {sig : RefSig} {F : FTy → Type}

/-! ## Tiles -/

/-- The block of the tile on core `c`, subcore `s`. -/
def wid (c : Fin 2) (s : Fin 16) : Fin 32 := ⟨2 * s.val + c.val, by omega⟩

/-- The share of an array every tile reads that the tile `(c, s)` is handed. -/
def tq (c : Fin 2) (s : Fin 16) : PosShare TreeShare := pieceOf (pieceOf fullShare 2 (by decide) c) 16 (by decide) s

/-- Where chunk `g` of block `w` begins in the result. -/
def cOff (n b : ℕ) (w : Fin 32) (g : Fin n) : Fin 2 → ℕ := ![(w.val * n + g.val) * b, 0]

/-- The chunk lies within the result. -/
theorem cInb {n b R : ℕ} (hR : R = 32 * n * b) (w : Fin 32) (g : Fin n) :
    ∀ a, cOff n b w g a + (⟨2, ![b, 128]⟩ : Shape).size a ≤ (⟨2, ![R, 128]⟩ : Shape).size a := by
  intro a; fin_cases a
  · show (w.val * n + g.val) * b + b ≤ R
    have h1 : w.val * n + g.val + 1 ≤ 32 * n := by
      have hw := w.isLt; have hg := g.isLt
      calc w.val * n + g.val + 1 ≤ w.val * n + n := by omega
        _ = (w.val + 1) * n := by ring
        _ ≤ 32 * n := Nat.mul_le_mul_right _ (by omega)
    calc (w.val * n + g.val) * b + b = (w.val * n + g.val + 1) * b := by ring
      _ ≤ 32 * n * b := Nat.mul_le_mul_right _ h1
      _ = R := hR.symm
  · show 0 + 128 ≤ 128; omega

/-! ## Out to the tiles and back -/

section Split

variable {n b T R : ℕ} [NeZero n] [NeZero b] (hRn : R = 32 * n * b)
variable (M2 : Memref sig .scVector .hbm ⟨2, ![T, 128]⟩ .f32) (M3 : Memref sig .scVector .hbm ⟨3, ![32, n, b]⟩ .i32)
  (M4 : Memref sig .scVector .hbm ⟨2, ![R, 128]⟩ .f32)
variable (cc : Fin τ.nSC) (ii : Fin τ.nSub) (d : Dev nD)

local notation "th" => ((d, Proc.scVector cc ii) : Thread nD τ)

variable (ft : Buf (Elt F) (M2.view.loc (d, Proc.scVector cc ii))) (fi : Buf (Elt F) (M3.view.loc (d, Proc.scVector cc ii)))
  (fR : Buf (Elt F) (M4.view.loc (d, Proc.scVector cc ii)))

variable {Ix : Type} [DecidableEq Ix] {Name : Type} [DecidableEq Name] {U : Type} [URA U] {Lvl : Type} [Preorder Lvl]

local notation "𝕄" => MT nD τ sig Ix (Elt F) Name U Lvl

/-- What a tile reads: its shares of the row numbers and of the table. -/
def reads (c : Fin 2) (s : Fin 16) : sProp 𝕄 :=
  iprop((M3.view.loc th ↦[M3.view.set]{tq c s} fi) ∗ (M2.view.loc th ↦[M2.view.set]{tq c s} ft))

/-- What a tile is handed: what it reads and its pieces of the result, at anything. -/
def tileGo (c : Fin 2) (s : Fin 16) : sProp 𝕄 :=
  iprop(reads M2 M3 cc ii d ft fi c s
    ∗ bigSep Finset.univ fun g => iprop(∃ f, piece M4 cc ii d (cOff n b (wid c s)) (cInb hRn (wid c s)) g f))

/-- What a tile hands back: what it read and its pieces of the result `fR`. -/
def tileTd (c : Fin 2) (s : Fin 16) : sProp 𝕄 :=
  iprop(reads M2 M3 cc ii d ft fi c s
    ∗ bigSep Finset.univ fun g => piece M4 cc ii d (cOff n b (wid c s)) (cInb hRn (wid c s)) g fR)

/-- What a tile is handed, and what it hands back, may be stored. -/
instance tileGo_storable (c : Fin 2) (s : Fin 16) : BI.Storable (upEmb : UEmb _ 𝕄) (tileGo hRn M2 M3 M4 cc ii d ft fi c s) := by
  unfold tileGo reads Cert.Proof.GatherTile.piece; infer_instance
@[inherit_doc tileGo_storable]
instance tileTd_storable (c : Fin 2) (s : Fin 16) : BI.Storable (upEmb : UEmb _ 𝕄) (tileTd hRn M2 M3 M4 cc ii d ft fi fR c s) := by
  unfold tileTd reads Cert.Proof.GatherTile.piece; infer_instance

/-- An array held whole is its tiles' shares. -/
theorem pts_tiles {ℓ : Loc nD τ sig} (I : Finset (Idx ℓ)) (f : Buf (Elt F) ℓ) :
    (ℓ ↦[I]{fullShare} f : sProp 𝕄) = bigSep Finset.univ fun c : Fin 2 => bigSep Finset.univ fun s : Fin 16 => ℓ ↦[I]{tq c s} f := by
  rw [pointsTo_piecesOf I f (o := 2) (by decide) fullShare]
  refine bigSep_congr fun c _ => ?_
  exact pointsTo_piecesOf I f (o := 16) (by decide) _

/-- The result is its tiles' chunks. -/
theorem pts_chunks (f : Buf (Elt F) (M4.view.loc th)) :
    (M4.view.loc th ↦[M4.view.set]{fullShare} f : sProp 𝕄)
      = bigSep Finset.univ fun c : Fin 2 => bigSep Finset.univ fun s : Fin 16 => bigSep Finset.univ fun g : Fin n =>
          piece M4 cc ii d (cOff n b (wid c s)) (cInb hRn (wid c s)) g f := by
  have hb : 0 < b := Nat.pos_of_ne_zero (NeZero.ne b)
  have hn : 0 < n := Nat.pos_of_ne_zero (NeZero.ne n)
  rw [pts_cut (c := th) M4.view (fun i : Fin 2 × Fin 16 × Fin n =>
    Rect.unit (s := ⟨2, ![R, 128]⟩) (cOff n b (wid i.1 i.2.1) i.2.2) (⟨2, ![b, 128]⟩ : Shape).size (cInb hRn (wid i.1 i.2.1) i.2.2)) ?_ ?_ fullShare f,
    BI.bigSep_univ_prod]
  · refine bigSep_congr fun c _ => ?_
    rw [BI.bigSep_univ_prod]
    rfl
  · rintro ⟨c, s, g⟩ ⟨c', s', g'⟩ hne
    refine Finset.disjoint_left.mpr fun x hx hy => hne ?_
    have h1 : ((wid c s).val * n + g.val) * b ≤ (x 0).val ∧ (x 0).val < ((wid c s).val * n + g.val) * b + b := Rect.mem_set_unit.mp hx 0
    have h2 : ((wid c' s').val * n + g'.val) * b ≤ (x 0).val ∧ (x 0).val < ((wid c' s').val * n + g'.val) * b + b := Rect.mem_set_unit.mp hy 0
    have e1 : (x 0).val / b = (wid c s).val * n + g.val := by
      refine Nat.div_eq_of_lt_le (by linarith [h1.1]) ?_
      have := h1.2; calc (x 0).val < _ := this
        _ = ((wid c s).val * n + g.val).succ * b := by rw [Nat.succ_mul]
    have e2 : (x 0).val / b = (wid c' s').val * n + g'.val := by
      refine Nat.div_eq_of_lt_le (by linarith [h2.1]) ?_
      have := h2.2; calc (x 0).val < _ := this
        _ = ((wid c' s').val * n + g'.val).succ * b := by rw [Nat.succ_mul]
    have e := e1.symm.trans e2
    have eg : g = g' := by
      refine Fin.ext ?_
      have := congrArg (· % n) e
      simpa [Nat.add_mod, Nat.mod_eq_of_lt g.isLt, Nat.mod_eq_of_lt g'.isLt] using this
    subst eg
    have ew : (wid c s).val = (wid c' s').val := Nat.eq_of_mul_eq_mul_right hn (Nat.add_right_cancel e)
    have ew' : 2 * s.val + c.val = 2 * s'.val + c'.val := ew
    have es : s = s' := Fin.ext (by omega)
    have ec : c = c' := Fin.ext (by omega)
    rw [es, ec]
  · intro x
    have hx : (x 0).val < R := (x 0).isLt
    set y := (x 0).val with hy
    have hyb : y / b < 32 * n := by
      rw [Nat.div_lt_iff_lt_mul hb]; omega
    have hyn : y / b / n < 32 := by
      rw [Nat.div_lt_iff_lt_mul hn]; exact hyb
    refine ⟨(⟨y / b / n % 2, by omega⟩, ⟨y / b / n / 2, by omega⟩, ⟨y / b % n, Nat.mod_lt _ hn⟩), Rect.mem_set_unit.mpr fun a => ?_⟩
    have hw : (wid ⟨y / b / n % 2, by omega⟩ ⟨y / b / n / 2, by omega⟩).val = y / b / n := by
      show 2 * (y / b / n / 2) + y / b / n % 2 = _; omega
    have hwn : y / b / n * n + y / b % n = y / b := Nat.div_add_mod' _ _
    have hyb2 : y / b * b ≤ y ∧ y < y / b * b + b :=
      ⟨Nat.div_mul_le_self _ _, by have := Nat.lt_div_mul_add (a := y) hb; exact this⟩
    fin_cases a
    · show ((wid ⟨y / b / n % 2, _⟩ ⟨y / b / n / 2, _⟩).val * n + y / b % n) * b ≤ y
        ∧ y < ((wid ⟨y / b / n % 2, _⟩ ⟨y / b / n / 2, _⟩).val * n + y / b % n) * b + b
      rw [hw, hwn]; exact hyb2
    · exact ⟨Nat.zero_le _, by show (x 1).val < 0 + 128; have : (x 1).val < 128 := (x 1).isLt; omega⟩

/-- The arrays of a call go out to its tiles. -/
theorem cut_go (f : Buf (Elt F) (M4.view.loc th)) :
    iprop((M3.view.loc th ↦[M3.view.set]{fullShare} fi) ∗ (M2.view.loc th ↦[M2.view.set]{fullShare} ft)
        ∗ (M4.view.loc th ↦[M4.view.set]{fullShare} f))
      ⊢ (bigSep Finset.univ fun c : Fin 2 => bigSep Finset.univ fun s : Fin 16 => tileGo hRn M2 M3 M4 cc ii d ft fi c s : sProp 𝕄) := by
  unfold tileGo reads
  simp only [bigSep_sep']
  rw [← pts_tiles, ← pts_tiles, pts_chunks hRn M4 cc ii d f]
  iintro ⟨Hi, Ht, Hr⟩
  isplitl [Hi Ht]
  · isplitl [Hi] <;> iassumption
  have hmono : (bigSep Finset.univ fun c : Fin 2 => bigSep Finset.univ fun s : Fin 16 => bigSep Finset.univ fun g : Fin n =>
        piece M4 cc ii d (cOff n b (wid c s)) (cInb hRn (wid c s)) g f)
      ⊢ (bigSep Finset.univ fun c : Fin 2 => bigSep Finset.univ fun s : Fin 16 => bigSep Finset.univ fun g : Fin n =>
        iprop(∃ f, piece M4 cc ii d (cOff n b (wid c s)) (cInb hRn (wid c s)) g f) : sProp 𝕄) := by
    refine bigSep_mono fun c _ => bigSep_mono fun s _ => bigSep_mono fun g _ => ?_
    exact (show piece M4 cc ii d (cOff n b (wid c s)) (cInb hRn (wid c s)) g f
      ⊢ (iprop(∃ f, piece M4 cc ii d (cOff n b (wid c s)) (cInb hRn (wid c s)) g f) : sProp 𝕄) by
        iintro H; iexists f; iexact H)
  iapply hmono $$ Hr

/-- The arrays come back from the tiles, the result holding `fR`. -/
theorem join_td :
    (bigSep Finset.univ fun c : Fin 2 => bigSep Finset.univ fun s : Fin 16 => tileTd hRn M2 M3 M4 cc ii d ft fi fR c s)
      ⊢ (iprop((M3.view.loc th ↦[M3.view.set]{fullShare} fi) ∗ (M2.view.loc th ↦[M2.view.set]{fullShare} ft)
        ∗ (M4.view.loc th ↦[M4.view.set]{fullShare} fR)) : sProp 𝕄) := by
  unfold tileTd reads
  simp only [bigSep_sep']
  rw [← pts_tiles, ← pts_tiles, pts_chunks hRn M4 cc ii d fR]
  iintro ⟨⟨Hi, Ht⟩, Hr⟩
  isplitl [Hi]; · iexact Hi
  isplitl [Ht] <;> iassumption

end Split

/-! ## A tile's own buffers and semaphores -/

section Own

variable {Ix : Type} [DecidableEq Ix] {Name : Type} [DecidableEq Name] {U : Type} [URA U] {Lvl : Type} [Preorder Lvl]

local notation "𝕄" => MT nD τ sig Ix (Elt F) Name U Lvl

variable (d : Dev nD) (cc : Fin τ.nSC) (ii : Fin τ.nSub)

/-- The buffers of a vector subcore other than two. -/
def restBufs (r r' : Ref sig .scVector) : sProp 𝕄 :=
  bigSep (((ownRefs (τ := τ) (.scVector cc ii)).erase ((Proc.scVector cc ii).devRef r)).erase ((Proc.scVector cc ii).devRef r'))
    fun b => iprop(∃ f, ((d, b) : Loc nD τ sig) ↦{fullShare} f)

/-- Two of a vector subcore's own buffers, and the rest. -/
theorem ownBufs_two (r r' : Ref sig .scVector) (h : ((Proc.scVector cc ii).devRef r).owner = .proc (.scVector cc ii))
    (h' : ((Proc.scVector cc ii).devRef r').owner = .proc (.scVector cc ii)) (hne : r' ≠ r) :
    (ownBufs (V d cc ii) : sProp 𝕄)
      = iprop((∃ f, (V d cc ii).loc r ↦{fullShare} f) ∗ (∃ f, (V d cc ii).loc r' ↦{fullShare} f) ∗ restBufs d cc ii r r') := by
  unfold SparseCore.Cfg.ownBufs restBufs
  refine (SparseCore.bigSep_erase' (SparseCore.Cfg.mem_ownRefs_of_owner h)).trans ?_
  rw [SparseCore.bigSep_erase' (Finset.mem_erase.mpr ⟨fun e => hne (Proc.devRef_injective _ e), SparseCore.Cfg.mem_ownRefs_of_owner h'⟩)]

/-- The semaphores of a vector subcore other than a family. -/
def restSems {k : ℕ} (sem : Fin k → DmaSem sig) : sProp 𝕄 :=
  bigSep ((ownCells (V d cc ii) : Finset (GSem nD τ sig)) \ Finset.univ.image fun j => (V d cc ii, SemLoc.dma (sem j))) fun g => semVal g 0

/-- A family of a vector subcore's own semaphores at zero, and the rest. -/
theorem ownSems_family {k : ℕ} (sem : Fin k → DmaSem sig) (hinj : Function.Injective sem)
    (hsc : ∀ j, (SemLoc.dma (sem j) : SemLoc sig).isScoped .scVector = true) :
    (ownSems0 (V d cc ii) : sProp 𝕄)
      = iprop((bigSep Finset.univ fun j => semVal (V d cc ii, SemLoc.dma (sem j)) 0) ∗ restSems d cc ii sem) := by
  unfold SparseCore.Cfg.ownSems0 restSems
  have hsub : (Finset.univ.image fun j => ((V d cc ii, SemLoc.dma (sem j)) : GSem nD τ sig)) ⊆ ownCells (V d cc ii) := by
    intro g hg
    obtain ⟨j, -, rfl⟩ := Finset.mem_image.mp hg
    exact mem_ownCells.mpr ⟨rfl, hsc j⟩
  rw [SparseCore.bigSep_sdiff_split' hsub, SparseCore.bigSep_image_of_injOn (Φ := fun g => (semVal g 0 : sProp 𝕄))]
  intro j _ j' _ e
  have := (Prod.ext_iff.mp e).2
  exact hinj (SemLoc.dma.inj this)

end Own

/-! ## The task -/

section Task

variable {n b T R : ℕ} [NeZero T] [NeZero n] [NeZero b] (hRn : R = 32 * n * b)
variable (M2 : Memref sig .scVector .hbm ⟨2, ![T, 128]⟩ .f32) (M3 : Memref sig .scVector .hbm ⟨3, ![32, n, b]⟩ .i32)
  (M4 : Memref sig .scVector .hbm ⟨2, ![R, 128]⟩ .f32) (M5 : Memref sig .scVector .vmem ⟨2, ![n, b]⟩ .i32)
  (M6 : Memref sig .scVector .vmem ⟨3, ![2, b, 128]⟩ .f32)
variable (cc : Fin τ.nSC) (ii : Fin τ.nSub) (d : Dev nD)
variable (h2 : ∀ a, (![0, 0] : Fin 2 → ℕ) a + (⟨2, ![T, 128]⟩ : Shape).size a ≤ (⟨2, ![T, 128]⟩ : Shape).size a)
variable (off3 : Fin 3 → ℕ) (h3 : ∀ a, off3 a + (⟨3, ![1, n, b]⟩ : Shape).size a ≤ (⟨3, ![32, n, b]⟩ : Shape).size a)
  (hq3 : (⟨3, ![1, n, b]⟩ : Shape).Squeezes ⟨2, ![n, b]⟩)
variable (hq5 : (⟨2, ![1, b]⟩ : Shape).Squeezes ⟨1, ![b]⟩) (hq6 : (⟨3, ![1, b, 128]⟩ : Shape).Squeezes ⟨2, ![b, 128]⟩)
variable (off4 : Fin n → Fin 2 → ℕ)
    (h4 : ∀ g a, off4 g a + (⟨2, ![b, 128]⟩ : Shape).size a ≤ (⟨2, ![R, 128]⟩ : Shape).size a)

local notation "th" => ((d, Proc.scVector cc ii) : Thread nD τ)

variable (ft : Buf (Elt F) (M2.view.loc (d, Proc.scVector cc ii))) (fi : Buf (Elt F) (M3.view.loc (d, Proc.scVector cc ii)))
  (fR : Buf (Elt F) (M4.view.loc (d, Proc.scVector cc ii)))

variable {Λ : Labels} {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (EC : UEmb Counters (MT nD τ sig Ix (Elt F) Name U Lvl)) (𝒱 : Variants) (bd : Option 𝒱.V)
variable [Infinite Name] [EC.LandsIn (upEmb : UEmb _ (MT nD τ sig Ix (Elt F) Name U Lvl))]

include EC in
/-- The task on the tile `(c, s)`, from what its thread is handed: what the call hands it, its own buffers and semaphores. -/
theorem wp_task (c : Fin 2) (s : Fin 16) (hoff3 : off3 = ![(wid c s).val, 0, 0]) (hoff4 : off4 = cOff n b (wid c s))
    (hg : (⟨2, ![T, 128]⟩ : Shape).Gathers 0 ⟨2, ![b, 128]⟩) (hn : (⟨1, ![b]⟩ : Shape).numel = (⟨2, ![b, 128]⟩ : Shape).size hg.axis')
    (hsr : (⟨2, ![T, 128]⟩ : Shape).StreamRows 0) (l : List (Fin n)) (hl : (Finset.univ : Finset (Fin n)) = ((0 : Fin n) :: l).toFinset)
    (hnd : ((0 : Fin n) :: l).Nodup)
    (hr : ∀ x, (M3.view.read (Elt F) fi x).toNat < T)
    (hR : M4.view.read (Elt F) fR = gathered (M2.view.read (Elt F) ft) (M3.view.read (Elt F) fi))
    (hs : 0 < (⟨2, ![b, 128]⟩ : Shape).numel) (hsR : 0 < (⟨2, ![n, b]⟩ : Shape).numel)
    (hN : ∀ v : Memref sig .scVector .vmem (⟨2, ![b, 128]⟩ : Shape) .f32,
      ∑ k, (v.slice ((⟨2, ![b, 128]⟩ : Shape).rowRect hg.axis' k) ((⟨2, ![b, 128]⟩ : Shape).stride_rowRect hg.axis' k)).view.dmaCredit = v.view.dmaCredit)
    (sem : Fin (n + 3) → DmaSem sig) (hinj : Function.Injective sem)
    (hsc : ∀ j, (SemLoc.dma (sem j) : SemLoc sig).isScoped .scVector = true)
    (X : sProp 𝕄)
    (hbuf : (ownBufs th : sProp 𝕄) = iprop((∃ f, M5.view.loc th ↦[M5.view.set]{fullShare} f) ∗ (∃ f, M6.view.loc th ↦[M6.view.set]{fullShare} f) ∗ X))
    (ι : Ix) {O : CellTallies nD τ sig Ix} {W : Waits sig Ix} :
    iprop(Transfers.MayWaits th ι O ∗ tileGo hRn M2 M3 M4 cc ii d ft fi c s ∗ ownBufs th ∗ ownSems0 th ∗ owes th O W)
      ⊢ wp frame (wpE defs 𝒱 th bd) Set.univ
          (gProg (F := F) (tblOf M2 h2) hg hn hsr (chunkOf M4 M5 hq5 off4 h4 fun g => sem g.succ.succ.succ) (isrcOf M3 off3 h3 hq3) M5 (sem 2) l 0
            (slotOf M6 hq6 (sem 0) 0) (slotOf M6 hq6 (sem 1) 1)) fun _ =>
        (iprop(tileTd hRn M2 M3 M4 cc ii d ft fi fR c s ∗ ownBufs th ∗ ownSems0 th
          ∗ ∃ W', ⌜∀ p ∈ W', p ∈ W ∨ p.2 = ι⌝ ∗ owes th O W') : sProp 𝕄) := by
  subst hoff4
  rw [hbuf, ownSems_family d cc ii sem hinj hsc, bigSep_univ_succ, bigSep_univ_succ, bigSep_univ_succ]
  unfold tileGo tileTd reads
  iintro ⟨#Hmw, ⟨⟨Hi, Ht⟩, Hp⟩, ⟨H5, H6, HX⟩, ⟨⟨HA, HB, His, Hos⟩, HY⟩, HO⟩
  ihave Hw := (wp_tile (defs := defs) M2 M3 M4 M5 M6 cc ii d h2 off3 h3 hq3 hq5 hq6 _ h4 (fun g => sem g.succ.succ.succ) ft fi fR EC 𝒱 bd
    (sem 0) (sem 1) (sem 2) (tq c s) (tq c s) ι (wid c s) hoff3 (fun g => rfl) hg hn hsr l hl hnd hr hR hs hsR hN) $$ [Hi Ht Hp H5 H6 HA HB His Hos HO]
  · isplitr; · iexact Hmw
    isplitl [Hi]; · iexact Hi
    isplitl [Ht]; · iexact Ht
    isplitl [Hp]; · iexact Hp
    isplitl [H5]; · iexact H5
    isplitl [H6]; · iexact H6
    isplitl [His]; · iexact His
    isplitl [Hos]; · iexact Hos
    isplitl [HA]; · iexact HA
    isplitl [HB]; · iexact HB
    iexact HO
  iapply (wp_wand frame (wpE defs 𝒱 th bd)) $$ Hw
  iintro %u ⟨Hi, Ht, Hp, H5, H6, His, Hos, HA, HB, HW⟩
  isplitl [Hi Ht Hp]
  · isplitl [Hi Ht]
    · isplitl [Hi]; · iexact Hi
      iexact Ht
    iexact Hp
  isplitl [H5 H6 HX]
  · isplitl [H5]; · iexact H5
    isplitl [H6]; · iexact H6
    iexact HX
  isplitl [His Hos HA HB HY]
  · isplitr [HY]
    · isplitl [HA]; · iexact HA
      isplitl [HB]; · iexact HB
      isplitl [His]; · iexact His
      iexact Hos
    iexact HY
  iexact HW

end Task

end Cert.Proof.GatherTask
-- ==== Proof.HeldRegion.lean ====
/-
  A TensorCore pipeline entered between the calls of a SparseCore program: the core holds a set of buffers at a valuation and owes the
  signals of the calls still to come, its recorded waits within a bound. It leaves the buffers at the pipeline's results,
  owing the same, the recorded waits within that bound and the pipeline's own.
-/
module

public import Idealize.ShloMosaic.Lib.Pipeline.RegionArraysS

@[expose] public section

noncomputable section

namespace Cert.Proof.HeldRegion

open Idealize.ShloMosaic Idealize.ShloMosaic.Pipeline
open Idealize.SL
open Idealize.SL.BI (sProp)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {P : Type} [Fintype P]

local notation "𝕄" => MT nD τ sig Ix Val Name U Lvl

variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (τ := τ) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl) (p : P)
  (D : Dev nD → CellTallies nD τ sig Ix) (B : Dev nD → Set (SemLoc sig × Ix))

omit [Fintype P] in
/-- What the core owes at any point, its recorded waits within the bound and the pipeline's own. -/
theorem owesAt_eq (c : Dev nD) (t : Fin ((pin pcs a p).N + 1)) (ho : (pdats p c).owed t = D c) (hr : (pdats p c).recorded t = B c) :
    (pdats p c).owesAt ι t = (owesWithin c (D c) (B c ∪ (pin pcs a p).waitPairs ι) : sProp 𝕄) := by
  unfold Dat.owesAt Dat.bound; rw [ho, hr]

/-- The pipeline as a region entered with `S` held at `W`, what the core owes kept throughout. -/
def seg (S : Finset (DevRef τ sig)) (kit : PLaunchFacts (nD := nD) (τ := τ) pcs p) (hS : arrRefs (pcs p).spec ⊆ S) (hK : (pcs p).pre.K = 0)
    (hbody : ∀ c, BodyObligationLoose (pdats p c) defs₀ 𝒱₀ ι Set.univ)
    (howed : ∀ c t, (pdats p c).owed t = D c) (hrec : ∀ c t, (pdats p c).recorded t = B c)
    (hshare : ∀ c w, (pdats p c).share w = fullShare) (hΦ : ∀ c t, (pdats p c).Φ t = scopedRest (pin pcs a p).spec c)
    (hwaits : ∀ c, (levAts L lv : sProp 𝕄) ⊢ cellsWaits (pin pcs a) pdats ι p c)
    (W : Dev nD → Valuation τ sig Val) (hA : ∀ c w, (pdats p c).A w = W c (Proc.devRef .tc (arrRef (pin pcs a p).spec w))) :
    RegionSeg pcs a pdats ι defs₀ 𝒱₀ L lv p where
  win := kit.win.to₀
  block_pos := kit.block_pos
  stage_whole := kit.stage_whole
  K := PEmpty
  osem k := k.elim
  ho := OwnSemFacts.none _
  hbody := hbody
  hwaits := hwaits
  pre c := iprop(StableHlo.held (c.tc : Thread nD τ) S (W c) ∗ owesWithin c (D c) (B c))
  post c := iprop(StableHlo.held (c.tc : Thread nD τ) S (afterRegion (pdats p c) (W c)) ∗ owesWithin c (D c) (B c ∪ (pin pcs a p).waitPairs ι))
  X _ := BI.emp
  Y _ := BI.emp
  Z c := StableHlo.held (c.tc : Thread nD τ) (S \ arrRefs (pcs p).spec) (W c)
  hentry c := by
    rw [owesAt_eq pcs a pdats ι p D B c 0 (howed c 0) (hrec c 0), ownSems0_none, prefHeld_of_none _ hK, arrays_held pcs a pdats p kit c (hshare c) ((pdats p c).arrAt · 0) (W c) (hA c),
      StableHlo.held_sub_split (c.tc : Thread nD τ) hS (W c)]
    iintro ⟨⟨⟨Ha, Hz⟩, %Wd, %hWd, HO⟩, He, Hl⟩
    imodintro
    isplitl [Ha]; · iexact Ha
    isplitl []; · iempintro
    isplitl [HO]
    · iexists Wd; isplitr
      · ipureintro; intro x hx; exact Or.inl (hWd hx)
      · iexact HO
    isplitl [He]; · iexact He
    iexact Hz
  hin c := by
    rw [hΦ c 0, prefHeld_of_none _ hK]
    iintro ⟨-, -, H⟩; iexact H
  hout c := by
    rw [hΦ c, ownSems0_none]
    iintro H
    isplitl []; · iempintro
    isplitl []; · iempintro
    iexact H
  hexit c := by
    rw [owesAt_eq pcs a pdats ι p D B c _ (howed c _) (hrec c _), arrays_held pcs a pdats p kit c (hshare c) ((pdats p c).arrAt · (pin pcs a p).N) (afterRegion (pdats p c) (W c))
        (fun w => (afterRegion_arr (pdats p c) (W c) kit.win.arr_inj w).symm),
      StableHlo.held_sub_split (c.tc : Thread nD τ) hS (afterRegion (pdats p c) (W c)),
      StableHlo.held_congr (c.tc : Thread nD τ) (S := S \ arrRefs (pcs p).spec) (V := afterRegion (pdats p c) (W c)) (V' := W c)
        (afterRegion_off (pdats p c) (W c) S)]
    iintro ⟨Ha, HO, -, Hz⟩
    imodintro
    isplitl [Ha Hz]
    · isplitl [Ha]; · iexact Ha
      iexact Hz
    iexact HO

include phinj in
/-- The pipeline's call, at the program's body table, from `S` held at `W` to `S` held at `W` with the pipeline's results. -/
theorem wp_call [∀ e, Nonempty (Val e)] [Infinite Name] [EP.LandsIn (upEmb : UEmb _ 𝕄)]
    (S : Finset (DevRef τ sig)) (kit : PLaunchFacts (nD := nD) (τ := τ) pcs p) (hS : arrRefs (pcs p).spec ⊆ S) (hK : (pcs p).pre.K = 0)
    (hbody : ∀ c, BodyObligationLoose (pdats p c) defs₀ 𝒱₀ ι Set.univ)
    (howed : ∀ c t, (pdats p c).owed t = D c) (hrec : ∀ c t, (pdats p c).recorded t = B c)
    (hshare : ∀ c w, (pdats p c).share w = fullShare) (hΦ : ∀ c t, (pdats p c).Φ t = scopedRest (pin pcs a p).spec c)
    (hwaits : ∀ c, (levAts L lv : sProp 𝕄) ⊢ cellsWaits (pin pcs a) pdats ι p c)
    (W : Dev nD → Valuation τ sig Val) (hA : ∀ c w, (pdats p c).A w = W c (Proc.devRef .tc (arrRef (pin pcs a p).spec w)))
    (c : Dev nD) {α : Type} (k : PUnit → Prog (TpuEff nD τ sig Val (Sig Λ₀ P fun p => (pcs p).Adm) .tc) α) (Q : α → sProp 𝕄) :
    iprop((iprop(boundary (c.tc : Thread nD τ) ∗ StableHlo.held (c.tc : Thread nD τ) S (afterRegion (pdats p c) (W c))
          ∗ owesWithin c (D c) (B c ∪ (pin pcs a p).waitPairs ι))
          -∗ wp frame (wpE (Pipeline.defs pcs defs₀) (Variants.lift 𝒱₀) (c.tc : Thread nD τ) none) Set.univ (k ⟨⟩) Q)
        ∗ boundary (c.tc : Thread nD τ) ∗ (StableHlo.held (c.tc : Thread nD τ) S (W c) ∗ owesWithin c (D c) (B c)) ∗ levAts L lv
        ∗ cellsGhost (pin pcs a) EP p c ∗ toksInit (pin pcs a) EP p c)
      ⊢ wp frame (wpE (Pipeline.defs pcs defs₀) (Variants.lift 𝒱₀) (c.tc : Thread nD τ) none) Set.univ (.op (.customCall (entry p) ()) k) Q :=
  RegionSeg.wp pcs a pdats ι phinj EP defs₀ 𝒱₀ L lv
    (seg pcs a pdats ι defs₀ 𝒱₀ L lv p D B S kit hS hK hbody howed hrec hshare hΦ hwaits W hA) c none (fun _ h => nomatch h) k Q

end Cert.Proof.HeldRegion

end
-- ==== Proof.Ranges.lean ====
/-
  What the precondition says of the index arrays: every word of each, read unsigned, is at most the last row it may name.
-/
module

public import proofs.«01_k».proof.Pre_in_range
public import Idealize.ShloMosaic.Lib.ReduceAll
public import Idealize.ShloMosaic.Lib.Affine

@[expose] public section

namespace Cert.Proof.Ranges

open Idealize.ShloMosaic
open Cert.Pre_in_range Cert.Pre_in_range.Facts

/-- A word at least 0 and at most `hi`, read signed, is at most `hi` read unsigned. -/
theorem toNat_le {a : BitVec 32} {hi : ℕ} (hhi : hi < 2 ^ 31) (h0 : (0#32 : BitVec 32).toInt ≤ a.toInt) (h1 : a.toInt ≤ (BitVec.ofNat 32 hi).toInt) : a.toNat ≤ hi := by
  rw [show (0#32 : BitVec 32).toInt = 0 by decide, BitVec.toInt_eq_toNat_cond] at h0
  rw [BitVec.toInt_eq_toNat_cond, BitVec.toInt_eq_toNat_cond, BitVec.toNat_ofNat, Nat.mod_eq_of_lt (by omega)] at h1
  have := a.isLt
  split at h0 <;> split at h1 <;> omega

/-- A scalar has one index. -/
instance : Subsingleton S_.Idx := ⟨fun _ _ => funext fun i => i.elim0⟩

/-- `(x >= 0).all() & (x <= hi).all()`, as it prints, all ones: every word of `x` is at most `hi`. -/
theorem le_of_all {s : Shape} {axes : List (Fin s.rank)} (x : IVec s 32) (hi : ℕ) (hhi : hi < 2 ^ 31)
    (hb : S_.BroadcastsInDim s (![] : Fin 0 → Fin s.rank)) (hr : s.ReducesTo axes S_) (hu : 0 < S_.numel) (j : S_.Idx)
    (e : andi (Host.reduce IntOp.andi (cmpi .sge x (broadcastInDim s ![] hb (constantI S_ 32 0#32))) (constantI S_ 1 1#1) hr hu)
      (Host.reduce IntOp.andi (cmpi .sle x (broadcastInDim s ![] hb (constantI S_ 32 (BitVec.ofNat 32 hi)))) (constantI S_ 1 1#1) hr hu) j = 1#1) (i : s.Idx) :
    (x i).toNat ≤ hi := by
  obtain ⟨e0, e1⟩ := IntOp.andi_eq_one.1 e
  exact toNat_le hhi (IntOp.cmpi_sge.1 (Host.reduce_andi_all _ _ _ _ j e0 i)) (IntOp.cmpi_sle.1 (Host.reduce_andi_all _ _ _ _ j e1 i))

/-- The six index arrays within their tables. -/
structure InRange (a0 : IVec S1024x32 32) (a1 : IVec S1024 32) (a2 a3 : IVec S16384x8 32) (a5 a6 : IVec S1024 32) : Prop where
  path : ∀ i, (a0 i).toNat ≤ 16384
  rel : ∀ i, (a1 i).toNat ≤ 230
  paths : ∀ i, (a2 i).toNat ≤ 230
  time : ∀ i, (a3 i).toNat ≤ 4019
  rpos : ∀ i, (a5 i).toNat ≤ 230
  neg : ∀ i, (a6 i).toNat ≤ 16384

variable [Cert.Pre_in_range.Facts]

set_option maxRecDepth 16384 in
/-- The precondition is that. -/
theorem inRange {F : FTy → Type} [FloatOps F] (a0 a1 a2 a3 a4 a5 a6 a7 a8 a9 a10 a11 a12 a13 a14 a15)
    (h : Cert.Pre_in_range.fn (F := F) a0 a1 a2 a3 a4 a5 a6 a7 a8 a9 a10 a11 a12 a13 a14 a15 = fun _ => 1#1) : InRange a0 a1 a2 a3 a5 a6 := by
  have e := congrFun h (fun i => i.elim0)
  unfold fn fn_part1 fn_part2 at e
  obtain ⟨e, h6⟩ := IntOp.andi_eq_one.1 e
  obtain ⟨e, h5⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨le_of_all a0 16384 (by decide) _ _ _ _ h0, le_of_all a1 230 (by decide) _ _ _ _ h1, le_of_all a2 230 (by decide) _ _ _ _ h2,
    le_of_all a3 4019 (by decide) _ _ _ _ h3, le_of_all a5 230 (by decide) _ _ _ _ h5, le_of_all a6 16384 (by decide) _ _ _ _ h6⟩

end Cert.Proof.Ranges
-- ==== Proof.KernelIdeal.Bodies.lean ====
/-
  The three SparseCore calls as gather loops. Each call's printed body is the program `GatherLoop.gProg` at the call's
  own sizes: `body1_eq`, `body3_eq`, `body4_eq`.
-/
module

public import proofs.«01_k».proof.Defs
public import proofs.«01_k».proof.Proof.GatherTile
public import proofs.«01_k».proof.Proof.Gen.KernelIdeal
public import proofs.«01_k».proof.Proof.Gen.KernelIdeal.Skeleton
public import Idealize.ShloMosaic.Lib.Tactic

@[expose] public section

noncomputable section

namespace Cert.KernelIdeal.Pf

open Cert.KernelIdeal Cert.KernelIdeal.Gen
open Cert.Proof.GatherLoop Cert.Proof.GatherTile
open Idealize.ShloMosaic Idealize.SL.Sem

variable {F : FTy → Type} [FloatOps F]

/-! ## Call 4: 1 chunks of 64 rows for each tile -/

/-- The semaphores a task of the call uses: the two slots', the lists', the chunks'. -/
def sem4 : Fin 4 → DmaSem sig := ![cc4_scratch2.sem, cc4_scratch3.sem, cc4_scoped0.sem, cc4_scoped1.sem]

/-- The chunks after the first. -/
def more4 : List (Fin 1) := []

/-- Where the chunks of the tile at `i` begin. -/
def outOff4 (i : grid4.Coords) : Fin 1 → Fin 2 → ℕ := fun _ => k4_off2 i

@[inherit_doc outOff4]
theorem outOff4_inb (i : grid4.Coords) : ∀ g a, outOff4 i g a + (⟨2, ![64, 128]⟩ : Shape).size a ≤ (⟨2, ![2048, 128]⟩ : Shape).size a := fun _ => k4_off2_inb i

/-- The call's task on the tile at `i`, as a gather loop. -/
def prog4 (i : grid4.Coords) : Prog (TpuEff nD τ sig (Elt F) Λ₀ (.scVector ((i 0).castLE hcore4) ((i 1).castLE hsub4))) PUnit :=
  gProg (tblOf (Memref.whole main_v12_1_scv) inb_S256x128_S256x128_0_0) gathers_S256x128_S64x128 rfl (by decide)
    (chunkOf (Memref.whole main_v31_scv) (Memref.whole cc4_scratch0) squeezes_S1x64_S64 (outOff4 i) (outOff4_inb i) fun g => sem4 g.succ.succ.succ)
    (isrcOf (Memref.whole main_v30_scv) (k4_off1 i) (k4_off1_inb i) squeezes_S1x1x64_S1x64) (Memref.whole cc4_scratch0) (sem4 2) more4 0
    (slotOf (Memref.whole cc4_scratch1) squeezes_S1x64x128_S64x128 (sem4 0) 0) (slotOf (Memref.whole cc4_scratch1) squeezes_S1x64x128_S64x128 (sem4 1) 1)

set_option maxRecDepth 65536 in
set_option maxHeartbeats 2000000 in
/-- The call's body on a tile is the gather loop over its chunks. -/
theorem body4_eq (i : grid4.Coords) :
    cc4_gather_k (F := F) i (Memref.whole main_v12_1_scv) (Memref.isWhole_whole _) (Memref.whole main_v30_scv) (Memref.isWhole_whole _) (Memref.whole main_v31_scv) (Memref.isWhole_whole _)
        (Memref.whole cc4_scratch0) (Memref.isWhole_whole _) (Memref.whole cc4_scratch1) (Memref.isWhole_whole _) cc4_scratch2 cc4_scratch3
        cc4_scoped0 cc4_scoped1
      = prog4 i := by
  rfl

/-! ## Call 3: 11 chunks of 96 rows for each tile -/

/-- The semaphores a task of the call uses: the two slots', the lists', the chunks'. -/
def sem3 : Fin 14 → DmaSem sig := ![cc3_scratch2.sem, cc3_scratch3.sem, cc3_scoped0.sem, cc3_scoped1.sem, cc3_scoped2.sem, cc3_scoped3.sem, cc3_scoped4.sem, cc3_scoped5.sem, cc3_scoped6.sem, cc3_scoped7.sem, cc3_scoped8.sem, cc3_scoped9.sem, cc3_scoped10.sem, cc3_scoped11.sem]

/-- The chunks after the first. -/
def more3 : List (Fin 11) := [1, 2, 3, 4, 5, 6, 7, 8, 9, 10]

/-- Where the chunks of the tile at `i` begin. -/
def outOff3 (i : grid3.Coords) : Fin 11 → Fin 2 → ℕ := fun g => k3_off2 i (BitVec.ofNat 32 (96 * g.val))

@[inherit_doc outOff3]
theorem outOff3_inb (i : grid3.Coords) : ∀ g a, outOff3 i g a + (⟨2, ![96, 128]⟩ : Shape).size a ≤ (⟨2, ![33792, 128]⟩ : Shape).size a := fun g => k3_off2_inb i g

/-- The call's task on the tile at `i`, as a gather loop. -/
def prog3 (i : grid3.Coords) : Prog (TpuEff nD τ sig (Elt F) Λ₀ (.scVector ((i 0).castLE hcore3) ((i 1).castLE hsub3))) PUnit :=
  gProg (tblOf (Memref.whole main_v22_scv) inb_S16392x128_S16392x128_0_0) gathers_S16392x128_S96x128 rfl (by decide)
    (chunkOf (Memref.whole main_v28_scv) (Memref.whole cc3_scratch0) squeezes_S1x96_S96 (outOff3 i) (outOff3_inb i) fun g => sem3 g.succ.succ.succ)
    (isrcOf (Memref.whole main_v27_scv) (k3_off1 i) (k3_off1_inb i) squeezes_S1x11x96_S11x96) (Memref.whole cc3_scratch0) (sem3 2) more3 0
    (slotOf (Memref.whole cc3_scratch1) squeezes_S1x96x128_S96x128 (sem3 0) 0) (slotOf (Memref.whole cc3_scratch1) squeezes_S1x96x128_S96x128 (sem3 1) 1)

set_option maxRecDepth 65536 in
set_option maxHeartbeats 2000000 in
/-- The call's body on a tile is the gather loop over its chunks. -/
theorem body3_eq (i : grid3.Coords) :
    cc3_gather_k (F := F) i (Memref.whole main_v22_scv) (Memref.isWhole_whole _) (Memref.whole main_v27_scv) (Memref.isWhole_whole _) (Memref.whole main_v28_scv) (Memref.isWhole_whole _)
        (Memref.whole cc3_scratch0) (Memref.isWhole_whole _) (Memref.whole cc3_scratch1) (Memref.isWhole_whole _) cc3_scratch2 cc3_scratch3
        cc3_scoped0 cc3_scoped1 cc3_scoped2 cc3_scoped3 cc3_scoped4 cc3_scoped5 cc3_scoped6 cc3_scoped7 cc3_scoped8 cc3_scoped9 cc3_scoped10 cc3_scoped11
      = prog3 i := by
  rfl

/-! ## Call 1: 32 chunks of 128 rows for each tile -/

/-- The semaphores a task of the call uses: the two slots', the lists', the chunks'. -/
def sem1 : Fin 35 → DmaSem sig := ![cc1_scratch2.sem, cc1_scratch3.sem, cc1_scoped0.sem, cc1_scoped1.sem, cc1_scoped2.sem, cc1_scoped3.sem, cc1_scoped4.sem, cc1_scoped5.sem, cc1_scoped6.sem, cc1_scoped7.sem, cc1_scoped8.sem, cc1_scoped9.sem, cc1_scoped10.sem, cc1_scoped11.sem, cc1_scoped12.sem, cc1_scoped13.sem, cc1_scoped14.sem, cc1_scoped15.sem, cc1_scoped16.sem, cc1_scoped17.sem, cc1_scoped18.sem, cc1_scoped19.sem, cc1_scoped20.sem, cc1_scoped21.sem, cc1_scoped22.sem, cc1_scoped23.sem, cc1_scoped24.sem, cc1_scoped25.sem, cc1_scoped26.sem, cc1_scoped27.sem, cc1_scoped28.sem, cc1_scoped29.sem, cc1_scoped30.sem, cc1_scoped31.sem, cc1_scoped32.sem]

/-- The chunks after the first. -/
def more1 : List (Fin 32) := [1, 2, 3, 4, 5, 6, 7, 8, 9, 10, 11, 12, 13, 14, 15, 16, 17, 18, 19, 20, 21, 22, 23, 24, 25, 26, 27, 28, 29, 30, 31]

/-- Where the chunks of the tile at `i` begin. -/
def outOff1 (i : grid1.Coords) : Fin 32 → Fin 2 → ℕ := fun g => k1_off2 i (BitVec.ofNat 32 (128 * g.val))

@[inherit_doc outOff1]
theorem outOff1_inb (i : grid1.Coords) : ∀ g a, outOff1 i g a + (⟨2, ![128, 128]⟩ : Shape).size a ≤ (⟨2, ![131072, 128]⟩ : Shape).size a := fun g => k1_off2_inb i g

/-- The call's task on the tile at `i`, as a gather loop. -/
def prog1 (i : grid1.Coords) : Prog (TpuEff nD τ sig (Elt F) Λ₀ (.scVector ((i 0).castLE hcore1) ((i 1).castLE hsub1))) PUnit :=
  gProg (tblOf (Memref.whole main_v12_0_scv) inb_S4096x128_S4096x128_0_0) gathers_S4096x128_S128x128 rfl (by decide)
    (chunkOf (Memref.whole main_v15_scv) (Memref.whole cc1_scratch0) squeezes_S1x128_S128 (outOff1 i) (outOff1_inb i) fun g => sem1 g.succ.succ.succ)
    (isrcOf (Memref.whole main_v14_scv) (k1_off1 i) (k1_off1_inb i) squeezes_S1x32x128_S32x128) (Memref.whole cc1_scratch0) (sem1 2) more1 0
    (slotOf (Memref.whole cc1_scratch1) squeezes_S1x128x128_S128x128 (sem1 0) 0) (slotOf (Memref.whole cc1_scratch1) squeezes_S1x128x128_S128x128 (sem1 1) 1)

set_option maxRecDepth 65536 in
set_option maxHeartbeats 2000000 in
/-- The call's body on a tile is the gather loop over its chunks. -/
theorem body1_eq (i : grid1.Coords) :
    cc1_gather_k (F := F) i (Memref.whole main_v12_0_scv) (Memref.isWhole_whole _) (Memref.whole main_v14_scv) (Memref.isWhole_whole _) (Memref.whole main_v15_scv) (Memref.isWhole_whole _)
        (Memref.whole cc1_scratch0) (Memref.isWhole_whole _) (Memref.whole cc1_scratch1) (Memref.isWhole_whole _) cc1_scratch2 cc1_scratch3
        cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32
      = prog1 i := by
  rfl

end Cert.KernelIdeal.Pf
-- ==== Proof.KernelIdeal.Setup.lean ====
/-
  The program as the launch of its three SparseCore calls sees it: the calls' configuration, the body table of its three
  TensorCore calls, and the algebra its proof runs over — the handshakes' rounds, the pipelines' rounds, the counters.
-/
module

public import proofs.«01_k».proof.Proof.KernelIdeal.Bodies
public import proofs.«01_k».proof.Proof.GatherTask
public import proofs.«01_k».proof.Proof.Gen.KernelIdeal.Launch

@[expose] public section

noncomputable section

namespace Cert.KernelIdeal.Pf

open Cert.KernelIdeal Cert.KernelIdeal.Gen
open Idealize.ShloMosaic
open Idealize.SL Idealize.SL.RA Idealize.SL.BI
open scoped Idealize.SL.BI
open Idealize.SL.BI.BIBase Idealize.SL.Sem
open Idealize.ShloMosaic.Rounds
open Idealize.ShloMosaic.SparseCore.Cfg (HIx)

variable {F : FTy → Type}

/-- The labels of the program's bodies: the kernels and the three pipelines. -/
abbrev ΛP : Labels := Pipeline.Sig Λ₀ (Fin 3) fun p => (pcfgs (F := F) p).Adm

/-- The three SparseCore calls. -/
abbrev K : SparseCore.Cfg τ sig (ΛP (F := F)) 3 := sc (F := F)

/-- The bodies the calls run under. -/
abbrev D [FloatOps F] : Defs nD τ sig (Elt F) (ΛP (F := F)) := Pipeline.defs pcfgs defs₀

/-- The kernels' bodies recurse through no label. -/
abbrev 𝒱₀ : Variants := Variants.none
@[inherit_doc 𝒱₀]
abbrev 𝒱 : Variants := 𝒱₀.lift
@[inherit_doc 𝒱₀]
abbrev v₀ : 𝒱.V := Sum.inl none

/-- The handshakes' semaphores are distinct and unscoped; no sequencer's buffer is shared with a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, -/
abbrev UH : Type := URounds (GSem nD τ sig) ℕ
/-- the pipelines' rounds, -/
abbrev UP : Type := UR sig nD τ
/-- and the transfers' counters. -/
abbrev UU : Type := UH × (UP × Counters)

local notation "𝕄" => MT nD τ sig (HIx 3) (Elt F) ℕ UU ℕ

/-- Where the handshakes' rounds sit. -/
abbrev EH : Emb UH (MT nD τ sig (HIx 3) (Elt F) ℕ UU ℕ) := embL
/-- Where the pipelines' rounds sit. -/
abbrev EP : Emb UP (MT nD τ sig (HIx 3) (Elt F) ℕ UU ℕ) := (Emb.inl : Emb UP (UP × Counters)).trans embR

/-- The pipelines' rounds land in the user part of the model. -/
instance EP_landsIn : (EP (F := F)).LandsIn (upEmb : UEmb _ (MT nD τ sig (HIx 3) (Elt F) ℕ UU ℕ)) := by
  unfold EP; infer_instance

end Cert.KernelIdeal.Pf
-- ==== Proof.KernelIdeal.RegionBodies.lean ====
/-
  What the three TensorCore kernels leave in the buffers of their results, each run once on whole staging buffers: the
  relation table's normalisation and the time table's product (`wp_prep`), the eight steps of the recurrent cell
  (`wp_gru`), and the score of a block of queries (`wp_score`).
-/
module

public import proofs.«01_k».proof.Proof.KernelIdeal.Setup
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionsLoop
public import Idealize.ShloMosaic.Lib.Tactic

@[expose] public section

noncomputable section

namespace Cert.KernelIdeal.Pf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 3) (Elt F) ℕ UU ℕ

/-- Memref `M`'s buffer on core `c`: its contents, and it held whole at `f`. -/
abbrev Bf (c : Dev nD) {sp : Space} {S : Shape} {e : EltTy} (M : Memref sig .tc sp S e) : Type := Buf (Elt F) (M.view.loc (c : Thread nD τ))
@[inherit_doc Bf]
abbrev pt (c : Dev nD) {sp : Space} {S : Shape} {e : EltTy} (M : Memref sig .tc sp S e) (f : Bf (F := F) c M) : sProp 𝕄 :=
  M.view.loc (c : Thread nD τ) ↦{fullShare} f

/-- A store of a whole block leaves what was stored, -/
theorem read_store {sp : Space} {S : Shape} {e : EltTy} (v : View sig .tc sp S e) (f : v.ty.Contents (Elt F)) {off : Fin S.rank → ℕ} (h : off = fun _ => 0)
    (inb : ∀ a, off a + S.size a ≤ S.size a) (w : S.Idx → Elt F e) : v.read (Elt F) (v.writes (Elt F) f [⟨Rect.unit off S.size inb, w⟩]) = w := by
  subst h; exact View.read_writes_whole v f w
/-- and a load of a whole block reads all of it. -/
theorem load_all {sp : Space} {S : Shape} {e : EltTy} (v : View sig .tc sp S e) (f : v.ty.Contents (Elt F)) {off : Fin S.rank → ℕ} (h : off = fun _ => 0)
    (inb : ∀ a, off a + S.size a ≤ S.size a) : v.readAt (Elt F) (Rect.unit off S.size inb).toLoadRect f = v.read (Elt F) f := by
  subst h; funext x; show v.read (Elt F) f ((Rect.whole S).emb x) = _; rw [Rect.emb_whole_apply]

/-- The offset at zero, in each number of dimensions. -/
theorem zero2 : (![0, 0] : Fin 2 → ℕ) = fun _ => 0 := by decide
@[inherit_doc zero2]
theorem zero3 : (![0, 0, 0] : Fin 3 → ℕ) = fun _ => 0 := by decide
@[inherit_doc zero2]
theorem zero4 : (![0, 0, 0, 0] : Fin 4 → ℕ) = fun _ => 0 := by decide

/-- The score's body, from its three whole blocks: it reads the first two and leaves their scores in the third. -/
theorem wp_score (c : Dev nD) (i : grid5.Coords) (M0 : Memref sig .tc .vmem S4096x128 .f32) (h0 : M0.IsWhole) (M1 : Memref sig .tc .vmem S128x128 .f32) (h1 : M1.IsWhole)
   (M2 : Memref sig .tc .vmem S1x1x128 .f32) (h2 : M2.IsWhole)
    (f0 : Bf (F := F) c M0) (f1 : Bf (F := F) c M1) (f2 : Bf (F := F) c M2) (E : Set ℕ) (Q : PUnit → sProp 𝕄) :
        iprop(pt c M0 f0 ∗ pt c M1 f1 ∗ pt c M2 f2 ∗ (iprop(pt c M0 f0 ∗ pt c M1 f1 ∗ ∃ f2' : Bf (F := F) c M2, ⌜M2.view.read (Elt F) f2' = k5_pay1 (M0.view.read (Elt F) f0) (M1.view.read (Elt F) f1)⌝ ∗ pt c M2 f2') -∗ Q ⟨⟩))
          ⊢ wp frame (wpE (defs₀ (F := F)) Variants.none c none) E (cc5__score_body i M0 h0 M1 h1 M2 h2) Q := by
  rw [cc5__score_body_eq_skeleton]; unfold cc5__score_body_skel
  iintro ⟨H0, H1, H2, Hk⟩
  sl_exec!
  sl_step
  iapply Hk
  isplitl [H0]; · iexact H0
  isplitl [H1]; · iexact H1
  iexists _; isplitr; swap; · iexact H2
  ipureintro
  sl_unfold_run_names
  exact (read_store _ _ zero3 _ _).trans (congrArg₂ k5_pay1 (load_all _ _ zero2 _) (load_all _ _ zero2 _))

/-- The hidden states after the eight steps, before they are normalised: what the kernel's pieces compute, in their order. -/
def gruLast (v0 : Vec F S8x1024x1 .i32) (v24 : Vec F S1x1x1024 .i32) (v7 : Vec F S8x1x1024x128 .f32) (v12 : Vec F S256x128 .f32)
    (v16 v28 : Vec F S128x384 .f32) (v19 v31 : Vec F S1x384 .f32) : FVec F S1024x128 .f32 :=
  let v23 := k2_pay2 v0 v7 v12 v16 v19
  let v26 := k2_pay3 (F := F) v24
  let v59 := k2_pay6 v23 v26 k2_pay4 (k2_pay5 v28 v31)
  let v86 := k2_pay7 v23 v26 k2_pay4 (k2_pay5 v28 v31) v28 v31
  let v123 := k2_pay8 v23 v26 v59 v86 v28 v31
  let v130 := k2_pay9 v23 v26 v59 v86 v28 v31 v28 v31
  let v155 := k2_pay12 v26 v123 v130 (k2_pay10 v23) (k2_pay11 v23)
  let v182 := k2_pay13 v23 v26 v123 v130 (k2_pay10 v23) (k2_pay11 v23) v28 v31
  let v184 := k2_pay14 v26
  let v219 := k2_pay15 v23 v26 v155 v182 v184 v28 v31
  let v226 := k2_pay16 v23 v26 v155 v182 v184 v28 v31 v28 v31
  let v232 := k2_pay18 v23 v26 v155 v182 v184 v28 v31 v28 v31
  k2_pay19 v23 v26 v219 v226 (k2_pay17 v23) v232 v28 v31
/-- What the kernel stores: those states normalised. -/
def gruOut (v0 : Vec F S8x1024x1 .i32) (v24 : Vec F S1x1x1024 .i32) (v7 : Vec F S8x1x1024x128 .f32) (v12 : Vec F S256x128 .f32)
    (v16 v28 : Vec F S128x384 .f32) (v19 v31 : Vec F S1x384 .f32) : FVec F S1024x128 .f32 :=
  k2_pay1 (gruLast v0 v24 v7 v12 v16 v28 v19 v31)

/-- The recurrent cell's body, from its whole blocks: it reads its eight arguments and leaves the paths' rows `gruOut` in the ninth. -/
theorem wp_gru (c : Dev nD) (i : grid2.Coords) (M0 : Memref sig .tc .vmem S8x1024x1 .i32) (h0 : M0.IsWhole) (M1 : Memref sig .tc .vmem S1x1x1024 .i32) (h1 : M1.IsWhole)
    (M2 : Memref sig .tc .vmem S8x1x1024x128 .f32) (h2 : M2.IsWhole) (M3 : Memref sig .tc .vmem S256x128 .f32) (h3 : M3.IsWhole)
    (M4 : Memref sig .tc .vmem S128x384 .f32) (h4 : M4.IsWhole) (M5 : Memref sig .tc .vmem S128x384 .f32) (h5 : M5.IsWhole)
    (M6 : Memref sig .tc .vmem S1x384 .f32) (h6 : M6.IsWhole) (M7 : Memref sig .tc .vmem S1x384 .f32) (h7 : M7.IsWhole)
    (M8 : Memref sig .tc .vmem S1024x128 .f32) (h8 : M8.IsWhole)
    (f0 : Bf (F := F) c M0) (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8
        ∗ (iprop(pt c M0 f0 ∗ pt c M1 f1 ∗ pt c M2 f2 ∗ pt c M3 f3 ∗ pt c M4 f4 ∗ pt c M5 f5 ∗ pt c M6 f6 ∗ pt c M7 f7
          ∗ ∃ f' : Bf (F := F) c M8, ⌜M8.view.read (Elt F) f' = gruOut (M0.view.read (Elt F) f0) (M1.view.read (Elt F) f1) (M2.view.read (Elt F) f2)
              (M3.view.read (Elt F) f3) (M4.view.read (Elt F) f4) (M5.view.read (Elt F) f5) (M6.view.read (Elt F) f6) (M7.view.read (Elt F) f7)⌝ ∗ pt c M8 f') -∗ Q ⟨⟩))
      ⊢ wp frame (wpE (defs₀ (F := F)) Variants.none c none) E (cc2__gru_body i M0 h0 M1 h1 M2 h2 M3 h3 M4 h4 M5 h5 M6 h6 M7 h7 M8 h8) Q := by
  rw [cc2__gru_body_eq_skeleton]; unfold cc2__gru_body_skel
  rw [k2_part1_eq_skeleton, k2_part2_eq_skeleton, k2_part3_eq_skeleton, k2_part4_eq_skeleton, k2_part5_eq_skeleton, k2_part6_eq_skeleton]
  unfold k2_part1_skel k2_part2_skel k2_part3_skel k2_part4_skel k2_part5_skel k2_part6_skel
  iintro ⟨H0, H1, H2, H3, H4, H5, H6, H7, H8, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; isplitr; swap; · iexact H8
  ipureintro
  sl_unfold_run_names
  refine (read_store _ _ zero2 _ _).trans ?_
  rw [load_all M0.view f0 zero3, load_all M1.view f1 zero3, load_all M2.view f2 zero4, load_all M3.view f3 zero2, load_all M4.view f4 zero2,
    load_all M5.view f5 zero2, load_all M6.view f6 zero2, load_all M7.view f7 zero2]
  rfl

/-- The first call's body, from its whole arrays: it reads its four arguments and leaves the time table's product and the normalised relation table. -/
theorem wp_prep (c : Dev nD) (M0 : Memref sig .tc .vmem S4096x128 .f32) (h0 : M0.IsWhole) (M1 : Memref sig .tc .vmem S128x128 .f32) (h1 : M1.IsWhole)
    (M2 : Memref sig .tc .vmem S1x128 .f32) (h2 : M2.IsWhole) (M3 : Memref sig .tc .vmem S256x128 .f32) (h3 : M3.IsWhole)
    (M4 : Memref sig .tc .vmem S4096x128 .f32) (h4 : M4.IsWhole) (M5 : Memref sig .tc .vmem S256x128 .f32) (h5 : M5.IsWhole)
    (f0 : Bf (F := F) c M0) (f1 : Bf (F := F) c M1) (f2 : Bf (F := F) c M2) (f3 : Bf (F := F) c M3) (f4 : Bf (F := F) c M4) (f5 : Bf (F := F) c M5)
    (E : Set ℕ) (Q : PUnit → sProp 𝕄) :
    iprop(pt c M0 f0 ∗ pt c M1 f1 ∗ pt c M2 f2 ∗ pt c M3 f3 ∗ pt c M4 f4 ∗ pt c M5 f5
        ∗ (iprop(pt c M0 f0 ∗ pt c M1 f1 ∗ pt c M2 f2 ∗ pt c M3 f3
          ∗ (∃ f' : Bf (F := F) c M4, ⌜M4.view.read (Elt F) f' = k0_pay1 (M0.view.read (Elt F) f0) (M1.view.read (Elt F) f1) (M2.view.read (Elt F) f2)⌝ ∗ pt c M4 f')
          ∗ (∃ f' : Bf (F := F) c M5, ⌜M5.view.read (Elt F) f' = k0_pay2 (M3.view.read (Elt F) f3)⌝ ∗ pt c M5 f')) -∗ Q ⟨⟩))
      ⊢ wp frame (wpE (defs₀ (F := F)) Variants.none c none) E (cc0__prep_body M0 h0 M1 h1 M2 h2 M3 h3 M4 h4 M5 h5) Q := by
  rw [cc0__prep_body_eq_skeleton]; unfold cc0__prep_body_skel
  iintro ⟨H0, H1, H2, H3, H4, H5, Hk⟩
  sl_exec!
  sl_step
  iapply Hk
  isplitl [H0]; · iexact H0
  isplitl [H1]; · iexact H1
  isplitl [H2]; · iexact H2
  isplitl [H3]; · iexact H3
  isplitl [H4]
  · iexists _; isplitr; swap; · iexact H4
    ipureintro
    sl_unfold_run_names
    refine (read_store _ _ zero2 _ _).trans ?_
    rw [load_all M0.view f0 zero2, load_all M1.view f1 zero2, load_all M2.view f2 zero2]
  · iexists _; isplitr; swap; · iexact H5
    ipureintro
    sl_unfold_run_names
    refine (read_store _ _ zero2 _ _).trans ?_
    rw [load_all M3.view f3 zero2]

end Cert.KernelIdeal.Pf
end
-- ==== Proof.KernelIdeal.Regions.lean ====
/-
  The three TensorCore calls as regions of the program: from the buffers at any valuation, owing the SparseCore signals still to
  come, each leaves its results at what its kernel makes of the blocks of its arguments.
-/
module

public import proofs.«01_k».proof.Proof.KernelIdeal.RegionBodies
public import proofs.«01_k».proof.Proof.HeldRegion
public import Idealize.ShloMosaic.Lib.Pipeline.FrameBody

@[expose] public section

noncomputable section

namespace Cert.KernelIdeal.Pf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 3) (Elt F) ℕ UU ℕ

/-! ## Whole staging buffers -/

/-- A whole buffer owned at what it reads is its points-to at some contents reading that. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- Points-to of a whole buffer, back to owning it. -/
theorem owns_of_pt (c : Dev nD) {sp : Space} {S : Shape} {e : EltTy} (M : Memref sig .tc sp S e) (h : M.IsWhole) {X : S.Idx → Elt F e}
    (f : Bf (F := F) c M) (hf : M.view.read (Elt F) f = X) : (pt c M f : sProp 𝕄) ⊢ owns (c : Thread nD τ) M fullShare X := by
  rw [owns_pt c M h]; iintro H; iexists f; isplitr; · ipureintro; exact hf
  iexact H

/-- An input window the body leaves as fetched holds its block when the body runs, whether or not it was fetched at this point. -/
theorem fed {cfg : Cfg sig Λ₀} {c : Dev nD} (dat : Dat τ (Elt F) (HIx 3) ℕ UU ℕ cfg c) (w : Fin cfg.W) (hw : (cfg.win w).isOut = false)
    (hlive : ∀ i, cfg.idle w i = false)
    (hclip : ∀ t t' : Fin cfg.N, (cfg.win w).index t = (cfg.win w).index t' → (cfg.win w).clip (cfg.grid.coords t) = (cfg.win w).clip (cfg.grid.coords t'))
    (hafter : ∀ t d, dat.fetched w t d = dat.after w t) (t : Fin cfg.N) :
    iprop(∃ d, owns (c : Thread nD τ) ((cfg.win w).stage (cfg.slots t w)) fullShare (dat.before w t d))
      ⊢ (owns (c : Thread nD τ) ((cfg.win w).stage (cfg.slots t w)) fullShare (dat.after w t) : sProp 𝕄) := by
  iintro ⟨%d, H⟩
  rw [dat.before_in_eq_fetched w hw hlive hclip (fun t => by rw [← hafter t (dat.after w t)]; exact dat.cut_fetched w t _) t d, hafter]
  iexact H

/-! ## The three kernels on staging buffers -/

/-- The score's kernel, on whole staging buffers owned at what they read. -/
theorem wp_score_owns (c : Dev nD) (i : grid5.Coords)
    (M0 : Memref sig .tc .vmem S4096x128 .f32) (h0 : M0.IsWhole)    (M1 : Memref sig .tc .vmem S128x128 .f32) (h1 : M1.IsWhole)
    (M2 : Memref sig .tc .vmem S1x1x128 .f32) (h2 : M2.IsWhole)
    (X0 : Vec F S4096x128 .f32) (X1 : Vec F S128x128 .f32) (X2 : Vec F S1x1x128 .f32)
    (Q : PUnit → sProp 𝕄) :
    iprop(owns (c : Thread nD τ) M0 fullShare X0
        ∗ owns (c : Thread nD τ) M1 fullShare X1
        ∗ owns (c : Thread nD τ) M2 fullShare X2
        ∗ (iprop(owns (c : Thread nD τ) M0 fullShare X0
          ∗ owns (c : Thread nD τ) M1 fullShare X1
          ∗ owns (c : Thread nD τ) M2 fullShare (k5_pay1 X0 X1)) -∗ Q ⟨⟩))
      ⊢ wp frame (wpE (defs₀ (F := F)) Variants.none c none) Set.univ (cc5__score_body i M0 h0 M1 h1 M2 h2) Q := by
  rw [owns_pt c M0 h0, owns_pt c M1 h1, owns_pt c M2 h2 X2]
  iintro ⟨⟨%f0, %e0, H0⟩, ⟨%f1, %e1, H1⟩, ⟨%f2, %e2, H2⟩, Hk⟩
  subst e0 e1 e2
  iapply (wp_score c i M0 h0 M1 h1 M2 h2 f0 f1 f2 Set.univ Q)
  isplitl [H0]; · iexact H0
  isplitl [H1]; · iexact H1
  isplitl [H2]; · iexact H2
  iintro ⟨H0, H1, ⟨%g2, %d2, H2⟩⟩
  iapply Hk
  isplitl [H0]; · iexists f0; isplitr; (· ipureintro; rfl); iexact H0
  isplitl [H1]; · iexists f1; isplitr; (· ipureintro; rfl); iexact H1
  iapply (owns_of_pt c M2 h2 g2 d2); iexact H2

/-- The recurrent cell's kernel, likewise. -/
theorem wp_gru_owns (c : Dev nD) (i : grid2.Coords)
    (M0 : Memref sig .tc .vmem S8x1024x1 .i32) (h0 : M0.IsWhole)    (M1 : Memref sig .tc .vmem S1x1x1024 .i32) (h1 : M1.IsWhole)
    (M2 : Memref sig .tc .vmem S8x1x1024x128 .f32) (h2 : M2.IsWhole)    (M3 : Memref sig .tc .vmem S256x128 .f32) (h3 : M3.IsWhole)
    (M4 : Memref sig .tc .vmem S128x384 .f32) (h4 : M4.IsWhole)    (M5 : Memref sig .tc .vmem S128x384 .f32) (h5 : M5.IsWhole)
    (M6 : Memref sig .tc .vmem S1x384 .f32) (h6 : M6.IsWhole)    (M7 : Memref sig .tc .vmem S1x384 .f32) (h7 : M7.IsWhole)
    (M8 : Memref sig .tc .vmem S1024x128 .f32) (h8 : M8.IsWhole)
    (X0 : Vec F S8x1024x1 .i32) (X1 : Vec F S1x1x1024 .i32) (X2 : Vec F S8x1x1024x128 .f32) (X3 : Vec F S256x128 .f32) (X4 : Vec F S128x384 .f32) (X5 : Vec F S128x384 .f32) (X6 : Vec F S1x384 .f32) (X7 : Vec F S1x384 .f32) (X8 : Vec F S1024x128 .f32)
    (Q : PUnit → sProp 𝕄) :
    iprop(owns (c : Thread nD τ) M0 fullShare X0
        ∗ owns (c : Thread nD τ) M1 fullShare X1
        ∗ owns (c : Thread nD τ) M2 fullShare X2
        ∗ owns (c : Thread nD τ) M3 fullShare X3
        ∗ owns (c : Thread nD τ) M4 fullShare X4
        ∗ owns (c : Thread nD τ) M5 fullShare X5
        ∗ owns (c : Thread nD τ) M6 fullShare X6
        ∗ owns (c : Thread nD τ) M7 fullShare X7
        ∗ owns (c : Thread nD τ) M8 fullShare X8
        ∗ (iprop(owns (c : Thread nD τ) M0 fullShare X0
          ∗ owns (c : Thread nD τ) M1 fullShare X1
          ∗ owns (c : Thread nD τ) M2 fullShare X2
          ∗ owns (c : Thread nD τ) M3 fullShare X3
          ∗ owns (c : Thread nD τ) M4 fullShare X4
          ∗ owns (c : Thread nD τ) M5 fullShare X5
          ∗ owns (c : Thread nD τ) M6 fullShare X6
          ∗ owns (c : Thread nD τ) M7 fullShare X7
          ∗ owns (c : Thread nD τ) M8 fullShare (gruOut X0 X1 X2 X3 X4 X5 X6 X7)) -∗ Q ⟨⟩))
      ⊢ wp frame (wpE (defs₀ (F := F)) Variants.none c none) Set.univ (cc2__gru_body i M0 h0 M1 h1 M2 h2 M3 h3 M4 h4 M5 h5 M6 h6 M7 h7 M8 h8) Q := by
  rw [owns_pt c M0 h0, owns_pt c M1 h1, owns_pt c M2 h2, owns_pt c M3 h3, owns_pt c M4 h4, owns_pt c M5 h5, owns_pt c M6 h6, owns_pt c M7 h7, owns_pt c M8 h8 X8]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  subst e0 e1 e2 e3 e4 e5 e6 e7 e8
  iapply (wp_gru c i M0 h0 M1 h1 M2 h2 M3 h3 M4 h4 M5 h5 M6 h6 M7 h7 M8 h8 f0 f1 f2 f3 f4 f5 f6 f7 f8 Set.univ Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, ⟨%g8, %d8, H8⟩⟩
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  iapply (owns_of_pt c M8 h8 g8 d8); iexact H8

/-- The first kernel, likewise. -/
theorem wp_prep_owns (c : Dev nD)
    (M0 : Memref sig .tc .vmem S4096x128 .f32) (h0 : M0.IsWhole)    (M1 : Memref sig .tc .vmem S128x128 .f32) (h1 : M1.IsWhole)
    (M2 : Memref sig .tc .vmem S1x128 .f32) (h2 : M2.IsWhole)    (M3 : Memref sig .tc .vmem S256x128 .f32) (h3 : M3.IsWhole)
    (M4 : Memref sig .tc .vmem S4096x128 .f32) (h4 : M4.IsWhole)    (M5 : Memref sig .tc .vmem S256x128 .f32) (h5 : M5.IsWhole)

    (X0 : Vec F S4096x128 .f32) (X1 : Vec F S128x128 .f32) (X2 : Vec F S1x128 .f32) (X3 : Vec F S256x128 .f32) (X4 : Vec F S4096x128 .f32) (X5 : Vec F S256x128 .f32)
    (Q : PUnit → sProp 𝕄) :
    iprop(owns (c : Thread nD τ) M0 fullShare X0
        ∗ owns (c : Thread nD τ) M1 fullShare X1
        ∗ owns (c : Thread nD τ) M2 fullShare X2
        ∗ owns (c : Thread nD τ) M3 fullShare X3
        ∗ owns (c : Thread nD τ) M4 fullShare X4
        ∗ owns (c : Thread nD τ) M5 fullShare X5
        ∗ (iprop(owns (c : Thread nD τ) M0 fullShare X0
          ∗ owns (c : Thread nD τ) M1 fullShare X1
          ∗ owns (c : Thread nD τ) M2 fullShare X2
          ∗ owns (c : Thread nD τ) M3 fullShare X3
          ∗ owns (c : Thread nD τ) M4 fullShare (k0_pay1 X0 X1 X2)
          ∗ owns (c : Thread nD τ) M5 fullShare (k0_pay2 X3)) -∗ Q ⟨⟩))
      ⊢ wp frame (wpE (defs₀ (F := F)) Variants.none c none) Set.univ (cc0__prep_body M0 h0 M1 h1 M2 h2 M3 h3 M4 h4 M5 h5) Q := by
  rw [owns_pt c M0 h0, owns_pt c M1 h1, owns_pt c M2 h2, owns_pt c M3 h3, owns_pt c M4 h4 X4, owns_pt c M5 h5 X5]
  iintro ⟨⟨%f0, %e0, H0⟩, ⟨%f1, %e1, H1⟩, ⟨%f2, %e2, H2⟩, ⟨%f3, %e3, H3⟩, ⟨%f4, %e4, H4⟩, ⟨%f5, %e5, H5⟩, Hk⟩
  subst e0 e1 e2 e3 e4 e5
  iapply (wp_prep c M0 h0 M1 h1 M2 h2 M3 h3 M4 h4 M5 h5 f0 f1 f2 f3 f4 f5 Set.univ Q)
  isplitl [H0]; · iexact H0
  isplitl [H1]; · iexact H1
  isplitl [H2]; · iexact H2
  isplitl [H3]; · iexact H3
  isplitl [H4]; · iexact H4
  isplitl [H5]; · iexact H5
  iintro ⟨H0, H1, H2, H3, ⟨%g4, %d4, H4⟩, ⟨%g5, %d5, H5⟩⟩
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iapply (owns_of_pt c M4 h4 g4 d4); iexact H4
  iapply (owns_of_pt c M5 h5 g5 d5); iexact H5

/-! ## Their proof data -/

section Data

variable (V : Dev nD → Valuation τ sig (Elt F)) (O : Dev nD → CellTallies nD τ sig (HIx 3)) (B : Dev nD → Set (SemLoc sig × HIx 3))

/-- Window 0's block at point `t` of the score's call. -/
abbrev blk5_0 (c : Dev nD) (t : Fin cfg5.N) : Vec F S4096x128 .f32 :=
  ((cfg5.win 0).blk t).view.read (Elt F) (V c (Proc.devRef .tc (Pipeline.arrRef spec5 0)))
/-- Window 1's block at point `t` of the score's call. -/
abbrev blk5_1 (c : Dev nD) (t : Fin cfg5.N) : Vec F S128x128 .f32 :=
  ((cfg5.win 1).blk t).view.read (Elt F) (V c (Proc.devRef .tc (Pipeline.arrRef spec5 1)))
/-- The proof data of the score's call: the arrays at the valuation, the arguments' buffers left as fetched, the results' at the kernel's. -/
def dat5 (c : Dev nD) : Dat τ (Elt F) (HIx 3) ℕ UU ℕ cfg5 c where
  A w := V c (Proc.devRef .tc (Pipeline.arrRef spec5 w))
  after w t := match w with
    | ⟨0, _⟩ => blk5_0 V c t
    | ⟨1, _⟩ => blk5_1 V c t
    | ⟨2, _⟩ => k5_pay1 (blk5_0 V c t) (blk5_1 V c t)
  Φ _ := Pipeline.scopedRest spec5 c
  q _ := fullShare
  owed _ := O c
  recorded _ := B c

/-- The kernel meets its obligation at every point. -/
theorem body5 (c : Dev nD) : BodyObligation (dat5 V O B c) (defs₀ (F := F)) 𝒱₀ none Set.univ := fun t => by
  rw [bigSep_W5, bigSep_W5]
  rw [show (dat5 V O B c).Φ t.succ = (dat5 V O B c).Φ t.castSucc from rfl,
    show (dat5 V O B c).owesAt none t.succ = (dat5 V O B c).owesAt none t.castSucc from rfl]
  iintro ⟨HΦ, HO, H0, H1, ⟨%d2, H2⟩⟩
  ihave H0 := fed (dat5 V O B c) 0 rfl (fun _ => rfl) (fun _ _ _ => rfl) (fun _ _ => rfl) t $$ H0
  ihave H1 := fed (dat5 V O B c) 1 rfl (fun _ => rfl) (fun _ _ _ => rfl) (fun _ _ => rfl) t $$ H1
  iapply (wp_score_owns c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2))
    (blk5_0 V c t) (blk5_1 V c t) ((dat5 V O B c).before 2 t d2) _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

/-- Window 0's block at point `t` of the recurrent cell's call. -/
abbrev blk2_0 (c : Dev nD) (t : Fin cfg2.N) : Vec F S8x1024x1 .i32 :=
  ((cfg2.win 0).blk t).view.read (Elt F) (V c (Proc.devRef .tc (Pipeline.arrRef spec2 0)))
/-- Window 1's block at point `t` of the recurrent cell's call. -/
abbrev blk2_1 (c : Dev nD) (t : Fin cfg2.N) : Vec F S1x1x1024 .i32 :=
  ((cfg2.win 1).blk t).view.read (Elt F) (V c (Proc.devRef .tc (Pipeline.arrRef spec2 1)))
/-- Window 2's block at point `t` of the recurrent cell's call. -/
abbrev blk2_2 (c : Dev nD) (t : Fin cfg2.N) : Vec F S8x1x1024x128 .f32 :=
  ((cfg2.win 2).blk t).view.read (Elt F) (V c (Proc.devRef .tc (Pipeline.arrRef spec2 2)))
/-- Window 3's block at point `t` of the recurrent cell's call. -/
abbrev blk2_3 (c : Dev nD) (t : Fin cfg2.N) : Vec F S256x128 .f32 :=
  ((cfg2.win 3).blk t).view.read (Elt F) (V c (Proc.devRef .tc (Pipeline.arrRef spec2 3)))
/-- Window 4's block at point `t` of the recurrent cell's call. -/
abbrev blk2_4 (c : Dev nD) (t : Fin cfg2.N) : Vec F S128x384 .f32 :=
  ((cfg2.win 4).blk t).view.read (Elt F) (V c (Proc.devRef .tc (Pipeline.arrRef spec2 4)))
/-- Window 5's block at point `t` of the recurrent cell's call. -/
abbrev blk2_5 (c : Dev nD) (t : Fin cfg2.N) : Vec F S128x384 .f32 :=
  ((cfg2.win 5).blk t).view.read (Elt F) (V c (Proc.devRef .tc (Pipeline.arrRef spec2 5)))
/-- Window 6's block at point `t` of the recurrent cell's call. -/
abbrev blk2_6 (c : Dev nD) (t : Fin cfg2.N) : Vec F S1x384 .f32 :=
  ((cfg2.win 6).blk t).view.read (Elt F) (V c (Proc.devRef .tc (Pipeline.arrRef spec2 6)))
/-- Window 7's block at point `t` of the recurrent cell's call. -/
abbrev blk2_7 (c : Dev nD) (t : Fin cfg2.N) : Vec F S1x384 .f32 :=
  ((cfg2.win 7).blk t).view.read (Elt F) (V c (Proc.devRef .tc (Pipeline.arrRef spec2 7)))
/-- The proof data of the recurrent cell's call: the arrays at the valuation, the arguments' buffers left as fetched, the results' at the kernel's. -/
def dat2 (c : Dev nD) : Dat τ (Elt F) (HIx 3) ℕ UU ℕ cfg2 c where
  A w := V c (Proc.devRef .tc (Pipeline.arrRef spec2 w))
  after w t := match w with
    | ⟨0, _⟩ => blk2_0 V c t
    | ⟨1, _⟩ => blk2_1 V c t
    | ⟨2, _⟩ => blk2_2 V c t
    | ⟨3, _⟩ => blk2_3 V c t
    | ⟨4, _⟩ => blk2_4 V c t
    | ⟨5, _⟩ => blk2_5 V c t
    | ⟨6, _⟩ => blk2_6 V c t
    | ⟨7, _⟩ => blk2_7 V c t
    | ⟨8, _⟩ => gruOut (blk2_0 V c t) (blk2_1 V c t) (blk2_2 V c t) (blk2_3 V c t) (blk2_4 V c t) (blk2_5 V c t) (blk2_6 V c t) (blk2_7 V c t)
  Φ _ := Pipeline.scopedRest spec2 c
  q _ := fullShare
  owed _ := O c
  recorded _ := B c

/-- The kernel meets its obligation at every point. -/
theorem body2 (c : Dev nD) : BodyObligation (dat2 V O B c) (defs₀ (F := F)) 𝒱₀ none Set.univ := fun t => by
  rw [bigSep_W2, bigSep_W2]
  rw [show (dat2 V O B c).Φ t.succ = (dat2 V O B c).Φ t.castSucc from rfl,
    show (dat2 V O B c).owesAt none t.succ = (dat2 V O B c).owesAt none t.castSucc from rfl]
  iintro ⟨HΦ, HO, H0, H1, H2, H3, H4, H5, H6, H7, ⟨%d8, H8⟩⟩
  ihave H0 := fed (dat2 V O B c) 0 rfl (fun _ => rfl) (fun _ _ _ => rfl) (fun _ _ => rfl) t $$ H0
  ihave H1 := fed (dat2 V O B c) 1 rfl (fun _ => rfl) (fun _ _ _ => rfl) (fun _ _ => rfl) t $$ H1
  ihave H2 := fed (dat2 V O B c) 2 rfl (fun _ => rfl) (fun _ _ _ => rfl) (fun _ _ => rfl) t $$ H2
  ihave H3 := fed (dat2 V O B c) 3 rfl (fun _ => rfl) (fun _ _ _ => rfl) (fun _ _ => rfl) t $$ H3
  ihave H4 := fed (dat2 V O B c) 4 rfl (fun _ => rfl) (fun _ _ _ => rfl) (fun _ _ => rfl) t $$ H4
  ihave H5 := fed (dat2 V O B c) 5 rfl (fun _ => rfl) (fun _ _ _ => rfl) (fun _ _ => rfl) t $$ H5
  ihave H6 := fed (dat2 V O B c) 6 rfl (fun _ => rfl) (fun _ _ _ => rfl) (fun _ _ => rfl) t $$ H6
  ihave H7 := fed (dat2 V O B c) 7 rfl (fun _ => rfl) (fun _ _ _ => rfl) (fun _ _ => rfl) t $$ H7
  iapply (wp_gru_owns c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8))
    (blk2_0 V c t) (blk2_1 V c t) (blk2_2 V c t) (blk2_3 V c t) (blk2_4 V c t) (blk2_5 V c t) (blk2_6 V c t) (blk2_7 V c t) ((dat2 V O B c).before 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Window 0's block at point `t` of the first call. -/
abbrev blk0_0 (c : Dev nD) (t : Fin cfg0.N) : Vec F S4096x128 .f32 :=
  ((cfg0.win 0).blk t).view.read (Elt F) (V c (Proc.devRef .tc (Pipeline.arrRef spec0 0)))
/-- Window 1's block at point `t` of the first call. -/
abbrev blk0_1 (c : Dev nD) (t : Fin cfg0.N) : Vec F S128x128 .f32 :=
  ((cfg0.win 1).blk t).view.read (Elt F) (V c (Proc.devRef .tc (Pipeline.arrRef spec0 1)))
/-- Window 2's block at point `t` of the first call. -/
abbrev blk0_2 (c : Dev nD) (t : Fin cfg0.N) : Vec F S1x128 .f32 :=
  ((cfg0.win 2).blk t).view.read (Elt F) (V c (Proc.devRef .tc (Pipeline.arrRef spec0 2)))
/-- Window 3's block at point `t` of the first call. -/
abbrev blk0_3 (c : Dev nD) (t : Fin cfg0.N) : Vec F S256x128 .f32 :=
  ((cfg0.win 3).blk t).view.read (Elt F) (V c (Proc.devRef .tc (Pipeline.arrRef spec0 3)))
/-- The proof data of the first call: the arrays at the valuation, the arguments' buffers left as fetched, the results' at the kernel's. -/
def dat0 (c : Dev nD) : Dat τ (Elt F) (HIx 3) ℕ UU ℕ cfg0 c where
  A w := V c (Proc.devRef .tc (Pipeline.arrRef spec0 w))
  after w t := match w with
    | ⟨0, _⟩ => blk0_0 V c t
    | ⟨1, _⟩ => blk0_1 V c t
    | ⟨2, _⟩ => blk0_2 V c t
    | ⟨3, _⟩ => blk0_3 V c t
    | ⟨4, _⟩ => k0_pay1 (blk0_0 V c t) (blk0_1 V c t) (blk0_2 V c t)
    | ⟨5, _⟩ => k0_pay2 (blk0_3 V c t)
  Φ _ := Pipeline.scopedRest spec0 c
  q _ := fullShare
  owed _ := O c
  recorded _ := B c

/-- The kernel meets its obligation at every point. -/
theorem body0 (c : Dev nD) : BodyObligation (dat0 V O B c) (defs₀ (F := F)) 𝒱₀ none Set.univ := fun t => by
  rw [bigSep_W0, bigSep_W0]
  rw [show (dat0 V O B c).Φ t.succ = (dat0 V O B c).Φ t.castSucc from rfl,
    show (dat0 V O B c).owesAt none t.succ = (dat0 V O B c).owesAt none t.castSucc from rfl]
  iintro ⟨HΦ, HO, H0, H1, H2, H3, ⟨%d4, H4⟩, ⟨%d5, H5⟩⟩
  ihave H0 := fed (dat0 V O B c) 0 rfl (fun _ => rfl) (fun _ _ _ => rfl) (fun _ _ => rfl) t $$ H0
  ihave H1 := fed (dat0 V O B c) 1 rfl (fun _ => rfl) (fun _ _ _ => rfl) (fun _ _ => rfl) t $$ H1
  ihave H2 := fed (dat0 V O B c) 2 rfl (fun _ => rfl) (fun _ _ _ => rfl) (fun _ _ => rfl) t $$ H2
  ihave H3 := fed (dat0 V O B c) 3 rfl (fun _ => rfl) (fun _ _ _ => rfl) (fun _ _ => rfl) t $$ H3
  iapply (wp_prep_owns c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0)
    (blk0_0 V c t) (blk0_1 V c t) (blk0_2 V c t) (blk0_3 V c t) ((dat0 V O B c).before 4 t d4) ((dat0 V O B c).before 5 t d5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

end Data

end Cert.KernelIdeal.Pf
-- ==== Proof.KernelIdeal.Tiles.lean ====
/-
  The three SparseCore calls over the TensorCore's arrays: what each tile is handed and hands back, as a function of the
  contents of the arrays when the call starts (`pay`), and that each tile's task is met (`tileObl`). Call `q` is entered at
  the contents `Vs q`; it leaves in its result, at each row, the table's row that the call's list of row numbers names.
-/
module

public import proofs.«01_k».proof.Proof.KernelIdeal.Setup

@[expose] public section

noncomputable section

namespace Cert.KernelIdeal.Pf

open Cert.KernelIdeal Cert.KernelIdeal.Gen
open Cert.Proof.GatherLoop Cert.Proof.GatherTile Cert.Proof.GatherTask
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 3) (Elt F) ℕ UU ℕ

/-! ## The contents -/

/-- The contents of a buffer a valuation names, read as the TensorCore names it. -/
abbrev at' (W : Valuation τ sig (Elt F)) (r : Ref sig .tc) := W (Proc.devRef .tc r)

/-- The rows of the call's table that its list names. -/
def res0 (W : Valuation τ sig (Elt F)) : S131072x128.Idx → Elt F .f32 :=
  gathered (n := 32) (b := 128) (T := 4096) (R := 131072) (at' W main_v12_0) (at' W main_v14)
@[inherit_doc res0]
def res1 (W : Valuation τ sig (Elt F)) : S33792x128.Idx → Elt F .f32 :=
  gathered (n := 11) (b := 96) (T := 16392) (R := 33792) (at' W main_v22) (at' W main_v27)
@[inherit_doc res0]
def res2 (W : Valuation τ sig (Elt F)) : S2048x128.Idx → Elt F .f32 :=
  gathered (n := 1) (b := 64) (T := 256) (R := 2048) (at' W main_v12_1) (at' W main_v30)

/-- Every word of the three lists names a row of its call's table. -/
structure InRows (Vs : Fin 3 → Dev nD → Valuation τ sig (Elt F)) : Prop where
  h0 : ∀ d (x : S32x32x128.Idx), ((at' (Vs 0 d) main_v14 : S32x32x128.Idx → BitVec 32) x).toNat < 4096
  h1 : ∀ d (x : S32x11x96.Idx), ((at' (Vs 1 d) main_v27 : S32x11x96.Idx → BitVec 32) x).toNat < 16392
  h2 : ∀ d (x : S32x1x64.Idx), ((at' (Vs 2 d) main_v30 : S32x1x64.Idx → BitVec 32) x).toNat < 256

/-! ## What a tile is handed and hands back -/

/-- What a tile of call 0 is handed, the call entered at `W`, as the thread of tile `(cc, ii)` names the arrays. -/
abbrev goAt0 (cc : Fin τ.nSC) (ii : Fin τ.nSub) (d : Dev nD) (W : Valuation τ sig (Elt F)) (c : Fin 2) (s : Fin 16) : sProp 𝕄 :=
  tileGo (n := 32) (b := 128) (T := 4096) (R := 131072) rfl (Memref.whole main_v12_0_scv) (Memref.whole main_v14_scv) (Memref.whole main_v15_scv) cc ii d
    (at' W main_v12_0) (at' W main_v14) c s
/-- What it hands back. -/
abbrev tdAt0 (cc : Fin τ.nSC) (ii : Fin τ.nSub) (d : Dev nD) (W : Valuation τ sig (Elt F)) (c : Fin 2) (s : Fin 16) : sProp 𝕄 :=
  tileTd (n := 32) (b := 128) (T := 4096) (R := 131072) rfl (Memref.whole main_v12_0_scv) (Memref.whole main_v14_scv) (Memref.whole main_v15_scv) cc ii d
    (at' W main_v12_0) (at' W main_v14) (res0 W) c s
/-- What a tile of call 1 is handed, the call entered at `W`, as the thread of tile `(cc, ii)` names the arrays. -/
abbrev goAt1 (cc : Fin τ.nSC) (ii : Fin τ.nSub) (d : Dev nD) (W : Valuation τ sig (Elt F)) (c : Fin 2) (s : Fin 16) : sProp 𝕄 :=
  tileGo (n := 11) (b := 96) (T := 16392) (R := 33792) rfl (Memref.whole main_v22_scv) (Memref.whole main_v27_scv) (Memref.whole main_v28_scv) cc ii d
    (at' W main_v22) (at' W main_v27) c s
/-- What it hands back. -/
abbrev tdAt1 (cc : Fin τ.nSC) (ii : Fin τ.nSub) (d : Dev nD) (W : Valuation τ sig (Elt F)) (c : Fin 2) (s : Fin 16) : sProp 𝕄 :=
  tileTd (n := 11) (b := 96) (T := 16392) (R := 33792) rfl (Memref.whole main_v22_scv) (Memref.whole main_v27_scv) (Memref.whole main_v28_scv) cc ii d
    (at' W main_v22) (at' W main_v27) (res1 W) c s
/-- What a tile of call 2 is handed, the call entered at `W`, as the thread of tile `(cc, ii)` names the arrays. -/
abbrev goAt2 (cc : Fin τ.nSC) (ii : Fin τ.nSub) (d : Dev nD) (W : Valuation τ sig (Elt F)) (c : Fin 2) (s : Fin 16) : sProp 𝕄 :=
  tileGo (n := 1) (b := 64) (T := 256) (R := 2048) rfl (Memref.whole main_v12_1_scv) (Memref.whole main_v30_scv) (Memref.whole main_v31_scv) cc ii d
    (at' W main_v12_1) (at' W main_v30) c s
/-- What it hands back. -/
abbrev tdAt2 (cc : Fin τ.nSC) (ii : Fin τ.nSub) (d : Dev nD) (W : Valuation τ sig (Elt F)) (c : Fin 2) (s : Fin 16) : sProp 𝕄 :=
  tileTd (n := 1) (b := 64) (T := 256) (R := 2048) rfl (Memref.whole main_v12_1_scv) (Memref.whole main_v30_scv) (Memref.whole main_v31_scv) cc ii d
    (at' W main_v12_1) (at' W main_v30) (res2 W) c s

/-- The tile whose thread the payloads name the arrays by: every tile names them alike. -/
abbrev cc₀ : Fin τ.nSC := ⟨0, by decide⟩
@[inherit_doc cc₀]
abbrev ii₀ : Fin τ.nSub := ⟨0, by decide⟩

/-- A call's SparseCore as one of two, -/
abbrev cOf (q : Fin 3) (c : Fin ((K (F := F)).nCore q)) : Fin 2 := match q with | 0 => c | 1 => c | 2 => c
/-- its vector subcore as one of sixteen. -/
abbrev sOf (q : Fin 3) (i : Fin ((K (F := F)).nSub q)) : Fin 16 := match q with | 0 => i | 1 => i | 2 => i

/-- What a tile of call `q` is handed. -/
def goP (q : Fin 3) (d : Dev nD) (W : Valuation τ sig (Elt F)) (c : Fin 2) (s : Fin 16) : sProp 𝕄 :=
  match q with | 0 => goAt0 cc₀ ii₀ d W c s | 1 => goAt1 cc₀ ii₀ d W c s | 2 => goAt2 cc₀ ii₀ d W c s
/-- What it hands back. -/
def tdP (q : Fin 3) (d : Dev nD) (W : Valuation τ sig (Elt F)) (c : Fin 2) (s : Fin 16) : sProp 𝕄 :=
  match q with | 0 => tdAt0 cc₀ ii₀ d W c s | 1 => tdAt1 cc₀ ii₀ d W c s | 2 => tdAt2 cc₀ ii₀ d W c s

variable (Vs : Fin 3 → Dev nD → Valuation τ sig (Elt F))

/-- The payloads of the calls' handshakes: a SparseCore is handed what its sixteen tiles are. -/
def pay : (K (F := F)).Pay (nD := nD) (Val := Elt F) (Name := ℕ) (U := UU) where
  st q d c := bigSep Finset.univ fun i : Fin ((K (F := F)).nSub q) => goP q d (Vs q d) (cOf (F := F) q c) (sOf (F := F) q i)
  dn q d c := bigSep Finset.univ fun i : Fin ((K (F := F)).nSub q) => tdP q d (Vs q d) (cOf (F := F) q c) (sOf (F := F) q i)
  go q d c i := goP q d (Vs q d) (cOf (F := F) q c) (sOf (F := F) q i)
  td q d c i := tdP q d (Vs q d) (cOf (F := F) q c) (sOf (F := F) q i)
  x _ _ := iprop(emp)

/-- What a tile is handed, and what it hands back, may be stored. -/
instance goP_storable (q : Fin 3) (d : Dev nD) (W : Valuation τ sig (Elt F)) (c : Fin 2) (s : Fin 16) :
    BI.Storable (upEmb : UEmb _ 𝕄) (goP q d W c s) := by
  unfold goP; split <;> infer_instance
@[inherit_doc goP_storable]
instance tdP_storable (q : Fin 3) (d : Dev nD) (W : Valuation τ sig (Elt F)) (c : Fin 2) (s : Fin 16) :
    BI.Storable (upEmb : UEmb _ 𝕄) (tdP q d W c s) := by
  unfold tdP; split <;> infer_instance

@[inherit_doc goP_storable]
instance pay_storable : (pay Vs).IsStorable where
  st q d c := by unfold pay; infer_instance
  dn q d c := by unfold pay; infer_instance
  go q d c i := by unfold pay; infer_instance
  td q d c i := by unfold pay; infer_instance

/-- A SparseCore's tiles take what it was handed, and it hands back what they do. -/
theorem vecSplit (q : Fin 3) : (K (F := F)).VecSplit' (pay Vs) q := by
  intro d c
  unfold pay
  iintro H; imodintro
  isplitl [H]; · iexact H
  iintro H; iexact H

/-! ## The tasks -/

variable [FloatOps F]

omit [FloatOps F] in
/-- A vector subcore counts a copy of words by its bits. -/
theorem credit {sp : Space} {s : Shape} (v : Memref sig .scVector sp s .f32) : v.view.dmaCredit = s.numel * 32 := rfl

set_option maxRecDepth 65536 in
/-- Call 0's task on the tile `(c, s)`. -/
theorem task0 (hV : InRows Vs) (d : Dev nD) (i : grid1.Coords) (O : CellTallies nD τ sig (HIx 3)) (W : Waits sig (HIx 3)) (hO : ∀ g, O g none = 0) :
    iprop(levAts (K (F := F)).L (K (F := F)).lev ∗ goP 0 d (Vs 0 d) (i 0) (i 1)
        ∗ ownBufs (V d ((i 0).castLE hcore1) ((i 1).castLE hsub1)) ∗ ownSems0 (V d ((i 0).castLE hcore1) ((i 1).castLE hsub1))
        ∗ owes (V d ((i 0).castLE hcore1) ((i 1).castLE hsub1)) O W)
      ⊢ wp frame (wpE (defs₀ (F := F)) 𝒱₀ (V d ((i 0).castLE hcore1) ((i 1).castLE hsub1)) none) Set.univ (prog1 (F := F) i) fun _ =>
        (iprop(tdP 0 d (Vs 0 d) (i 0) (i 1)
          ∗ ownBufs (V d ((i 0).castLE hcore1) ((i 1).castLE hsub1)) ∗ ownSems0 (V d ((i 0).castLE hcore1) ((i 1).castLE hsub1))
          ∗ ∃ W', ⌜∀ p ∈ W', p ∈ W ∨ p.2 = none⌝ ∗ owes (V d ((i 0).castLE hcore1) ((i 1).castLE hsub1)) O W') : sProp 𝕄) := by
  refine BI.Entails.trans ?_ (wp_task (n := 32) (b := 128) (T := 4096) (R := 131072) rfl (Memref.whole main_v12_0_scv) (Memref.whole main_v14_scv)
    (Memref.whole main_v15_scv) (Memref.whole cc1_scratch0) (Memref.whole cc1_scratch1) ((i 0).castLE hcore1) ((i 1).castLE hsub1) d
    inb_S4096x128_S4096x128_0_0 (k1_off1 i) (k1_off1_inb i) squeezes_S1x32x128_S32x128 squeezes_S1x128_S128 squeezes_S1x128x128_S128x128
    (outOff1 i) (outOff1_inb i) (at' (Vs 0 d) main_v12_0) (at' (Vs 0 d) main_v14) (res0 (Vs 0 d)) countersEmb 𝒱₀ none (i 0) (i 1)
    (by rw [k1_off1_eq]; rfl) ?_ gathers_S4096x128_S128x128 rfl (by decide) more1 (by decide) (by decide) (hV.h0 d) rfl (by decide) (by decide)
    (fun v => ?_) sem1 (by decide) (by decide) (restBufs d ((i 0).castLE hcore1) ((i 1).castLE hsub1) cc1_scratch0 cc1_scratch1) ?_ none)
  · exact sep_mono ((K (F := F)).mayWaits_none (thr := V d ((i 0).castLE hcore1) ((i 1).castLE hsub1)) hO) .rfl
  · funext g
    show k1_off2 i (BitVec.ofNat 32 (128 * g.val)) = _
    rw [k1_off2_eq]; unfold cOff wid; congr 1; show 8192 * (i 1).val + 4096 * (i 0).val + 128 * g.val = ((2 * (i 1).val + (i 0).val) * 32 + g.val) * 128; omega
  · rw [credit]
    exact (Finset.sum_congr rfl fun k _ => (credit _).trans (show _ = 128 * 32 from rfl)).trans (by rw [Finset.sum_const, Finset.card_univ]; decide)
  · rw [ownBufs_two d _ _ cc1_scratch0 cc1_scratch1 rfl rfl (by decide)]
    simp only [View.set_whole]

set_option maxRecDepth 65536 in
/-- Call 1's task on the tile `(c, s)`. -/
theorem task1 (hV : InRows Vs) (d : Dev nD) (i : grid3.Coords) (O : CellTallies nD τ sig (HIx 3)) (W : Waits sig (HIx 3)) (hO : ∀ g, O g none = 0) :
    iprop(levAts (K (F := F)).L (K (F := F)).lev ∗ goP 1 d (Vs 1 d) (i 0) (i 1)
        ∗ ownBufs (V d ((i 0).castLE hcore3) ((i 1).castLE hsub3)) ∗ ownSems0 (V d ((i 0).castLE hcore3) ((i 1).castLE hsub3))
        ∗ owes (V d ((i 0).castLE hcore3) ((i 1).castLE hsub3)) O W)
      ⊢ wp frame (wpE (defs₀ (F := F)) 𝒱₀ (V d ((i 0).castLE hcore3) ((i 1).castLE hsub3)) none) Set.univ (prog3 (F := F) i) fun _ =>
        (iprop(tdP 1 d (Vs 1 d) (i 0) (i 1)
          ∗ ownBufs (V d ((i 0).castLE hcore3) ((i 1).castLE hsub3)) ∗ ownSems0 (V d ((i 0).castLE hcore3) ((i 1).castLE hsub3))
          ∗ ∃ W', ⌜∀ p ∈ W', p ∈ W ∨ p.2 = none⌝ ∗ owes (V d ((i 0).castLE hcore3) ((i 1).castLE hsub3)) O W') : sProp 𝕄) := by
  refine BI.Entails.trans ?_ (wp_task (n := 11) (b := 96) (T := 16392) (R := 33792) rfl (Memref.whole main_v22_scv) (Memref.whole main_v27_scv)
    (Memref.whole main_v28_scv) (Memref.whole cc3_scratch0) (Memref.whole cc3_scratch1) ((i 0).castLE hcore3) ((i 1).castLE hsub3) d
    inb_S16392x128_S16392x128_0_0 (k3_off1 i) (k3_off1_inb i) squeezes_S1x11x96_S11x96 squeezes_S1x96_S96 squeezes_S1x96x128_S96x128
    (outOff3 i) (outOff3_inb i) (at' (Vs 1 d) main_v22) (at' (Vs 1 d) main_v27) (res1 (Vs 1 d)) countersEmb 𝒱₀ none (i 0) (i 1)
    (by rw [k3_off1_eq]; rfl) ?_ gathers_S16392x128_S96x128 rfl (by decide) more3 (by decide) (by decide) (hV.h1 d) rfl (by decide) (by decide)
    (fun v => ?_) sem3 (by decide) (by decide) (restBufs d ((i 0).castLE hcore3) ((i 1).castLE hsub3) cc3_scratch0 cc3_scratch1) ?_ none)
  · exact sep_mono ((K (F := F)).mayWaits_none (thr := V d ((i 0).castLE hcore3) ((i 1).castLE hsub3)) hO) .rfl
  · funext g
    show k3_off2 i (BitVec.ofNat 32 (96 * g.val)) = _
    rw [k3_off2_eq]; unfold cOff wid; congr 1; show 2112 * (i 1).val + 1056 * (i 0).val + 96 * g.val = ((2 * (i 1).val + (i 0).val) * 11 + g.val) * 96; omega
  · rw [credit]
    exact (Finset.sum_congr rfl fun k _ => (credit _).trans (show _ = 128 * 32 from rfl)).trans (by rw [Finset.sum_const, Finset.card_univ]; decide)
  · rw [ownBufs_two d _ _ cc3_scratch0 cc3_scratch1 rfl rfl (by decide)]
    simp only [View.set_whole]

set_option maxRecDepth 65536 in
/-- Call 2's task on the tile `(c, s)`. -/
theorem task2 (hV : InRows Vs) (d : Dev nD) (i : grid4.Coords) (O : CellTallies nD τ sig (HIx 3)) (W : Waits sig (HIx 3)) (hO : ∀ g, O g none = 0) :
    iprop(levAts (K (F := F)).L (K (F := F)).lev ∗ goP 2 d (Vs 2 d) (i 0) (i 1)
        ∗ ownBufs (V d ((i 0).castLE hcore4) ((i 1).castLE hsub4)) ∗ ownSems0 (V d ((i 0).castLE hcore4) ((i 1).castLE hsub4))
        ∗ owes (V d ((i 0).castLE hcore4) ((i 1).castLE hsub4)) O W)
      ⊢ wp frame (wpE (defs₀ (F := F)) 𝒱₀ (V d ((i 0).castLE hcore4) ((i 1).castLE hsub4)) none) Set.univ (prog4 (F := F) i) fun _ =>
        (iprop(tdP 2 d (Vs 2 d) (i 0) (i 1)
          ∗ ownBufs (V d ((i 0).castLE hcore4) ((i 1).castLE hsub4)) ∗ ownSems0 (V d ((i 0).castLE hcore4) ((i 1).castLE hsub4))
          ∗ ∃ W', ⌜∀ p ∈ W', p ∈ W ∨ p.2 = none⌝ ∗ owes (V d ((i 0).castLE hcore4) ((i 1).castLE hsub4)) O W') : sProp 𝕄) := by
  refine BI.Entails.trans ?_ (wp_task (n := 1) (b := 64) (T := 256) (R := 2048) rfl (Memref.whole main_v12_1_scv) (Memref.whole main_v30_scv)
    (Memref.whole main_v31_scv) (Memref.whole cc4_scratch0) (Memref.whole cc4_scratch1) ((i 0).castLE hcore4) ((i 1).castLE hsub4) d
    inb_S256x128_S256x128_0_0 (k4_off1 i) (k4_off1_inb i) squeezes_S1x1x64_S1x64 squeezes_S1x64_S64 squeezes_S1x64x128_S64x128
    (outOff4 i) (outOff4_inb i) (at' (Vs 2 d) main_v12_1) (at' (Vs 2 d) main_v30) (res2 (Vs 2 d)) countersEmb 𝒱₀ none (i 0) (i 1)
    (by rw [k4_off1_eq]; rfl) ?_ gathers_S256x128_S64x128 rfl (by decide) more4 (by decide) (by decide) (hV.h2 d) rfl (by decide) (by decide)
    (fun v => ?_) sem4 (by decide) (by decide) (restBufs d ((i 0).castLE hcore4) ((i 1).castLE hsub4) cc4_scratch0 cc4_scratch1) ?_ none)
  · exact sep_mono ((K (F := F)).mayWaits_none (thr := V d ((i 0).castLE hcore4) ((i 1).castLE hsub4)) hO) .rfl
  · funext g
    show k4_off2 i  = _
    rw [k4_off2_eq]; unfold cOff wid; congr 1; show 128 * (i 1).val + 64 * (i 0).val = ((2 * (i 1).val + (i 0).val) * 1 + g.val) * 64; omega
  · rw [credit]
    exact (Finset.sum_congr rfl fun k _ => (credit _).trans (show _ = 128 * 32 from rfl)).trans (by rw [Finset.sum_const, Finset.card_univ]; decide)
  · rw [ownBufs_two d _ _ cc4_scratch0 cc4_scratch1 rfl rfl (by decide)]
    simp only [View.set_whole]

/-! ## The obligation -/

omit [FloatOps F] in
/-- A bound on the waits a tile records may be weakened. -/
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- Of three resources the middle one may be dropped. -/
theorem drop_mid {A B C : sProp 𝕄} : iprop(A ∗ B ∗ C) ⊢ iprop(A ∗ C) := by
  iintro ⟨HA, -, HC⟩
  isplitl [HA]; · iexact HA
  iexact HC

/-- The coordinates of the tile `(c, s)` of call 0. -/
def coords1 (c : Fin (grid1.bound 0)) (s : Fin (grid1.bound 1)) : grid1.Coords :=
  fun | 0 => c | 1 => s | ⟨_ + 2, h⟩ => absurd h (Nat.not_lt.2 (Nat.le_add_left _ _))

/-- The body table's row for call 0. -/
theorem defs₀_vector1 (c : Fin τ.nSC) (s : Fin τ.nSub) :
    defs₀ (F := F) (.scVector c s) 1 ()
      = SparseCore.onTile hcore1 hsub1 (fun c s => cc1_gather_k (coords1 c s) (Memref.whole main_v12_0_scv) (Memref.isWhole_whole _) (Memref.whole main_v14_scv) (Memref.isWhole_whole _)
          (Memref.whole main_v15_scv) (Memref.isWhole_whole _) (Memref.whole cc1_scratch0) (Memref.isWhole_whole _) (Memref.whole cc1_scratch1) (Memref.isWhole_whole _)
          cc1_scratch2 cc1_scratch3 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32) ⟨⟩ c s := rfl

set_option maxRecDepth 65536 in
/-- Call 0's tasks are met. -/
theorem tileObl0 (hV : InRows Vs) : (K (F := F)).TileObl (D (F := F)) 𝒱 (pay Vs) v₀ 0 := by
  intro d c i O W hO _ _
  simp only [show (pay Vs).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  rw [body1_eq]
  have ht := task0 Vs hV d (coords1 ⟨_, hci.1⟩ ⟨_, hci.2⟩) O W hO
  rw [(K (F := F)).scopedBufs_V facts d ((K (F := F)).core 0 c) ((K (F := F)).sub 0 i), SparseCore.Cfg.scopedSems0_V (Val := Elt F) d ((K (F := F)).core 0 c) ((K (F := F)).sub 0 i)]
  refine BI.Entails.trans ?_ (ht.trans (wp_mono frame _ _ fun _ => obl_post))
  have eg : (pay Vs).go 0 d c i = goP 0 d (Vs 0 d) (coords1 ⟨_, hci.1⟩ ⟨_, hci.2⟩ 0) (coords1 ⟨_, hci.1⟩ ⟨_, hci.2⟩ 1) := rfl
  rw [eg]
  have ec : Fin.castLE hcore1 (coords1 ⟨_, hci.1⟩ ⟨_, hci.2⟩ 0) = (K (F := F)).core 0 c := rfl
  have es : Fin.castLE hsub1 (coords1 ⟨_, hci.1⟩ ⟨_, hci.2⟩ 1) = (K (F := F)).sub 0 i := rfl
  rw [ec, es]
  exact drop_mid

/-- The coordinates of the tile `(c, s)` of call 1. -/
def coords3 (c : Fin (grid3.bound 0)) (s : Fin (grid3.bound 1)) : grid3.Coords :=
  fun | 0 => c | 1 => s | ⟨_ + 2, h⟩ => absurd h (Nat.not_lt.2 (Nat.le_add_left _ _))

/-- The body table's row for call 1. -/
theorem defs₀_vector3 (c : Fin τ.nSC) (s : Fin τ.nSub) :
    defs₀ (F := F) (.scVector c s) 3 ()
      = SparseCore.onTile hcore3 hsub3 (fun c s => cc3_gather_k (coords3 c s) (Memref.whole main_v22_scv) (Memref.isWhole_whole _) (Memref.whole main_v27_scv) (Memref.isWhole_whole _)
          (Memref.whole main_v28_scv) (Memref.isWhole_whole _) (Memref.whole cc3_scratch0) (Memref.isWhole_whole _) (Memref.whole cc3_scratch1) (Memref.isWhole_whole _)
          cc3_scratch2 cc3_scratch3 cc3_scoped0 cc3_scoped1 cc3_scoped2 cc3_scoped3 cc3_scoped4 cc3_scoped5 cc3_scoped6 cc3_scoped7 cc3_scoped8 cc3_scoped9 cc3_scoped10 cc3_scoped11) ⟨⟩ c s := rfl

set_option maxRecDepth 65536 in
/-- Call 1's tasks are met. -/
theorem tileObl1 (hV : InRows Vs) : (K (F := F)).TileObl (D (F := F)) 𝒱 (pay Vs) v₀ 1 := by
  intro d c i O W hO _ _
  simp only [show (pay Vs).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  rw [body3_eq]
  have ht := task1 Vs hV d (coords3 ⟨_, hci.1⟩ ⟨_, hci.2⟩) O W hO
  rw [(K (F := F)).scopedBufs_V facts d ((K (F := F)).core 1 c) ((K (F := F)).sub 1 i), SparseCore.Cfg.scopedSems0_V (Val := Elt F) d ((K (F := F)).core 1 c) ((K (F := F)).sub 1 i)]
  refine BI.Entails.trans ?_ (ht.trans (wp_mono frame _ _ fun _ => obl_post))
  have eg : (pay Vs).go 1 d c i = goP 1 d (Vs 1 d) (coords3 ⟨_, hci.1⟩ ⟨_, hci.2⟩ 0) (coords3 ⟨_, hci.1⟩ ⟨_, hci.2⟩ 1) := rfl
  rw [eg]
  have ec : Fin.castLE hcore3 (coords3 ⟨_, hci.1⟩ ⟨_, hci.2⟩ 0) = (K (F := F)).core 1 c := rfl
  have es : Fin.castLE hsub3 (coords3 ⟨_, hci.1⟩ ⟨_, hci.2⟩ 1) = (K (F := F)).sub 1 i := rfl
  rw [ec, es]
  exact drop_mid

/-- The coordinates of the tile `(c, s)` of call 2. -/
def coords4 (c : Fin (grid4.bound 0)) (s : Fin (grid4.bound 1)) : grid4.Coords :=
  fun | 0 => c | 1 => s | ⟨_ + 2, h⟩ => absurd h (Nat.not_lt.2 (Nat.le_add_left _ _))

/-- The body table's row for call 2. -/
theorem defs₀_vector4 (c : Fin τ.nSC) (s : Fin τ.nSub) :
    defs₀ (F := F) (.scVector c s) 4 ()
      = SparseCore.onTile hcore4 hsub4 (fun c s => cc4_gather_k (coords4 c s) (Memref.whole main_v12_1_scv) (Memref.isWhole_whole _) (Memref.whole main_v30_scv) (Memref.isWhole_whole _)
          (Memref.whole main_v31_scv) (Memref.isWhole_whole _) (Memref.whole cc4_scratch0) (Memref.isWhole_whole _) (Memref.whole cc4_scratch1) (Memref.isWhole_whole _)
          cc4_scratch2 cc4_scratch3 cc4_scoped0 cc4_scoped1) ⟨⟩ c s := rfl

set_option maxRecDepth 65536 in
/-- Call 2's tasks are met. -/
theorem tileObl2 (hV : InRows Vs) : (K (F := F)).TileObl (D (F := F)) 𝒱 (pay Vs) v₀ 2 := by
  intro d c i O W hO _ _
  simp only [show (pay Vs).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  rw [body4_eq]
  have ht := task2 Vs hV d (coords4 ⟨_, hci.1⟩ ⟨_, hci.2⟩) O W hO
  rw [(K (F := F)).scopedBufs_V facts d ((K (F := F)).core 2 c) ((K (F := F)).sub 2 i), SparseCore.Cfg.scopedSems0_V (Val := Elt F) d ((K (F := F)).core 2 c) ((K (F := F)).sub 2 i)]
  refine BI.Entails.trans ?_ (ht.trans (wp_mono frame _ _ fun _ => obl_post))
  have eg : (pay Vs).go 2 d c i = goP 2 d (Vs 2 d) (coords4 ⟨_, hci.1⟩ ⟨_, hci.2⟩ 0) (coords4 ⟨_, hci.1⟩ ⟨_, hci.2⟩ 1) := rfl
  rw [eg]
  have ec : Fin.castLE hcore4 (coords4 ⟨_, hci.1⟩ ⟨_, hci.2⟩ 0) = (K (F := F)).core 2 c := rfl
  have es : Fin.castLE hsub4 (coords4 ⟨_, hci.1⟩ ⟨_, hci.2⟩ 1) = (K (F := F)).sub 2 i := rfl
  rw [ec, es]
  exact drop_mid

end Cert.KernelIdeal.Pf
-- ==== Proof.KernelIdeal.Stages.lean ====
/-
  @main as seven stretches of host operations with six calls between them, and what the device's buffers hold after each:
  `C0 … C12`, from the launch memory.
-/
module

public import proofs.«01_k».proof.Proof.KernelIdeal.Regions
public import proofs.«01_k».proof.Proof.KernelIdeal.Tiles

@[expose] public section

noncomputable section

namespace Cert.KernelIdeal.Pf

open Cert.KernelIdeal Cert.KernelIdeal.Gen
open Idealize.ShloMosaic
open Idealize.ShloMosaic.SparseCore (T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat afterRegion)

variable {F : FTy → Type} [FloatOps F]

/-! ## The stretches -/

/-- What the program does before its first call: the padded tables, the weights' transposes, the biases as rows. -/
abbrev ops0 : List (HloOp τ sig (Elt F)) :=
  [StableHlo.nullary main_cst (constant S_ .f32 0x00000000#32),
   StableHlo.unary main_cst main_v0 (broadcastInDim S4096x128 ![] bcast_S_S4096x128 : (⟨S_, .f32⟩ : BufTy).Contents (Elt F) → (⟨S4096x128, .f32⟩ : BufTy).Contents (Elt F)),
   StableHlo.nullary main_c (constantI S_ 32 0#32),
   StableHlo.unary main_c main_v1 (broadcastInDim S1 ![] bcast_S_S1 : (⟨S_, .i32⟩ : BufTy).Contents (Elt F) → (⟨S1, .i32⟩ : BufTy).Contents (Elt F)),
   StableHlo.ternary main_v0 main_v1 main_arg9 main_v2 ((fun x i u => Host.scatter scatter_S4096x128_S1_S4020x128_01_n_0_0 (fun _ b => b) x i u) : (⟨S4096x128, .f32⟩ : BufTy).Contents (Elt F) → (⟨S1, .i32⟩ : BufTy).Contents (Elt F) → (⟨S4020x128, .f32⟩ : BufTy).Contents (Elt F) → (⟨S4096x128, .f32⟩ : BufTy).Contents (Elt F)),
   StableHlo.nullary main_cst_0 (constant S_ .f32 0x00000000#32),
   StableHlo.unary main_cst_0 main_v3 (broadcastInDim S256x128 ![] bcast_S_S256x128 : (⟨S_, .f32⟩ : BufTy).Contents (Elt F) → (⟨S256x128, .f32⟩ : BufTy).Contents (Elt F)),
   StableHlo.nullary main_c_1 (constantI S_ 32 0#32),
   StableHlo.unary main_c_1 main_v4 (broadcastInDim S1 ![] bcast_S_S1 : (⟨S_, .i32⟩ : BufTy).Contents (Elt F) → (⟨S1, .i32⟩ : BufTy).Contents (Elt F)),
   StableHlo.ternary main_v3 main_v4 main_arg8 main_v5 ((fun x i u => Host.scatter scatter_S256x128_S1_S230x128_01_n_0_0 (fun _ b => b) x i u) : (⟨S256x128, .f32⟩ : BufTy).Contents (Elt F) → (⟨S1, .i32⟩ : BufTy).Contents (Elt F) → (⟨S230x128, .f32⟩ : BufTy).Contents (Elt F) → (⟨S256x128, .f32⟩ : BufTy).Contents (Elt F)),
   StableHlo.unary main_arg10 main_v6 ((transpose S128x128 [1, 0] · transposes_S128x128_S128x128_1_0) : (⟨S128x128, .f32⟩ : BufTy).Contents (Elt F) → (⟨S128x128, .f32⟩ : BufTy).Contents (Elt F)),
   StableHlo.unary main_arg12 main_v7 ((transpose S128x384 [1, 0] · transposes_S384x128_S128x384_1_0) : (⟨S384x128, .f32⟩ : BufTy).Contents (Elt F) → (⟨S128x384, .f32⟩ : BufTy).Contents (Elt F)),
   StableHlo.unary main_arg13 main_v8 ((transpose S128x384 [1, 0] · transposes_S384x128_S128x384_1_0) : (⟨S384x128, .f32⟩ : BufTy).Contents (Elt F) → (⟨S128x384, .f32⟩ : BufTy).Contents (Elt F)),
   StableHlo.reshape main_arg11 main_v9 (rfl : (.f32 : EltTy) = .f32) shapeCasts_S128_S1x128,
   StableHlo.reshape main_arg14 main_v10 (rfl : (.f32 : EltTy) = .f32) shapeCasts_S384_S1x384,
   StableHlo.reshape main_arg15 main_v11 (rfl : (.f32 : EltTy) = .f32) shapeCasts_S384_S1x384]
/-- Between the first call and the gather of time rows: the list of time rows. -/
abbrev ops1 : List (HloOp τ sig (Elt F)) :=
  [StableHlo.unary main_arg3 main_v13 ((transpose S8x16384 [1, 0] · transposes_S16384x8_S8x16384_1_0) : (⟨S16384x8, .i32⟩ : BufTy).Contents (Elt F) → (⟨S8x16384, .i32⟩ : BufTy).Contents (Elt F)),
   StableHlo.reshape main_v13 main_v14 (rfl : (.i32 : EltTy) = .i32) shapeCasts_S8x16384_S32x32x128]
/-- Between that gather and the recurrent cell's call: its arguments' shapes. -/
abbrev ops2 : List (HloOp τ sig (Elt F)) :=
  [StableHlo.reshape main_v15 main_v16 (rfl : (.f32 : EltTy) = .f32) shapeCasts_S131072x128_S8x16x1024x128,
   StableHlo.unary main_arg2 main_v17 ((transpose S8x16384 [1, 0] · transposes_S16384x8_S8x16384_1_0) : (⟨S16384x8, .i32⟩ : BufTy).Contents (Elt F) → (⟨S8x16384, .i32⟩ : BufTy).Contents (Elt F)),
   StableHlo.reshape main_v17 main_v18 (rfl : (.i32 : EltTy) = .i32) shapeCasts_S8x16384_S8x16384x1,
   StableHlo.reshape main_arg4 main_v19 (rfl : (.i32 : EltTy) = .i32) shapeCasts_S16384_S16x1x1024]
/-- Between the recurrent cell's call and the second gather: the table of paths under eight zero rows, the list of its rows. -/
abbrev ops3 : List (HloOp τ sig (Elt F)) :=
  [StableHlo.nullary main_cst_2 (constant S_ .f32 0x00000000#32),
   StableHlo.unary main_cst_2 main_v21 (broadcastInDim S8x128 ![] bcast_S_S8x128 : (⟨S_, .f32⟩ : BufTy).Contents (Elt F) → (⟨S8x128, .f32⟩ : BufTy).Contents (Elt F)),
   StableHlo.binary main_v21 main_v20 main_v22 ((fun a b => concatenate S16392x128 0 [⟨S8x128, a⟩, ⟨S16384x128, b⟩] concatenates_S8x128_S16384x128_S16392x128_d0) : (⟨S8x128, .f32⟩ : BufTy).Contents (Elt F) → (⟨S16384x128, .f32⟩ : BufTy).Contents (Elt F) → (⟨S16392x128, .f32⟩ : BufTy).Contents (Elt F)),
   StableHlo.reshape main_arg0 main_v23 (rfl : (.i32 : EltTy) = .i32) shapeCasts_S1024x32_S32768,
   StableHlo.binary main_v23 main_arg6 main_v24 ((fun a b => concatenate S33792 0 [⟨S32768, a⟩, ⟨S1024, b⟩] concatenates_S32768_S1024_S33792_d0) : (⟨S32768, .i32⟩ : BufTy).Contents (Elt F) → (⟨S1024, .i32⟩ : BufTy).Contents (Elt F) → (⟨S33792, .i32⟩ : BufTy).Contents (Elt F)),
   StableHlo.nullary main_c_3 (constantI S_ 32 7#32),
   StableHlo.unary main_c_3 main_v25 (broadcastInDim S33792 ![] bcast_S_S33792 : (⟨S_, .i32⟩ : BufTy).Contents (Elt F) → (⟨S33792, .i32⟩ : BufTy).Contents (Elt F)),
   StableHlo.binary main_v24 main_v25 main_v26 (addi : (⟨S33792, .i32⟩ : BufTy).Contents (Elt F) → (⟨S33792, .i32⟩ : BufTy).Contents (Elt F) → (⟨S33792, .i32⟩ : BufTy).Contents (Elt F)),
   StableHlo.reshape main_v26 main_v27 (rfl : (.i32 : EltTy) = .i32) shapeCasts_S33792_S32x11x96]
/-- Between the second gather and the third: the list of relation rows. -/
abbrev ops4 : List (HloOp τ sig (Elt F)) :=
  [StableHlo.binary main_arg5 main_arg1 main_v29 ((fun a b => concatenate S2048 0 [⟨S1024, a⟩, ⟨S1024, b⟩] concatenates_S1024_S1024_S2048_d0) : (⟨S1024, .i32⟩ : BufTy).Contents (Elt F) → (⟨S1024, .i32⟩ : BufTy).Contents (Elt F) → (⟨S2048, .i32⟩ : BufTy).Contents (Elt F)),
   StableHlo.reshape main_v29 main_v30 (rfl : (.i32 : EltTy) = .i32) shapeCasts_S2048_S32x1x64]
/-- Between the third gather and the score's call: its two arguments. -/
abbrev ops5 : List (HloOp τ sig (Elt F)) :=
  [StableHlo.unary main_v28 main_v32 ((extractStridedSlice S32768x128 ![0, 0] · slices_S33792x128_S32768x128_0_0) : (⟨S33792x128, .f32⟩ : BufTy).Contents (Elt F) → (⟨S32768x128, .f32⟩ : BufTy).Contents (Elt F)),
   StableHlo.unary main_v31 main_v33 ((extractStridedSlice S1024x128 ![1024, 0] · slices_S2048x128_S1024x128_1024_0) : (⟨S2048x128, .f32⟩ : BufTy).Contents (Elt F) → (⟨S1024x128, .f32⟩ : BufTy).Contents (Elt F))]
/-- After the score's call: the three results. -/
abbrev ops6 : List (HloOp τ sig (Elt F)) :=
  [StableHlo.reshape main_v34 main_v35 (rfl : (.f32 : EltTy) = .f32) shapeCasts_S8x1x128_S1024,
   StableHlo.unary main_v28 main_v36 ((extractStridedSlice S1024x128 ![32768, 0] · slices_S33792x128_S1024x128_32768_0) : (⟨S33792x128, .f32⟩ : BufTy).Contents (Elt F) → (⟨S1024x128, .f32⟩ : BufTy).Contents (Elt F)),
   StableHlo.unary main_v31 main_v37 ((extractStridedSlice S1024x128 ![0, 0] · slices_S2048x128_S1024x128_0_0) : (⟨S2048x128, .f32⟩ : BufTy).Contents (Elt F) → (⟨S1024x128, .f32⟩ : BufTy).Contents (Elt F))]

/-- A TensorCore call as @main makes it. -/
abbrev region (p : Fin 3) : Prog (TpuEff nD τ sig (Elt F) (SparseCore.Sig (ΛP (F := F)) 3) .tc) PUnit :=
  Prog.lift (.customCall (SparseCore.inner (Pipeline.entry p)) ())

set_option maxRecDepth 65536 in
/-- @main is its stretches and calls, in order. -/
theorem main_eq (d : Dev nD) : main (F := F) d =
    Pipeline.chain [StableHlo.seq ops0, region 0, StableHlo.seq ops1, sc.run d 0, StableHlo.seq ops2, region 1, StableHlo.seq ops3,
      sc.run d 1, StableHlo.seq ops4, sc.run d 2, StableHlo.seq ops5, region 2, StableHlo.seq ops6] := by
  chain_rfl

/-! ## What the buffers hold -/

/-- What the TensorCore owes before SparseCore call `n`, -/
abbrev Oq (n : ℕ) : Dev nD → CellTallies nD τ sig (HIx 3) := fun d => (K (F := F)).Otc d n
/-- and the waits it may have recorded. -/
abbrev Bq (n : ℕ) : Dev nD → Set (SemLoc sig × HIx 3) := fun d => {p | (K (F := F)).lev (T d, p.1) p.2 ≤ 8 * n}

variable (m : (ℓ : Loc nD τ sig) → Buf (Elt F) ℓ)

/-- After the first stretch, from the launch memory. -/
def C0 (d : Dev nD) : Valuation τ sig (Elt F) := StableHlo.after ops0 fun b => m (d, b)
/-- After the first call. -/
def C1 (d : Dev nD) : Valuation τ sig (Elt F) := afterRegion (dat0 (C0 m) (Oq (F := F) 0) (Bq (F := F) 0) d) (C0 m d)
/-- At the gather of time rows. -/
def C2 (d : Dev nD) : Valuation τ sig (Elt F) := StableHlo.after ops1 (C1 m d)
/-- After it. -/
def C3 (d : Dev nD) : Valuation τ sig (Elt F) := Function.update (C2 m d) (Proc.devRef .tc main_v15) (res0 (C2 m d))
/-- At the recurrent cell's call. -/
def C4 (d : Dev nD) : Valuation τ sig (Elt F) := StableHlo.after ops2 (C3 m d)
/-- After it. -/
def C5 (d : Dev nD) : Valuation τ sig (Elt F) := afterRegion (dat2 (C4 m) (Oq (F := F) 1) (Bq (F := F) 1) d) (C4 m d)
/-- At the gather of paths. -/
def C6 (d : Dev nD) : Valuation τ sig (Elt F) := StableHlo.after ops3 (C5 m d)
/-- After it. -/
def C7 (d : Dev nD) : Valuation τ sig (Elt F) := Function.update (C6 m d) (Proc.devRef .tc main_v28) (res1 (C6 m d))
/-- At the gather of relations. -/
def C8 (d : Dev nD) : Valuation τ sig (Elt F) := StableHlo.after ops4 (C7 m d)
/-- After it. -/
def C9 (d : Dev nD) : Valuation τ sig (Elt F) := Function.update (C8 m d) (Proc.devRef .tc main_v31) (res2 (C8 m d))
/-- At the score's call. -/
def C10 (d : Dev nD) : Valuation τ sig (Elt F) := StableHlo.after ops5 (C9 m d)
/-- After it. -/
def C11 (d : Dev nD) : Valuation τ sig (Elt F) := afterRegion (dat5 (C10 m) (Oq (F := F) 3) (Bq (F := F) 3) d) (C10 m d)
/-- At the end. -/
def C12 (d : Dev nD) : Valuation τ sig (Elt F) := StableHlo.after ops6 (C11 m d)

/-- The contents the three SparseCore calls are entered at. -/
def Vs (q : Fin 3) (d : Dev nD) : Valuation τ sig (Elt F) := match q with | 0 => C2 m d | 1 => C6 m d | 2 => C8 m d

end Cert.KernelIdeal.Pf
-- ==== Proof.KernelIdeal.Steps.lean ====
/-
  One step of @main per call, over all of the TensorCore's buffers held at a valuation: a TensorCore call (`region_step`), and a
  SparseCore call, which is handed its three arrays and gives them back with the gathered rows (`gather_step0`, …).
-/
module

public import proofs.«01_k».proof.Proof.KernelIdeal.Stages

@[expose] public section

noncomputable section

namespace Cert.KernelIdeal.Pf

open Cert.KernelIdeal Cert.KernelIdeal.Gen
open Idealize.ShloMosaic
open Idealize.ShloMosaic.SparseCore (T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat afterRegion ucRefs arrRefs)
open Cert.Proof.GatherTask

variable {F : FTy → Type} [FloatOps F]

local notation "𝕄" => MT nD τ sig (HIx 3) (Elt F) ℕ UU ℕ

/-! ## A TensorCore call -/

/-- No call takes a table of its own. -/
abbrev adm : (p : Fin 3) → (pcfgs (F := F) p).Adm := fun p => (cfgs p).toPCfg_adm

/-- The three calls' proof data, all at one valuation. -/
abbrev dats (V : Dev nD → Valuation τ sig (Elt F)) (O : Dev nD → CellTallies nD τ sig (HIx 3)) (B : Dev nD → Set (SemLoc sig × HIx 3)) :
    (p : Fin 3) → (c : Dev nD) → Dat τ (Elt F) (HIx 3) ℕ UU ℕ (Pipeline.pin (pcfgs (F := F)) adm p) c
  | 0 => dat0 V O B
  | 1 => dat2 V O B
  | 2 => dat5 V O B

/-- The staging cells of the three calls are distinct. -/
theorem cells_inj : Function.Injective (Pipeline.cellOf (nD := nD) (τ := τ) (Pipeline.pin (pcfgs (F := F)) adm)) := cellOf_inj

/-- The calls' layouts. -/
theorem kits (p : Fin 3) : Pipeline.PLaunchFacts (nD := nD) (τ := τ) (pcfgs (F := F)) p :=
  match p with | 0 => launch0.toP | 1 => launch2.toP | 2 => launch5.toP

/-- The calls' arrays are among the TensorCore's unscoped buffers. -/
theorem arrs_sub (p : Fin 3) : arrRefs (τ := τ) (pcfgs (F := F) p).spec ⊆ ucRefs τ sig :=
  Pipeline.arrRefs_sub_ucRefs _ (kits p).win.arr_unscoped

/-- Before call `n` the TensorCore owes nothing at its own waits' index. -/
theorem Oq_none (n : ℕ) (d : Dev nD) (g : GSem nD τ sig) : Oq (F := F) n d g none = 0 := by
  have hsum : ∀ {I : Type} (s : Finset I) (f : I → CellTallies nD τ sig (HIx 3)), (∀ i ∈ s, f i g none = 0) → (∑ i ∈ s, f i) g none = 0 := by
    intro I s f h
    induction s using Finset.cons_induction with
    | empty => rfl
    | cons a s ha ih =>
      rw [Finset.sum_cons]
      show f a g none + (∑ i ∈ s, f i) g none = 0
      rw [h a (Finset.mem_cons_self _ _), ih fun i hi => h i (Finset.mem_cons_of_mem hi)]
  unfold Oq SparseCore.Cfg.Otc
  refine hsum _ _ fun q _ => ?_
  split
  · exact hsum _ _ fun c _ => by
      rw [tallyAt_apply, if_neg]; rintro ⟨-, h⟩; exact nomatch h
  · rfl

section Data
variable (V : Dev nD → Valuation τ sig (Elt F)) (O : Dev nD → CellTallies nD τ sig (HIx 3)) (B : Dev nD → Set (SemLoc sig × HIx 3))

/-- The kernels' obligations, call by call, -/
theorem dats_body (p : Fin 3) (c : Dev nD) : Pipeline.BodyObligationLoose (dats V O B p c) (defs₀ (F := F)) 𝒱₀ none Set.univ :=
  match p with | 0 => (body0 V O B c).loose | 1 => (body2 V O B c).loose | 2 => (body5 V O B c).loose
/-- what is owed, -/
theorem dats_owed (p : Fin 3) (c : Dev nD) (t) : (dats V O B p c).owed t = O c := match p with | 0 => rfl | 1 => rfl | 2 => rfl
/-- the waits recorded, -/
theorem dats_recorded (p : Fin 3) (c : Dev nD) (t) : (dats V O B p c).recorded t = B c := match p with | 0 => rfl | 1 => rfl | 2 => rfl
/-- the arrays held whole, -/
theorem dats_share (p : Fin 3) (c : Dev nD) : ∀ w, (dats V O B p c).share w = fullShare :=
  match p with
  | 0 => (dat0 V O B c).share_full fun _ => rfl
  | 1 => (dat2 V O B c).share_full fun _ => rfl
  | 2 => (dat5 V O B c).share_full fun _ => rfl
/-- the rest of the scoped buffers kept, -/
theorem dats_Φ (p : Fin 3) (c : Dev nD) : (dats V O B p c).Φ = fun _ => (Pipeline.scopedRest (Pipeline.pin (pcfgs (F := F)) adm p).spec c : sProp 𝕄) :=
  match p with
  | 0 => show (dat0 V O B c).Φ = fun _ => (Pipeline.scopedRest spec0 c : sProp 𝕄) from rfl
  | 1 => show (dat2 V O B c).Φ = fun _ => (Pipeline.scopedRest spec2 c : sProp 𝕄) from rfl
  | 2 => show (dat5 V O B c).Φ = fun _ => (Pipeline.scopedRest spec5 c : sProp 𝕄) from rfl
/-- and the arrays' contents at entry. -/
theorem dats_A (p : Fin 3) (c : Dev nD) (w) :
    (dats V O B p c).A w = V c (Proc.devRef .tc (Pipeline.arrRef (Pipeline.pin (pcfgs (F := F)) adm p).spec w)) :=
  match p with | 0 => rfl | 1 => rfl | 2 => rfl
end Data

omit [FloatOps F] in
/-- A consequence may be had after an update. -/
theorem wand_fupd (A Q : sProp 𝕄) : iprop(A -∗ Q) ⊢ iprop(A -∗ |={Set.univ}=> Q) := by
  iintro H HA; imodintro; iapply H; iexact HA

/-- A TensorCore call, from the buffers at `V`: it ends with the buffers at `afterRegion` of `V`. -/
theorem region_call (p : Fin 3) (n : ℕ) (V : Dev nD → Valuation τ sig (Elt F)) (d : Dev nD) (Q : PUnit → sProp 𝕄) :
    iprop((iprop(boundary (d.tc : Thread nD τ) ∗ StableHlo.held (d.tc : Thread nD τ) (ucRefs τ sig) (afterRegion (dats V (Oq (F := F) n) (Bq (F := F) n) p d) (V d))
          ∗ Pipeline.owesWithin d (Oq (F := F) n d) (Bq (F := F) n d ∪ (Pipeline.pin (pcfgs (F := F)) adm p).waitPairs none)) -∗ Q ⟨⟩)
        ∗ boundary (d.tc : Thread nD τ) ∗ (StableHlo.held (d.tc : Thread nD τ) (ucRefs τ sig) (V d) ∗ Pipeline.owesWithin d (Oq (F := F) n d) (Bq (F := F) n d))
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (D (F := F)) 𝒱 (d.tc : Thread nD τ) none) Set.univ (.op (.customCall (Pipeline.entry p) ()) .ret) Q := by
  refine BI.Entails.trans ?_ (Cert.Proof.HeldRegion.wp_call (pcfgs (F := F)) adm (dats V (Oq (F := F) n) (Bq (F := F) n)) none cells_inj EP defs₀ 𝒱₀
    (K (F := F)).L (K (F := F)).lev p (Oq (F := F) n) (Bq (F := F) n) (ucRefs τ sig) (kits p) (arrs_sub p) rfl ?_ ?_ ?_ ?_ ?_ ?_ V ?_ d .ret Q)
  · rw [wp_ret]; exact sep_mono_left (wand_fupd _ _)
  · exact dats_body V _ _ p
  · exact dats_owed V _ _ p
  · exact dats_recorded V _ _ p
  · exact dats_share V _ _ p
  · intro c t; rw [dats_Φ]
  · intro c
    refine Pipeline.cellsWaits_intro (Pipeline.pin (pcfgs (F := F)) adm) (dats V (Oq (F := F) n) (Bq (F := F) n)) none p c fun w s t => ?_
    rw [dats_owed]
    exact (K (F := F)).mayWait_none _ (Oq_none n c)
  · exact dats_A V _ _ p

/-- The TensorCore's state before SparseCore call `n`, what it owes apart. -/
theorem region_glue (p : Fin 3) (n : ℕ) (V : Dev nD → Valuation τ sig (Elt F)) (d : Dev nD) (Q : PUnit → sProp 𝕄) :
    iprop(levAts (K (F := F)).L (K (F := F)).lev ∗ (K (F := F)).tcSt EH d n ∗ boundary (d.tc : Thread nD τ) ∗ StableHlo.held (d.tc : Thread nD τ) (ucRefs τ sig) (V d)
        ∗ (Pipeline.cellsGhost (Pipeline.pin (pcfgs (F := F)) adm) EP p d ∗ Pipeline.toksInit (Pipeline.pin (pcfgs (F := F)) adm) EP p d)
        ∗ (iprop((K (F := F)).tcSt EH d n ∗ boundary (d.tc : Thread nD τ)
            ∗ StableHlo.held (d.tc : Thread nD τ) (ucRefs τ sig) (afterRegion (dats V (Oq (F := F) n) (Bq (F := F) n) p d) (V d))) -∗ Q ⟨⟩))
      ⊢ (iprop((iprop(boundary (d.tc : Thread nD τ) ∗ StableHlo.held (d.tc : Thread nD τ) (ucRefs τ sig) (afterRegion (dats V (Oq (F := F) n) (Bq (F := F) n) p d) (V d))
          ∗ Pipeline.owesWithin d (Oq (F := F) n d) (Bq (F := F) n d ∪ (Pipeline.pin (pcfgs (F := F)) adm p).waitPairs none)) -∗ Q ⟨⟩)
        ∗ boundary (d.tc : Thread nD τ) ∗ (StableHlo.held (d.tc : Thread nD τ) (ucRefs τ sig) (V d) ∗ Pipeline.owesWithin d (Oq (F := F) n d) (Bq (F := F) n d))
        ∗ levAts (K (F := F)).L (K (F := F)).lev
        ∗ Pipeline.cellsGhost (Pipeline.pin (pcfgs (F := F)) adm) EP p d ∗ Pipeline.toksInit (Pipeline.pin (pcfgs (F := F)) adm) EP p d) : sProp 𝕄) := by
  unfold SparseCore.Cfg.tcSt
  iintro ⟨Hl, ⟨⟨%W, %hW, HO⟩, Hst⟩, Hb, Hh, ⟨Hg, Ht⟩, Hk⟩
  isplitl [Hst Hk]
  · iintro ⟨Hb, Hh, ⟨%W', %hW', HO⟩⟩
    iapply Hk
    isplitl [Hst HO]
    · isplitl [HO]
      · iexists W'; isplitr
        · ipureintro
          intro x hx
          rcases hW' hx with h | h
          · exact h
          · have h2 : x.2 = none := by
              obtain ⟨w, s, rfl⟩ := h; rfl
            rw [h2]; exact Nat.zero_le _
        · iexact HO
      · iexact Hst
    isplitl [Hb]; · iexact Hb
    iexact Hh
  isplitl [Hb]; · iexact Hb
  isplitl [Hh HO]
  · isplitl [Hh]; · iexact Hh
    iexists W; isplitr
    · ipureintro; exact hW
    · iexact HO
  isplitl [Hl]; · iexact Hl
  isplitl [Hg]; · iexact Hg
  iexact Ht

/-- A TensorCore call from the TensorCore's state before SparseCore call `n`: the state is kept, the call's results written. -/
theorem region_step (p : Fin 3) (n : ℕ) (V : Dev nD → Valuation τ sig (Elt F)) (d : Dev nD) (Q : PUnit → sProp 𝕄) :
    iprop(levAts (K (F := F)).L (K (F := F)).lev ∗ (K (F := F)).tcSt EH d n ∗ boundary (d.tc : Thread nD τ) ∗ StableHlo.held (d.tc : Thread nD τ) (ucRefs τ sig) (V d)
        ∗ (Pipeline.cellsGhost (Pipeline.pin (pcfgs (F := F)) adm) EP p d ∗ Pipeline.toksInit (Pipeline.pin (pcfgs (F := F)) adm) EP p d)
        ∗ (iprop((K (F := F)).tcSt EH d n ∗ boundary (d.tc : Thread nD τ)
            ∗ StableHlo.held (d.tc : Thread nD τ) (ucRefs τ sig) (afterRegion (dats V (Oq (F := F) n) (Bq (F := F) n) p d) (V d))) -∗ Q ⟨⟩))
      ⊢ wp frame (wpE ((K (F := F)).defs (D (F := F))) 𝒱 (d.tc : Thread nD τ) none) Set.univ (region p) Q :=
  (region_glue p n V d Q).trans ((region_call p n V d Q).trans
    ((K (F := F)).wp_liftProg (D (F := F)) 𝒱 (d.tc : Thread nD τ) Set.univ none (.op (.customCall (Pipeline.entry p) ()) .ret) Q))

/-! ## A SparseCore call -/

/-- The TensorCore's buffers but three, and those. -/
theorem held_three (d : Dev nD) (a b c : Ref sig .tc) (hab : a ≠ b) (hac : a ≠ c) (hbc : b ≠ c)
    (ha : a.isScoped = false) (hb : b.isScoped = false) (hc : c.isScoped = false) (W : Valuation τ sig (Elt F)) :
    (StableHlo.held (SparseCore.T d) (ucRefs τ sig) W : sProp 𝕄)
      = iprop((((SparseCore.T d).loc a ↦{fullShare} at' W a) ∗ ((SparseCore.T d).loc b ↦{fullShare} at' W b) ∗ ((SparseCore.T d).loc c ↦{fullShare} at' W c))
          ∗ StableHlo.held (SparseCore.T d) (ucRefs τ sig \ {Proc.devRef .tc a, Proc.devRef .tc b, Proc.devRef .tc c}) W) := by
  have hs : ({Proc.devRef .tc a, Proc.devRef .tc b, Proc.devRef .tc c} : Finset (DevRef τ sig)) ⊆ ucRefs τ sig := by
    have hmem : ∀ r : Ref sig .tc, r.isScoped = false → (Proc.devRef .tc r : DevRef τ sig) ∈ ucRefs τ sig := fun r hr =>
      Finset.mem_filter.mpr ⟨Finset.mem_map.mpr ⟨r, Finset.mem_univ _, rfl⟩, by
        show ¬ (Proc.devRef .tc r : DevRef τ sig).isScoped = true
        rw [show (Proc.devRef .tc r : DevRef τ sig).isScoped = r.isScoped from rfl, hr]; decide⟩
    intro x hx
    rcases Finset.mem_insert.mp hx with rfl | hx
    · exact hmem a ha
    rcases Finset.mem_insert.mp hx with rfl | hx
    · exact hmem b hb
    rw [Finset.mem_singleton.mp hx]; exact hmem c hc
  rw [StableHlo.held_sub_split (SparseCore.T d) hs W]
  congr 1
  unfold StableHlo.held
  rw [SparseCore.bigSep_insert', SparseCore.bigSep_insert', bigSep_singleton]
  · rw [Finset.mem_singleton]; exact fun h => hbc (Proc.devRef_injective _ h)
  · rw [Finset.mem_insert, Finset.mem_singleton]
    rintro (h | h)
    · exact hab (Proc.devRef_injective _ h)
    · exact hac (Proc.devRef_injective _ h)

section Gathers

omit [FloatOps F] in
/-- A call's tiles are two cores' sixteen subcores. -/
theorem tiles_eq (q : Fin 3) (P : Fin 2 → Fin 16 → sProp 𝕄) :
    (bigSep Finset.univ fun c : Fin ((K (F := F)).nCore q) => bigSep Finset.univ fun i : Fin ((K (F := F)).nSub q) => P (cOf (F := F) q c) (sOf (F := F) q i))
      = bigSep (Finset.univ : Finset (Fin 2)) fun c => bigSep (Finset.univ : Finset (Fin 16)) fun s => P c s :=
  match q with | 0 => rfl | 1 => rfl | 2 => rfl

variable (Vs : Fin 3 → Dev nD → Valuation τ sig (Elt F))

/-- What a call is handed, tile by tile, -/
theorem st_tiles (q : Fin 3) (d : Dev nD) : (bigSep Finset.univ fun c : Fin ((K (F := F)).nCore q) => (pay Vs).st q d c)
    = (bigSep (Finset.univ : Finset (Fin 2)) fun c => bigSep (Finset.univ : Finset (Fin 16)) fun s => goP q d (Vs q d) c s : sProp 𝕄) :=
  tiles_eq q (goP q d (Vs q d))
/-- and what it hands back. -/
theorem dn_tiles (q : Fin 3) (d : Dev nD) : (bigSep Finset.univ fun c : Fin ((K (F := F)).nCore q) => (pay Vs).dn q d c)
    = (bigSep (Finset.univ : Finset (Fin 2)) fun c => bigSep (Finset.univ : Finset (Fin 16)) fun s => tdP q d (Vs q d) c s : sProp 𝕄) :=
  tiles_eq q (tdP q d (Vs q d))

/-- What SparseCore call 0 is handed, from its three arrays. -/
theorem st_of0 (d : Dev nD) :
    iprop(((SparseCore.T d).loc main_v14 ↦{fullShare} at' (Vs 0 d) main_v14) ∗ ((SparseCore.T d).loc main_v12_0 ↦{fullShare} at' (Vs 0 d) main_v12_0)
        ∗ ((SparseCore.T d).loc main_v15 ↦{fullShare} at' (Vs 0 d) main_v15))
      ⊢ (bigSep Finset.univ fun c : Fin ((K (F := F)).nCore 0) => (pay Vs).st 0 d c : sProp 𝕄) := by
  have h := cut_go (F := F) (Ix := HIx 3) (Name := ℕ) (U := UU) (Lvl := ℕ) (nD := nD) (n := 32) (b := 128) (T := 4096) (R := 131072) rfl (Memref.whole main_v12_0_scv) (Memref.whole main_v14_scv) (Memref.whole main_v15_scv) cc₀ ii₀ d
    (at' (Vs 0 d) main_v12_0) (at' (Vs 0 d) main_v14) (at' (Vs 0 d) main_v15)
  rw [View.set_whole, View.set_whole, View.set_whole] at h
  rw [st_tiles]
  exact h
/-- What it hands back is the three, the result at the gathered rows. -/
theorem dn_to0 (d : Dev nD) :
    (bigSep Finset.univ fun c : Fin ((K (F := F)).nCore 0) => (pay Vs).dn 0 d c)
      ⊢ (iprop(((SparseCore.T d).loc main_v14 ↦{fullShare} at' (Vs 0 d) main_v14) ∗ ((SparseCore.T d).loc main_v12_0 ↦{fullShare} at' (Vs 0 d) main_v12_0)
        ∗ ((SparseCore.T d).loc main_v15 ↦{fullShare} (res0 (Vs 0 d) : S131072x128.Idx → Elt F .f32))) : sProp 𝕄) := by
  have h := join_td (F := F) (Ix := HIx 3) (Name := ℕ) (U := UU) (Lvl := ℕ) (nD := nD) (n := 32) (b := 128) (T := 4096) (R := 131072) rfl (Memref.whole main_v12_0_scv) (Memref.whole main_v14_scv) (Memref.whole main_v15_scv) cc₀ ii₀ d
    (at' (Vs 0 d) main_v12_0) (at' (Vs 0 d) main_v14) (res0 (Vs 0 d))
  rw [View.set_whole, View.set_whole, View.set_whole] at h
  rw [dn_tiles]
  exact h

/-- What SparseCore call 1 is handed, from its three arrays. -/
theorem st_of1 (d : Dev nD) :
    iprop(((SparseCore.T d).loc main_v27 ↦{fullShare} at' (Vs 1 d) main_v27) ∗ ((SparseCore.T d).loc main_v22 ↦{fullShare} at' (Vs 1 d) main_v22)
        ∗ ((SparseCore.T d).loc main_v28 ↦{fullShare} at' (Vs 1 d) main_v28))
      ⊢ (bigSep Finset.univ fun c : Fin ((K (F := F)).nCore 1) => (pay Vs).st 1 d c : sProp 𝕄) := by
  have h := cut_go (F := F) (Ix := HIx 3) (Name := ℕ) (U := UU) (Lvl := ℕ) (nD := nD) (n := 11) (b := 96) (T := 16392) (R := 33792) rfl (Memref.whole main_v22_scv) (Memref.whole main_v27_scv) (Memref.whole main_v28_scv) cc₀ ii₀ d
    (at' (Vs 1 d) main_v22) (at' (Vs 1 d) main_v27) (at' (Vs 1 d) main_v28)
  rw [View.set_whole, View.set_whole, View.set_whole] at h
  rw [st_tiles]
  exact h
/-- What it hands back is the three, the result at the gathered rows. -/
theorem dn_to1 (d : Dev nD) :
    (bigSep Finset.univ fun c : Fin ((K (F := F)).nCore 1) => (pay Vs).dn 1 d c)
      ⊢ (iprop(((SparseCore.T d).loc main_v27 ↦{fullShare} at' (Vs 1 d) main_v27) ∗ ((SparseCore.T d).loc main_v22 ↦{fullShare} at' (Vs 1 d) main_v22)
        ∗ ((SparseCore.T d).loc main_v28 ↦{fullShare} (res1 (Vs 1 d) : S33792x128.Idx → Elt F .f32))) : sProp 𝕄) := by
  have h := join_td (F := F) (Ix := HIx 3) (Name := ℕ) (U := UU) (Lvl := ℕ) (nD := nD) (n := 11) (b := 96) (T := 16392) (R := 33792) rfl (Memref.whole main_v22_scv) (Memref.whole main_v27_scv) (Memref.whole main_v28_scv) cc₀ ii₀ d
    (at' (Vs 1 d) main_v22) (at' (Vs 1 d) main_v27) (res1 (Vs 1 d))
  rw [View.set_whole, View.set_whole, View.set_whole] at h
  rw [dn_tiles]
  exact h

/-- What SparseCore call 2 is handed, from its three arrays. -/
theorem st_of2 (d : Dev nD) :
    iprop(((SparseCore.T d).loc main_v30 ↦{fullShare} at' (Vs 2 d) main_v30) ∗ ((SparseCore.T d).loc main_v12_1 ↦{fullShare} at' (Vs 2 d) main_v12_1)
        ∗ ((SparseCore.T d).loc main_v31 ↦{fullShare} at' (Vs 2 d) main_v31))
      ⊢ (bigSep Finset.univ fun c : Fin ((K (F := F)).nCore 2) => (pay Vs).st 2 d c : sProp 𝕄) := by
  have h := cut_go (F := F) (Ix := HIx 3) (Name := ℕ) (U := UU) (Lvl := ℕ) (nD := nD) (n := 1) (b := 64) (T := 256) (R := 2048) rfl (Memref.whole main_v12_1_scv) (Memref.whole main_v30_scv) (Memref.whole main_v31_scv) cc₀ ii₀ d
    (at' (Vs 2 d) main_v12_1) (at' (Vs 2 d) main_v30) (at' (Vs 2 d) main_v31)
  rw [View.set_whole, View.set_whole, View.set_whole] at h
  rw [st_tiles]
  exact h
/-- What it hands back is the three, the result at the gathered rows. -/
theorem dn_to2 (d : Dev nD) :
    (bigSep Finset.univ fun c : Fin ((K (F := F)).nCore 2) => (pay Vs).dn 2 d c)
      ⊢ (iprop(((SparseCore.T d).loc main_v30 ↦{fullShare} at' (Vs 2 d) main_v30) ∗ ((SparseCore.T d).loc main_v12_1 ↦{fullShare} at' (Vs 2 d) main_v12_1)
        ∗ ((SparseCore.T d).loc main_v31 ↦{fullShare} (res2 (Vs 2 d) : S2048x128.Idx → Elt F .f32))) : sProp 𝕄) := by
  have h := join_td (F := F) (Ix := HIx 3) (Name := ℕ) (U := UU) (Lvl := ℕ) (nD := nD) (n := 1) (b := 64) (T := 256) (R := 2048) rfl (Memref.whole main_v12_1_scv) (Memref.whole main_v30_scv) (Memref.whole main_v31_scv) cc₀ ii₀ d
    (at' (Vs 2 d) main_v12_1) (at' (Vs 2 d) main_v30) (res2 (Vs 2 d))
  rw [View.set_whole, View.set_whole, View.set_whole] at h
  rw [dn_tiles]
  exact h

/-- A SparseCore call over the TensorCore's buffers: its result's buffer is overwritten, the rest kept. -/
theorem gather_step (κ : GSem nD τ sig → ℕ) (q : Fin 3) (d : Dev nD) (a b c : Ref sig .tc) (hab : a ≠ b) (hac : a ≠ c) (hbc : b ≠ c)
    (ha : a.isScoped = false) (hb : b.isScoped = false) (hc : c.isScoped = false) (R : ((SparseCore.T d).loc c : Loc nD τ sig).2.ty.Contents (Elt F))
    (hst : iprop(((SparseCore.T d).loc a ↦{fullShare} at' (Vs q d) a) ∗ ((SparseCore.T d).loc b ↦{fullShare} at' (Vs q d) b)
        ∗ ((SparseCore.T d).loc c ↦{fullShare} at' (Vs q d) c)) ⊢ (bigSep Finset.univ fun c : Fin ((K (F := F)).nCore q) => (pay Vs).st q d c : sProp 𝕄))
    (hdn : (bigSep Finset.univ fun c : Fin ((K (F := F)).nCore q) => (pay Vs).dn q d c)
      ⊢ (iprop(((SparseCore.T d).loc a ↦{fullShare} at' (Vs q d) a) ∗ ((SparseCore.T d).loc b ↦{fullShare} at' (Vs q d) b)
        ∗ ((SparseCore.T d).loc c ↦{fullShare} R)) : sProp 𝕄)) (Q : PUnit → sProp 𝕄) :
    iprop((K (F := F)).ctx EH (pay Vs) κ ∗ (K (F := F)).tcSt EH d q.val ∗ StableHlo.held (SparseCore.T d) (ucRefs τ sig) (Vs q d)
        ∗ (iprop((K (F := F)).tcSt EH d (q.val + 1)
            ∗ StableHlo.held (SparseCore.T d) (ucRefs τ sig) (Function.update (Vs q d) (Proc.devRef .tc c) R)) -∗ Q ⟨⟩))
      ⊢ wp frame (wpE ((K (F := F)).defs (D (F := F))) 𝒱 (SparseCore.T d) none) Set.univ (sc.run d q) Q := by
  have hne : ∀ r : Ref sig .tc, r ≠ c → at' (Function.update (Vs q d) (Proc.devRef .tc c) R) r = at' (Vs q d) r :=
    fun r hr => Function.update_of_ne (fun h => hr (Proc.devRef_injective _ h)) _ _
  rw [held_three d a b c hab hac hbc ha hb hc (Vs q d), held_three d a b c hab hac hbc ha hb hc (Function.update (Vs q d) (Proc.devRef .tc c) R),
    hne a hac, hne b hbc, show at' (Function.update (Vs q d) (Proc.devRef .tc c) R) c = R from Function.update_self _ _ _,
    StableHlo.held_congr (SparseCore.T d) (V := Function.update (Vs q d) (Proc.devRef .tc c) R) (V' := Vs q d)
      (fun x hx => Function.update_of_ne (fun h => (Finset.mem_sdiff.mp hx).2 (by rw [h]; simp)) _ _)]
  iintro ⟨Hctx, Hst, ⟨Hg, Hh⟩, Hk⟩
  iapply ((K (F := F)).wp_run (D (F := F)) 𝒱 (EH := EH) (P := pay Vs) κ d q)
  isplitl [Hctx]; · iexact Hctx
  isplitl [Hst]; · iexact Hst
  isplitl [Hg]; · iapply hst; iexact Hg
  iintro ⟨Hst, Hdn⟩
  iapply Hk
  isplitl [Hst]; · iexact Hst
  isplitl [Hdn]; · iapply hdn; iexact Hdn
  iexact Hh

end Gathers

end Cert.KernelIdeal.Pf
-- ==== Proof.KernelIdeal.Run.lean ====
/-
  The program's run: @main stretch by stretch and call by call, what it leaves in every buffer of the TensorCore (`C12`),
  and that every counter ends at zero.
-/
module

public import proofs.«01_k».proof.Proof.KernelIdeal.Steps

@[expose] public section

noncomputable section

namespace Cert.KernelIdeal.Pf

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat afterRegion ucRefs)

variable {F : FTy → Type} [FloatOps F]

local notation "𝕄" => MT nD τ sig (HIx 3) (Elt F) ℕ UU ℕ

/-! ## The stretches' buffers -/

section Subs
open StableHlo (nullary_bufs_sub unary_bufs_sub binary_bufs_sub ternary_bufs_sub reshape_bufs_sub)

/-- The operations of each stretch touch the TensorCore's buffers only, and choose nothing. -/
theorem ops0_sub : (ops0 : List (HloOp τ sig (Elt F))).Forall fun op => op.bufs ⊆ StableHlo.tcRefs τ sig :=
  ⟨nullary_bufs_sub .., unary_bufs_sub .., nullary_bufs_sub .., unary_bufs_sub .., ternary_bufs_sub .., nullary_bufs_sub .., unary_bufs_sub .., nullary_bufs_sub .., unary_bufs_sub .., ternary_bufs_sub .., unary_bufs_sub .., unary_bufs_sub .., unary_bufs_sub .., reshape_bufs_sub .., reshape_bufs_sub .., reshape_bufs_sub ..⟩
@[inherit_doc ops0_sub]
theorem ops1_sub : (ops1 : List (HloOp τ sig (Elt F))).Forall fun op => op.bufs ⊆ StableHlo.tcRefs τ sig :=
  ⟨unary_bufs_sub .., reshape_bufs_sub ..⟩
@[inherit_doc ops0_sub]
theorem ops2_sub : (ops2 : List (HloOp τ sig (Elt F))).Forall fun op => op.bufs ⊆ StableHlo.tcRefs τ sig :=
  ⟨reshape_bufs_sub .., unary_bufs_sub .., reshape_bufs_sub .., reshape_bufs_sub ..⟩
@[inherit_doc ops0_sub]
theorem ops3_sub : (ops3 : List (HloOp τ sig (Elt F))).Forall fun op => op.bufs ⊆ StableHlo.tcRefs τ sig :=
  ⟨nullary_bufs_sub .., unary_bufs_sub .., binary_bufs_sub .., reshape_bufs_sub .., binary_bufs_sub .., nullary_bufs_sub .., unary_bufs_sub .., binary_bufs_sub .., reshape_bufs_sub ..⟩
@[inherit_doc ops0_sub]
theorem ops4_sub : (ops4 : List (HloOp τ sig (Elt F))).Forall fun op => op.bufs ⊆ StableHlo.tcRefs τ sig :=
  ⟨binary_bufs_sub .., reshape_bufs_sub ..⟩
@[inherit_doc ops0_sub]
theorem ops5_sub : (ops5 : List (HloOp τ sig (Elt F))).Forall fun op => op.bufs ⊆ StableHlo.tcRefs τ sig :=
  ⟨unary_bufs_sub .., unary_bufs_sub ..⟩
@[inherit_doc ops0_sub]
theorem ops6_sub : (ops6 : List (HloOp τ sig (Elt F))).Forall fun op => op.bufs ⊆ StableHlo.tcRefs τ sig :=
  ⟨reshape_bufs_sub .., unary_bufs_sub .., unary_bufs_sub ..⟩

end Subs

/-! ## The items of @main -/

/-- The program's items. -/
abbrev Item : Type 1 := Prog (TpuEff nD τ sig (Elt F) (SparseCore.Sig (ΛP (F := F)) 3) .tc) PUnit

/-- A stretch of host operations, then the rest. -/
theorem stretch_step (d : Dev nD) (ops : List (HloOp τ sig (Elt F))) (hS : ops.Forall fun op => op.bufs ⊆ StableHlo.tcRefs τ sig)
    (hf : ops.Forall fun op => op.fresh = ∅) (V : Valuation τ sig (Elt F)) (is : List (Item (F := F))) (Q : PUnit → sProp 𝕄) :
    iprop(boundary (d.tc : Thread nD τ) ∗ StableHlo.held (d.tc : Thread nD τ) (ucRefs τ sig) V
        ∗ (iprop(boundary (d.tc : Thread nD τ) ∗ StableHlo.held (d.tc : Thread nD τ) (ucRefs τ sig) (StableHlo.after ops V))
            -∗ wp frame (wpE ((K (F := F)).defs (D (F := F))) 𝒱 (d.tc : Thread nD τ) none) Set.univ (Pipeline.chain is) Q))
      ⊢ wp frame (wpE ((K (F := F)).defs (D (F := F))) 𝒱 (d.tc : Thread nD τ) none) Set.univ (Pipeline.chain (StableHlo.seq ops :: is)) Q := by
  rw [Pipeline.chain_cons]
  iintro ⟨Hb, Hh, Hk⟩
  iapply (StableHlo.wp_seq (defs := (K (F := F)).defs (D (F := F))) 𝒱 (bd := none) (E := Set.univ) d (ucRefs τ sig) (fun _ => Pipeline.chain is) (K := Q) ops
    (fun op hop => Pipeline.sub_ucRefs op (List.forall_iff_forall_mem.mp hS op hop)) (fun op hop => List.forall_iff_forall_mem.mp hf op hop) V) $$ [Hb Hh]
  · isplitl [Hb]; · iexact Hb
    iexact Hh
  iexact Hk

/-- A call, then the rest. -/
theorem item_step (d : Dev nD) (i : Item (F := F)) (is : List (Item (F := F))) (Q : PUnit → sProp 𝕄) :
    (wp frame (wpE ((K (F := F)).defs (D (F := F))) 𝒱 (d.tc : Thread nD τ) none) Set.univ i
        fun _ => wp frame (wpE ((K (F := F)).defs (D (F := F))) 𝒱 (d.tc : Thread nD τ) none) Set.univ (Pipeline.chain is) Q)
      ⊢ wp frame (wpE ((K (F := F)).defs (D (F := F))) 𝒱 (d.tc : Thread nD τ) none) Set.univ (Pipeline.chain (i :: is)) Q := by
  rw [Pipeline.chain_cons, wp_bind]

variable (m : (ℓ : Loc nD τ sig) → Buf (Elt F) ℓ) (ρ : Dev nD → PrngReg)

/-- The pipelines' ghost state on a device. -/
abbrev Gd (d : Dev nD) : sProp 𝕄 := bigSep (Finset.univ : Finset (Fin 3)) fun p =>
  iprop(Pipeline.cellsGhost (Pipeline.pin (pcfgs (F := F)) adm) EP p d ∗ Pipeline.toksInit (Pipeline.pin (pcfgs (F := F)) adm) EP p d)

/-- What the run leaves: every unscoped buffer of the TensorCore, at `C12`. -/
abbrev FIN (d : Dev nD) : sProp 𝕄 := StableHlo.held (SparseCore.T d) (ucRefs τ sig) (C12 m d)

/-- @main, from the launch memory, the handshakes and the pipelines' tokens: it ends with the buffers at `C12`. -/
theorem hmain_held (κ : GSem nD τ sig → ℕ) (d : Dev nD) (Q : PUnit → sProp 𝕄) :
    iprop((K (F := F)).ctx EH (pay (Vs m)) κ ∗ (K (F := F)).tcSt EH d 0 ∗ boundary (d.tc : Thread nD τ)
        ∗ StableHlo.held (d.tc : Thread nD τ) (ucRefs τ sig) (fun b => m (d, b)) ∗ Gd d
        ∗ (iprop((K (F := F)).tcSt EH d 3 ∗ boundary (d.tc : Thread nD τ) ∗ StableHlo.held (d.tc : Thread nD τ) (ucRefs τ sig) (C12 m d)) -∗ Q ⟨⟩))
      ⊢ wp frame (wpE ((K (F := F)).defs (D (F := F))) 𝒱 (d.tc : Thread nD τ) none) Set.univ (main d) Q := by
  unfold Gd
  rw [main_eq, show (Finset.univ : Finset (Fin 3)) = {0, 1, 2} from rfl, SparseCore.bigSep_insert' (by decide), SparseCore.bigSep_insert' (by decide), bigSep_singleton]
  iintro ⟨#Hctx, Hst, Hb, Hh, ⟨HG0, HG1, HG2⟩, Hk⟩
  ihave #Hl := ((K (F := F)).ctx_levAts κ) $$ Hctx
  iapply (stretch_step d ops0 ops0_sub (by refine ⟨?_, ?_, ?_, ?_, ?_, ?_, ?_, ?_, ?_, ?_, ?_, ?_, ?_, ?_, ?_, ?_⟩ <;> rfl))
  isplitl [Hb]; · iexact Hb
  isplitl [Hh]; · iexact Hh
  iintro ⟨Hb, Hh⟩
  iapply item_step
  iapply (region_step 0 0 (C0 m) d)
  isplitr; · iexact Hl
  isplitl [Hst]; · iexact Hst
  isplitl [Hb]; · iexact Hb
  isplitl [Hh]; · iexact Hh
  isplitl [HG0]; · iexact HG0
  iintro ⟨Hst, Hb, Hh⟩
  iapply (stretch_step d ops1 ops1_sub (by refine ⟨?_, ?_⟩ <;> rfl))
  isplitl [Hb]; · iexact Hb
  isplitl [Hh]; · iexact Hh
  iintro ⟨Hb, Hh⟩
  iapply item_step
  iapply (gather_step (Vs m) κ 0 d main_v14 main_v12_0 main_v15 (by decide) (by decide) (by decide) rfl rfl rfl (res0 (C2 m d)) (st_of0 (Vs m) d) (dn_to0 (Vs m) d))
  isplitr; · iexact Hctx
  isplitl [Hst]; · iexact Hst
  isplitl [Hh]; · iexact Hh
  iintro ⟨Hst, Hh⟩
  iapply (stretch_step d ops2 ops2_sub (by refine ⟨?_, ?_, ?_, ?_⟩ <;> rfl))
  isplitl [Hb]; · iexact Hb
  isplitl [Hh]; · iexact Hh
  iintro ⟨Hb, Hh⟩
  iapply item_step
  iapply (region_step 1 1 (C4 m) d)
  isplitr; · iexact Hl
  isplitl [Hst]; · iexact Hst
  isplitl [Hb]; · iexact Hb
  isplitl [Hh]; · iexact Hh
  isplitl [HG1]; · iexact HG1
  iintro ⟨Hst, Hb, Hh⟩
  iapply (stretch_step d ops3 ops3_sub (by refine ⟨?_, ?_, ?_, ?_, ?_, ?_, ?_, ?_, ?_⟩ <;> rfl))
  isplitl [Hb]; · iexact Hb
  isplitl [Hh]; · iexact Hh
  iintro ⟨Hb, Hh⟩
  iapply item_step
  iapply (gather_step (Vs m) κ 1 d main_v27 main_v22 main_v28 (by decide) (by decide) (by decide) rfl rfl rfl (res1 (C6 m d)) (st_of1 (Vs m) d) (dn_to1 (Vs m) d))
  isplitr; · iexact Hctx
  isplitl [Hst]; · iexact Hst
  isplitl [Hh]; · iexact Hh
  iintro ⟨Hst, Hh⟩
  iapply (stretch_step d ops4 ops4_sub (by refine ⟨?_, ?_⟩ <;> rfl))
  isplitl [Hb]; · iexact Hb
  isplitl [Hh]; · iexact Hh
  iintro ⟨Hb, Hh⟩
  iapply item_step
  iapply (gather_step (Vs m) κ 2 d main_v30 main_v12_1 main_v31 (by decide) (by decide) (by decide) rfl rfl rfl (res2 (C8 m d)) (st_of2 (Vs m) d) (dn_to2 (Vs m) d))
  isplitr; · iexact Hctx
  isplitl [Hst]; · iexact Hst
  isplitl [Hh]; · iexact Hh
  iintro ⟨Hst, Hh⟩
  iapply (stretch_step d ops5 ops5_sub (by refine ⟨?_, ?_⟩ <;> rfl))
  isplitl [Hb]; · iexact Hb
  isplitl [Hh]; · iexact Hh
  iintro ⟨Hb, Hh⟩
  iapply item_step
  iapply (region_step 2 3 (C10 m) d)
  isplitr; · iexact Hl
  isplitl [Hst]; · iexact Hst
  isplitl [Hb]; · iexact Hb
  isplitl [Hh]; · iexact Hh
  isplitl [HG2]; · iexact HG2
  iintro ⟨Hst, Hb, Hh⟩
  iapply (stretch_step d ops6 ops6_sub (by refine ⟨?_, ?_, ?_⟩ <;> rfl))
  isplitl [Hb]; · iexact Hb
  isplitl [Hh]; · iexact Hh
  iintro ⟨Hb, Hh⟩
  rw [Pipeline.chain_nil, show (pure ⟨⟩ : Item (F := F)) = .ret ⟨⟩ from rfl, wp_ret]
  imodintro
  iapply Hk
  isplitl [Hst]; · iexact Hst
  isplitl [Hb]; · iexact Hb
  iexact Hh

/-- @main on a device's TensorCore: from the launch memory, the three SparseCore calls made, its buffers end at `C12`. -/
theorem hmain (κ : GSem nD τ sig → ℕ) (d : Dev nD) :
    iprop((K (F := F)).ctx EH (pay (Vs m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (ucRefs τ sig) (fun b => m (d, b)) from
    Pipeline.unscopedBufs_held d (fun b => m (d, b))]
  iintro ⟨#Hctx, Hst, ⟨Hb, Hh, Hts, -⟩, HG⟩
  iapply (hmain_held m κ d)
  isplitr; · iexact Hctx
  isplitl [Hst]; · iexact Hst
  isplitl [Hb]; · iexact Hb
  isplitl [Hh]; · iexact Hh
  isplitl [HG]; · iexact HG
  iintro ⟨Hst, Hb, Hh⟩
  isplitl [Hst]; · iexact Hst
  isplitl [Hh]; · iexact Hh
  isplitl [Hb]; · iexact Hb
  iexact Hts

/-! ## The launch's ghost state -/

/-- The handshakes' rounds and the pipelines'. -/
def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

omit [FloatOps F] in
/-- A product of empty resources is empty. -/
theorem bigSep_emp' {I : Type} (s : Finset I) : (bigSep s fun _ => iprop(emp)) = (iprop(emp) : sProp 𝕄) := bigSep_emp_const s

/-- The launch tokens give each device its handshakes and its pipelines' tokens. -/
theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 3 => (pay (Vs m)).x q thr) := by
  unfold u₀ Gd
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), 1) : UP × Counters)) $$ Hu
  icases H with ⟨HH, HP⟩
  ihave H := (own_pair_emb (embR : Emb (UP × Counters) 𝕄)
    (initOf (Pipeline.cells (Pipeline.pin (pcfgs (F := F)) adm) cells_inj) (Pipeline.launchToks (Pipeline.pin (pcfgs (F := F)) adm) cells_inj)) (1 : Counters)) $$ HP
  icases H with ⟨HP, -⟩
  imod (Pipeline.fund_ghost (Pipeline.pin (pcfgs (F := F)) adm) (EP (F := F)) cells_inj) $$ HP with ⟨Hg, Ht⟩
  imodintro
  isplitl [HH]; · iexact HH
  isplitl [Hg Ht]
  · simp only [bigSep_sep']
    isplitl [Hg]; · iexact Hg
    iexact Ht
  rw [show (bigSep Finset.univ fun thr : Thread nD τ => bigSep Finset.univ fun q : Fin 3 => (pay (Vs m)).x q thr) = (bigSep Finset.univ fun _ => iprop(emp) : sProp 𝕄) from
    bigSep_congr fun _ _ => bigSep_emp' _, bigSep_emp']
  iempintro

/-! ## The run -/

/-- The TensorCore's unscoped buffers at the end. -/
def fq (d : Dev nD) (s' : Phys nD τ sig (Elt F)) : Prop := ∀ b ∈ ucRefs τ sig, s'.mem.mem (d, b) = C12 m d b

/-- Holding every unscoped buffer at `C12` says what the final memory is. -/
theorem hfin (d : Dev nD) (s' : Phys nD τ sig (Elt F)) : iprop(FIN m d ∗ SI s') ⊢ (⌜fq m d s'⌝ : sProp 𝕄) := by
  unfold fq FIN StableHlo.held
  refine Entails.trans (forall_intro fun b => ?_) pure_forall.2
  refine Entails.trans (forall_intro fun hb => ?_) pure_forall.2
  have he : (bigSep (ucRefs τ sig) fun b => ((((SparseCore.T d : Thread nD τ).1, b) : Loc nD τ sig) ↦{fullShare} C12 m d b : sProp 𝕄)) ⊢ (((d, b) : Loc nD τ sig) ↦{fullShare} C12 m d b : sProp 𝕄) :=
    bigSep_elim hb
  iintro ⟨H, HSI⟩
  ihave H := he $$ H
  ihave H := (SI_pointsTo_agree (st := s') (ℓ := (d, b)) (I := Finset.univ) (q := fullShare) (f := C12 m d b)) $$ [HSI H]
  · isplitl [HSI]; · iexact HSI
    iexact H
  icases H with %h
  ipureintro; exact funext fun i => h i (Finset.mem_univ i)

/-- What a run ends in: the TensorCore's buffers at `C12`, every counter at zero. -/
def QC : PUnit × MemSt nD τ sig (Elt F) → Prop := fun r => (∀ d : Dev nD, ∀ b ∈ ucRefs τ sig, r.2.mem (d, b) = C12 m d b) ∧ r.2.sem = fun _ => 0

/-- Every run of the program, its index lists within their tables, ends so. -/
theorem run_main [∀ e, Nonempty (Elt F e)] (hV : InRows (Vs m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pay (Vs m)) (A := ∅) facts v₀
    (fun q hq => match q with | 0 => nomatch hq | 1 => nomatch hq | 2 => nomatch hq)
    (fun q _ => match q with | 0 => tileObl0 (Vs m) hV | 1 => tileObl1 (Vs m) hV | 2 => tileObl2 (Vs m) hV)
    (fun q _ => SparseCore.Cfg.VecSplit.of_plain (vecSplit (Vs m) q))
    m ρ main Gd (FIN m) (u₀ (F := F)) (sep_elim_left.trans (hu₀ m)) (hmain m ρ) (fq m) (hfin m) (QC m) (fun _ h hz => ⟨h, hz⟩)

end Cert.KernelIdeal.Pf
-- ==== Proof.KernelIdeal.Keeps.lean ====
/-
  Which buffers each stretch and each call of @main leaves alone, so what the arguments hold at the end, and that the index
  lists the SparseCore calls are handed stay within their tables.
-/
module

public import proofs.«01_k».proof.Proof.KernelIdeal.Run
public import proofs.«01_k».proof.Proof.Ranges

@[expose] public section

noncomputable section

namespace Cert.KernelIdeal.Pf

open Cert.KernelIdeal Cert.KernelIdeal.Gen
open Idealize.ShloMosaic
open Idealize.ShloMosaic.SparseCore.Cfg (HIx)
open Idealize.ShloMosaic.Pipeline (Dat afterRegion ucRefs)

variable {F : FTy → Type} [FloatOps F]

/-! ## What is written -/

/-- The buffers each stretch writes. -/
abbrev W0 : List (Ref sig .tc) := [main_cst, main_v0, main_c, main_v1, main_v2, main_cst_0, main_v3, main_c_1, main_v4, main_v5, main_v6, main_v7, main_v8, main_v9, main_v10, main_v11]
@[inherit_doc W0] abbrev W1 : List (Ref sig .tc) := [main_v13, main_v14]
@[inherit_doc W0] abbrev W2 : List (Ref sig .tc) := [main_v16, main_v17, main_v18, main_v19]
@[inherit_doc W0] abbrev W3 : List (Ref sig .tc) := [main_cst_2, main_v21, main_v22, main_v23, main_v24, main_c_3, main_v25, main_v26, main_v27]
@[inherit_doc W0] abbrev W4 : List (Ref sig .tc) := [main_v29, main_v30]
@[inherit_doc W0] abbrev W5 : List (Ref sig .tc) := [main_v32, main_v33]
@[inherit_doc W0] abbrev W6 : List (Ref sig .tc) := [main_v35, main_v36, main_v37]

variable (V : Valuation τ sig (Elt F)) (r : Ref sig .tc)

/-- A buffer a stretch does not write keeps its contents. -/
theorem keep0 (h : r ∉ W0) : StableHlo.after ops0 V (Proc.devRef .tc r) = V (Proc.devRef .tc r) :=
  StableHlo.after_of_writes_sub ops0 V (StableHlo.forall_writes_sub_of_map (W := W0) rfl) h
@[inherit_doc keep0]
theorem keep1 (h : r ∉ W1) : StableHlo.after ops1 V (Proc.devRef .tc r) = V (Proc.devRef .tc r) :=
  StableHlo.after_of_writes_sub ops1 V (StableHlo.forall_writes_sub_of_map (W := W1) rfl) h
@[inherit_doc keep0]
theorem keep2 (h : r ∉ W2) : StableHlo.after ops2 V (Proc.devRef .tc r) = V (Proc.devRef .tc r) :=
  StableHlo.after_of_writes_sub ops2 V (StableHlo.forall_writes_sub_of_map (W := W2) rfl) h
@[inherit_doc keep0]
theorem keep3 (h : r ∉ W3) : StableHlo.after ops3 V (Proc.devRef .tc r) = V (Proc.devRef .tc r) :=
  StableHlo.after_of_writes_sub ops3 V (StableHlo.forall_writes_sub_of_map (W := W3) rfl) h
@[inherit_doc keep0]
theorem keep4 (h : r ∉ W4) : StableHlo.after ops4 V (Proc.devRef .tc r) = V (Proc.devRef .tc r) :=
  StableHlo.after_of_writes_sub ops4 V (StableHlo.forall_writes_sub_of_map (W := W4) rfl) h
@[inherit_doc keep0]
theorem keep5 (h : r ∉ W5) : StableHlo.after ops5 V (Proc.devRef .tc r) = V (Proc.devRef .tc r) :=
  StableHlo.after_of_writes_sub ops5 V (StableHlo.forall_writes_sub_of_map (W := W5) rfl) h
@[inherit_doc keep0]
theorem keep6 (h : r ∉ W6) : StableHlo.after ops6 V (Proc.devRef .tc r) = V (Proc.devRef .tc r) :=
  StableHlo.after_of_writes_sub ops6 V (StableHlo.forall_writes_sub_of_map (W := W6) rfl) h

variable (m : (ℓ : Loc nD τ sig) → Buf (Elt F) ℓ) (d : Dev nD)

/-- A buffer that is no result of the first call is kept by it, -/
theorem keepR0 (h : r ∉ [main_v12_0, main_v12_1]) : C1 m d (Proc.devRef .tc r) = C0 m d (Proc.devRef .tc r) :=
  Pipeline.afterRegion_keeps (dat0 (C0 m) (Oq (F := F) 0) (Bq (F := F) 0) d) (C0 m d) launch0.win.arr_inj (fun _ => rfl) r fun w hw => by
    subst hw; revert w; decide
/-- so by the recurrent cell's, -/
theorem keepR1 (h : r ∉ [main_v20]) : C5 m d (Proc.devRef .tc r) = C4 m d (Proc.devRef .tc r) :=
  Pipeline.afterRegion_keeps (dat2 (C4 m) (Oq (F := F) 1) (Bq (F := F) 1) d) (C4 m d) launch2.win.arr_inj (fun _ => rfl) r fun w hw => by
    subst hw; revert w; decide
/-- and by the score's. -/
theorem keepR2 (h : r ∉ [main_v34]) : C11 m d (Proc.devRef .tc r) = C10 m d (Proc.devRef .tc r) :=
  Pipeline.afterRegion_keeps (dat5 (C10 m) (Oq (F := F) 3) (Bq (F := F) 3) d) (C10 m d) launch5.win.arr_inj (fun _ => rfl) r fun w hw => by
    subst hw; revert w; decide
/-- A gather writes its result only. -/
theorem keepG0 (h : r ≠ main_v15) : C3 m d (Proc.devRef .tc r) = C2 m d (Proc.devRef .tc r) := Function.update_of_ne (StableHlo.devRef_ne_of_ne h) _ _
@[inherit_doc keepG0]
theorem keepG1 (h : r ≠ main_v28) : C7 m d (Proc.devRef .tc r) = C6 m d (Proc.devRef .tc r) := Function.update_of_ne (StableHlo.devRef_ne_of_ne h) _ _
@[inherit_doc keepG0]
theorem keepG2 (h : r ≠ main_v31) : C9 m d (Proc.devRef .tc r) = C8 m d (Proc.devRef .tc r) := Function.update_of_ne (StableHlo.devRef_ne_of_ne h) _ _

/-- From one point of @main to a later one, a buffer written by nothing between is kept. -/
theorem k0 (h : r ∉ W0) : C0 m d (Proc.devRef .tc r) = m (d, Proc.devRef .tc r) := keep0 (fun b => m (d, b)) r h
@[inherit_doc k0]
theorem k2 (h : r ∉ W1 ++ [main_v12_0, main_v12_1]) : C2 m d (Proc.devRef .tc r) = C0 m d (Proc.devRef .tc r) :=
  (keep1 _ r fun h' => h (List.mem_append_left _ h')).trans (keepR0 r m d fun h' => h (List.mem_append_right _ h'))
@[inherit_doc k0]
theorem k4 (h : r ∉ W2 ++ [main_v15]) : C4 m d (Proc.devRef .tc r) = C2 m d (Proc.devRef .tc r) :=
  (keep2 _ r fun h' => h (List.mem_append_left _ h')).trans (keepG0 r m d fun h' => h (List.mem_append_right _ (List.mem_singleton.mpr h')))
@[inherit_doc k0]
theorem k6 (h : r ∉ W3 ++ [main_v20]) : C6 m d (Proc.devRef .tc r) = C4 m d (Proc.devRef .tc r) :=
  (keep3 _ r fun h' => h (List.mem_append_left _ h')).trans (keepR1 r m d fun h' => h (List.mem_append_right _ h'))
@[inherit_doc k0]
theorem k8 (h : r ∉ W4 ++ [main_v28]) : C8 m d (Proc.devRef .tc r) = C6 m d (Proc.devRef .tc r) :=
  (keep4 _ r fun h' => h (List.mem_append_left _ h')).trans (keepG1 r m d fun h' => h (List.mem_append_right _ (List.mem_singleton.mpr h')))
@[inherit_doc k0]
theorem k10 (h : r ∉ W5 ++ [main_v31]) : C10 m d (Proc.devRef .tc r) = C8 m d (Proc.devRef .tc r) :=
  (keep5 _ r fun h' => h (List.mem_append_left _ h')).trans (keepG2 r m d fun h' => h (List.mem_append_right _ (List.mem_singleton.mpr h')))
@[inherit_doc k0]
theorem k12 (h : r ∉ W6 ++ [main_v34]) : C12 m d (Proc.devRef .tc r) = C10 m d (Proc.devRef .tc r) :=
  (keep6 _ r fun h' => h (List.mem_append_left _ h')).trans (keepR2 r m d fun h' => h (List.mem_append_right _ h'))

/-- The sixteen arguments. -/
abbrev args : List (Ref sig .tc) := [main_arg0, main_arg1, main_arg2, main_arg3, main_arg4, main_arg5, main_arg6, main_arg7, main_arg8, main_arg9, main_arg10,
  main_arg11, main_arg12, main_arg13, main_arg14, main_arg15]

/-- No operation and no call writes an argument. -/
theorem args_off : ∀ r ∈ args, r ∉ W0 ∧ r ∉ W1 ++ [main_v12_0, main_v12_1] ∧ r ∉ W2 ++ [main_v15] ∧ r ∉ W3 ++ [main_v20] ∧ r ∉ W4 ++ [main_v28]
    ∧ r ∉ W5 ++ [main_v31] ∧ r ∉ W6 ++ [main_v34] := by decide +kernel

variable {r}

/-- An argument holds its launch contents at each point. -/
theorem a0 (hr : r ∈ args) : C0 m d (Proc.devRef .tc r) = m (d, Proc.devRef .tc r) := k0 r m d (args_off r hr).1
@[inherit_doc a0]
theorem a2 (hr : r ∈ args) : C2 m d (Proc.devRef .tc r) = m (d, Proc.devRef .tc r) := (k2 r m d (args_off r hr).2.1).trans (a0 m d hr)
@[inherit_doc a0]
theorem a4 (hr : r ∈ args) : C4 m d (Proc.devRef .tc r) = m (d, Proc.devRef .tc r) := (k4 r m d (args_off r hr).2.2.1).trans (a2 m d hr)
@[inherit_doc a0]
theorem a6 (hr : r ∈ args) : C6 m d (Proc.devRef .tc r) = m (d, Proc.devRef .tc r) := (k6 r m d (args_off r hr).2.2.2.1).trans (a4 m d hr)
@[inherit_doc a0]
theorem a8 (hr : r ∈ args) : C8 m d (Proc.devRef .tc r) = m (d, Proc.devRef .tc r) := (k8 r m d (args_off r hr).2.2.2.2.1).trans (a6 m d hr)
@[inherit_doc a0]
theorem a10 (hr : r ∈ args) : C10 m d (Proc.devRef .tc r) = m (d, Proc.devRef .tc r) := (k10 r m d (args_off r hr).2.2.2.2.2.1).trans (a8 m d hr)
@[inherit_doc a0]
theorem a12 (hr : r ∈ args) : C12 m d (Proc.devRef .tc r) = m (d, Proc.devRef .tc r) := (k12 r m d (args_off r hr).2.2.2.2.2.2).trans (a10 m d hr)

end Cert.KernelIdeal.Pf
-- ==== Proof.KernelIdeal.Frame.lean ====
/-
  Under the precondition the index lists the SparseCore calls are handed stay within their tables, so that the program runs, and
  at the end every argument holds what it was launched with.
-/
module

public import proofs.«01_k».proof.Proof.KernelIdeal.Keeps

@[expose] public section

noncomputable section

namespace Cert.KernelIdeal.Pf

open Cert.KernelIdeal Cert.KernelIdeal.Gen
open Idealize.ShloMosaic
open Idealize.SL.Sem
open Idealize.ShloMosaic.Pipeline (ucRefs)

variable {F : FTy → Type} [FloatOps F]

variable (m : (ℓ : Loc nD τ sig) → Buf (Elt F) ℓ) (d : Dev nD)

/-- An argument as launched. -/
abbrev arg (r : Ref sig .tc) : Buf (Elt F) ((d, Proc.devRef .tc r) : Loc nD τ sig) := m (d, Proc.devRef .tc r)

/-! ## The index lists -/

/-- The list of time rows, -/
theorem idx0 : (C2 m d (Proc.devRef .tc main_v14) : IVec S32x32x128 32)
    = shapeCast S32x32x128 (transpose S8x16384 [1, 0] (arg m d main_arg3 : IVec S16384x8 32) transposes_S16384x8_S8x16384_1_0) shapeCasts_S8x16384_S32x32x128 := by
  have h : (C2 m d (Proc.devRef .tc main_v14) : IVec S32x32x128 32) = shapeCast S32x32x128 (transpose S8x16384 [1, 0] (C1 m d (Proc.devRef .tc main_arg3) : IVec S16384x8 32) transposes_S16384x8_S8x16384_1_0) shapeCasts_S8x16384_S32x32x128 := by
    unfold C2; after_results <;> rfl
  rw [h, keepR0 main_arg3 m d (by decide), a0 m d (by decide)]

/-- of path rows, -/
theorem idx1 : (C6 m d (Proc.devRef .tc main_v27) : IVec S32x11x96 32)
    = shapeCast S32x11x96 (addi (concatenate S33792 0 [⟨S32768, shapeCast S32768 (arg m d main_arg0 : IVec S1024x32 32) shapeCasts_S1024x32_S32768⟩, ⟨S1024, (arg m d main_arg6 : IVec S1024 32)⟩] concatenates_S32768_S1024_S33792_d0)
        (broadcastInDim S33792 ![] bcast_S_S33792 (constantI S_ 32 7#32))) shapeCasts_S33792_S32x11x96 := by
  have h : (C6 m d (Proc.devRef .tc main_v27) : IVec S32x11x96 32)
    = shapeCast S32x11x96 (addi (concatenate S33792 0 [⟨S32768, shapeCast S32768 (C5 m d (Proc.devRef .tc main_arg0) : IVec S1024x32 32) shapeCasts_S1024x32_S32768⟩, ⟨S1024, (C5 m d (Proc.devRef .tc main_arg6) : IVec S1024 32)⟩] concatenates_S32768_S1024_S33792_d0)
        (broadcastInDim S33792 ![] bcast_S_S33792 (constantI S_ 32 7#32))) shapeCasts_S33792_S32x11x96 := by
    unfold C6; after_results <;> rfl
  rw [h, keepR1 main_arg0 m d (by decide), keepR1 main_arg6 m d (by decide), a4 m d (by decide), a4 m d (by decide)]

/-- and of relation rows. -/
theorem idx2 : (C8 m d (Proc.devRef .tc main_v30) : IVec S32x1x64 32)
    = shapeCast S32x1x64 (concatenate S2048 0 [⟨S1024, (arg m d main_arg5 : IVec S1024 32)⟩, ⟨S1024, (arg m d main_arg1 : IVec S1024 32)⟩] concatenates_S1024_S1024_S2048_d0) shapeCasts_S2048_S32x1x64 := by
  have h : (C8 m d (Proc.devRef .tc main_v30) : IVec S32x1x64 32)
    = shapeCast S32x1x64 (concatenate S2048 0 [⟨S1024, (C7 m d (Proc.devRef .tc main_arg5) : IVec S1024 32)⟩, ⟨S1024, (C7 m d (Proc.devRef .tc main_arg1) : IVec S1024 32)⟩] concatenates_S1024_S1024_S2048_d0) shapeCasts_S2048_S32x1x64 := by
    unfold C8; after_results <;> rfl
  rw [h, keepG1 main_arg5 m d (by decide), keepG1 main_arg1 m d (by decide), a6 m d (by decide), a6 m d (by decide)]

/-- What holds of every element of every piece holds of every element of their concatenation. -/
theorem forall_concatenate {α : Type} {t : Shape} (P : α → Prop) (a : Fin t.rank) (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- Seven more than a word of at most 16384. -/
theorem add_seven {a : BitVec 32} (h : a.toNat ≤ 16384) : (IntOp.addi a 7#32).toNat = a.toNat + 7 := by
  show (a + 7#32).toNat = _
  rw [BitVec.toNat_add, show (7#32 : BitVec 32).toNat = 7 by decide]
  omega

variable {m}

/-- The index lists stay within their tables when the index arrays do. -/
theorem inRows (h : ∀ d, Cert.Proof.Ranges.InRange (arg m d main_arg0) (arg m d main_arg1) (arg m d main_arg2) (arg m d main_arg3) (arg m d main_arg5) (arg m d main_arg6)) :
    InRows (Vs m) where
  h0 d x := by
    refine lt_of_eq_of_lt (congrArg BitVec.toNat (congrFun (idx0 m d) x)) ?_
    exact Nat.lt_of_le_of_lt ((h d).time _) (by decide)
  h1 d x := by
    refine lt_of_eq_of_lt (congrArg BitVec.toNat (congrFun (idx1 m d) x)) ?_
    have hc : ∀ j, (concatenate S33792 0 [⟨S32768, shapeCast S32768 (arg m d main_arg0 : IVec S1024x32 32) shapeCasts_S1024x32_S32768⟩, ⟨S1024, (arg m d main_arg6 : IVec S1024 32)⟩] concatenates_S32768_S1024_S33792_d0 j).toNat ≤ 16384 :=
      forall_concatenate (fun a : BitVec 32 => a.toNat ≤ 16384) 0 _ _ fun p hp => by
        rcases List.mem_cons.mp hp with rfl | hp
        · exact fun i => (h d).path _
        · rw [List.mem_singleton.mp hp]; exact fun i => (h d).neg i
    have hb : ∀ j, (IntOp.addi (concatenate S33792 0 [⟨S32768, shapeCast S32768 (arg m d main_arg0 : IVec S1024x32 32) shapeCasts_S1024x32_S32768⟩, ⟨S1024, (arg m d main_arg6 : IVec S1024 32)⟩] concatenates_S32768_S1024_S33792_d0 j) 7#32).toNat < 16392 :=
      fun j => by rw [add_seven (hc j)]; have := hc j; omega
    exact hb _
  h2 d x := by
    refine lt_of_eq_of_lt (congrArg BitVec.toNat (congrFun (idx2 m d) x)) ?_
    refine Nat.lt_of_le_of_lt (forall_concatenate (fun a : BitVec 32 => a.toNat ≤ 230) 0 _ _ (fun p hp => ?_) _) (by decide)
    rcases List.mem_cons.mp hp with rfl | hp
    · exact fun i => (h d).rpos i
    · rw [List.mem_singleton.mp hp]; exact fun i => (h d).rel i

/-- A device buffer of the TensorCore's that no region scopes is among those the run accounts for. -/
theorem mem_ucRefs (r : Ref sig .tc) (hr : r.isScoped = false) : (Proc.devRef .tc r : DevRef τ sig) ∈ ucRefs τ sig :=
  Finset.mem_filter.mpr ⟨Finset.mem_map.mpr ⟨r, Finset.mem_univ _, rfl⟩, by
    show ¬ (Proc.devRef .tc r : DevRef τ sig).isScoped = true
    rw [show (Proc.devRef .tc r : DevRef τ sig).isScoped = r.isScoped from rfl, hr]; decide⟩

/-- So a final state that `QC` describes holds each argument as launched. -/
theorem arg_kept {r : PUnit × MemSt nD τ sig (Elt F)} (h : QC m r) (d : Dev nD) (b : Ref sig .tc) (hb : b ∈ args) (hs : b.isScoped = false) :
    r.2.mem ((d.tc : Thread nD τ).loc b) = m ((d.tc : Thread nD τ).loc b) :=
  (h.1 d _ (mem_ucRefs b hs)).trans (a12 m d hb)

end Cert.KernelIdeal.Pf
-- ==== Proof.Frames.lean ====
/-
  The frames: each program runs, ends with every argument as launched and every semaphore at zero.
-/
module

public import proofs.«01_k».proof.Defs
public import proofs.«01_k».proof.Proof.Kernel.Frame
public import proofs.«01_k».proof.Proof.KernelIdeal.Frame
public import proofs.«01_k».proof.Proof.Gen.ReferenceIdeal.StepRun
public import Idealize.ShloMosaic.Lib.Quiescent

@[expose] public section

noncomputable section

namespace Cert.Proof

open Idealize.ShloMosaic Idealize.SL.Sem

/-- The precondition's side conditions hold. -/
theorem preFacts : Cert.Pre_in_range.Facts := by
  constructor <;> decide +kernel

/-- The kernel, on words. -/
theorem frame_Kernel : quiescent_Kernel (hKernel := Cert.Kernel.Gen.facts) (hPre_in_range := preFacts) := by
  intro m g hm
  have : Cert.Pre_in_range.Facts := preFacts
  have : ∀ e, Nonempty (Elt Bits e) := fun e => by cases e <;> exact ⟨0⟩
  refine (θ_run _ _ _).mono (fun r h => ?_) (Cert.Kernel.Pf.run_main m g (Cert.Kernel.Pf.inRows fun d => Ranges.inRange _ _ _ _ _ _ _ _ _ _ _ _ _ _ _ _ (hm d)))
  have k := fun c b hb hs => Cert.Kernel.Pf.arg_kept h c b hb hs
  exact ⟨fun c => ⟨k c _ (by decide) (by decide), k c _ (by decide) (by decide), k c _ (by decide) (by decide), k c _ (by decide) (by decide),
    k c _ (by decide) (by decide), k c _ (by decide) (by decide), k c _ (by decide) (by decide), k c _ (by decide) (by decide),
    k c _ (by decide) (by decide), k c _ (by decide) (by decide), k c _ (by decide) (by decide), k c _ (by decide) (by decide),
    k c _ (by decide) (by decide), k c _ (by decide) (by decide), k c _ (by decide) (by decide), k c _ (by decide) (by decide)⟩, h.2⟩

/-- The kernel, over the reals. -/
theorem frame_KernelIdeal : quiescent_KernelIdeal (hKernelIdeal := Cert.KernelIdeal.Gen.facts) (hPre_in_range := preFacts) := by
  intro m g hm
  have : Cert.Pre_in_range.Facts := preFacts
  have : ∀ e, Nonempty (Elt Ideal e) := fun e => by cases e <;> exact ⟨0⟩
  refine (θ_run _ _ _).mono (fun r h => ?_) (Cert.KernelIdeal.Pf.run_main m g (Cert.KernelIdeal.Pf.inRows fun d => Ranges.inRange _ _ _ _ _ _ _ _ _ _ _ _ _ _ _ _ (hm d)))
  have k := fun c b hb hs => Cert.KernelIdeal.Pf.arg_kept h c b hb hs
  exact ⟨fun c => ⟨k c _ (by decide) (by decide), k c _ (by decide) (by decide), k c _ (by decide) (by decide), k c _ (by decide) (by decide),
    k c _ (by decide) (by decide), k c _ (by decide) (by decide), k c _ (by decide) (by decide), k c _ (by decide) (by decide),
    k c _ (by decide) (by decide), k c _ (by decide) (by decide), k c _ (by decide) (by decide), k c _ (by decide) (by decide),
    k c _ (by decide) (by decide), k c _ (by decide) (by decide), k c _ (by decide) (by decide), k c _ (by decide) (by decide)⟩, h.2⟩

/-- The reference, over the reals. -/
theorem frame_ReferenceIdeal : quiescent_ReferenceIdeal (hReferenceIdeal := Cert.ReferenceIdeal.Gen.facts) := fun m g _ =>
  (θ_run _ _ _).mono (fun r h => ⟨fun c => (h c).2.2.2, sem_eq_zero_of_no_sems (by decide) r.2⟩) (Cert.ReferenceIdeal.Value.run m g)

/-- So under the precondition too. -/
theorem frame_ReferenceIdeal_in_range : quiescent_ReferenceIdeal_pre_in_range (hReferenceIdeal := Cert.ReferenceIdeal.Gen.facts) (hPre_in_range := preFacts) :=
  fun m g _ => frame_ReferenceIdeal m g trivial

end Cert.Proof
-- ==== Proof.Model.lean ====
/-
  The mathematics both programs compute, row by row over the extended reals: the gates of a recurrent cell, one step of the cell,
  the hidden state after some steps of a path, and a row divided by its length.
-/
module

public import Idealize.ShloMosaic.Lib.Pointwise

@[expose] public section

noncomputable section

namespace Cert.Model

open Idealize.ShloMosaic

/-- The gates of a row `x`: its product with the weights, and the bias. -/
def gates (w : Fin 128 → Fin 384 → EReal) (b : Fin 384 → EReal) (x : Fin 128 → EReal) (c : Fin 384) : EReal := ∑ k, x k * w k c + b c

/-- The cell's new hidden state, from the gates `gi` of the input, the gates `gh` of the hidden state `h`, and `h`. -/
def cell (gi gh : Fin 384 → EReal) (h : Fin 128 → EReal) (q : Fin 128) : EReal :=
  (1 - Ideal.logistic (gi ⟨128 + q.val, by omega⟩ + gh ⟨128 + q.val, by omega⟩))
      * Ideal.tanh (gi ⟨256 + q.val, by omega⟩ + Ideal.logistic (gi ⟨q.val, by omega⟩ + gh ⟨q.val, by omega⟩) * gh ⟨256 + q.val, by omega⟩)
    + Ideal.logistic (gi ⟨128 + q.val, by omega⟩ + gh ⟨128 + q.val, by omega⟩) * h q

/-- Step `t` of a path of length `len`: the cell's new state if the path has a step `t`, else the old state. -/
def trip (len : BitVec 32) (w : Fin 128 → Fin 384 → EReal) (b : Fin 384 → EReal) (t : ℕ) (gi : Fin 384 → EReal) (h : Fin 128 → EReal) (q : Fin 128) : EReal :=
  Scalar.select (IntOp.cmpi .sgt len (BitVec.ofNat 32 t)) (cell gi (gates w b h) h q) (h q)

/-- The hidden state after `n` steps, from zeros, the gates of step `t`'s input being `gi t`. -/
def hid (len : BitVec 32) (w : Fin 128 → Fin 384 → EReal) (b : Fin 384 → EReal) (gi : ℕ → Fin 384 → EReal) : ℕ → Fin 128 → EReal
  | 0 => fun _ => 0
  | n + 1 => trip len w b n (gi n) (hid len w b gi n)

/-- A row divided by its length, the length taken no smaller than a small constant. -/
def nrm (v : Fin 128 → EReal) (q : Fin 128) : EReal := Ideal.div (v q) (max (Ideal.sqrt (∑ x, v x * v x)) (Ideal.ofBits .f32 730643660#32))

/-- A row of a table of which only the first `n` rows are given: the others are zeros. -/
def padded (n : ℕ) (T : Fin n → Fin 128 → EReal) (i : ℕ) (q : Fin 128) : EReal := if h : i < n then T ⟨i, h⟩ q else 0

/-- The sum of a table's rows, each times one if its number is `p` and zero else, is row `p`. -/
theorem onehot (n : ℕ) (hn : n ≤ 2 ^ 32) (T : Fin n → EReal) (p : Fin n) (w : BitVec 32) (hw : w = BitVec.ofNat 32 p.val) :
    ∑ x : Fin n, FloatOps.sitofp (F := Ideal) .f32 (BitVec.setWidth 32 (IntOp.cmpi .eq w (BitVec.ofNat 32 x.val))) * T x = T p := by
  have h : ∀ x : Fin n, (FloatOps.sitofp (F := Ideal) .f32 (BitVec.setWidth 32 (IntOp.cmpi .eq w (BitVec.ofNat 32 x.val))) : EReal) = if x = p then 1 else 0 := by
    intro x
    subst hw
    by_cases e : x = p
    · subst e
      simp [IntOp.cmpi, FloatOps.sitofp]
    · have : BitVec.ofNat 32 p.val ≠ BitVec.ofNat 32 x.val := by
        intro q
        have := congrArg BitVec.toNat q
        simp only [BitVec.toNat_ofNat] at this
        rw [Nat.mod_eq_of_lt (by omega), Nat.mod_eq_of_lt (by omega)] at this
        exact e (Fin.ext this.symm)
      simp [IntOp.cmpi, FloatOps.sitofp, e, beq_false_of_ne this]
  simp only [h, ite_mul, one_mul, zero_mul, Finset.sum_ite_eq', Finset.mem_univ, if_true]

/-- The small constant is positive. -/
theorem eps_pos : (0 : EReal) < Ideal.ofBits .f32 730643660#32 := by
  simp only [Ideal.ofBits, Ideal.ieee]
  rw [if_neg (by decide), if_neg (by decide), if_neg (by decide)]
  exact EReal.coe_pos.mpr (by positivity)

/-- A row of zeros divided by its length is zeros. -/
theorem nrm_zero (q : Fin 128) : nrm (fun _ => 0) q = 0 := by
  unfold nrm
  rw [Ideal.div, if_neg (lt_of_lt_of_le eps_pos (le_max_right _ _)).ne', zero_mul]

/-- The greatest of `n` numbers each times a mark, where the marks are one at the `k` chosen places and zero elsewhere and fewer places are chosen than there
    are: the greatest of the chosen numbers, and zero. -/
theorem masked_max {n k : ℕ} (hkn : k < n) (b : EReal) (s mark : Fin n → EReal) (p : Fin k → Fin n)
    (hit : ∀ j, mark (p j) = 1) (miss : ∀ x, (∀ j, p j ≠ x) → mark x = 0) :
    Finset.univ.fold max b (fun x => s x * mark x) = max (Finset.univ.fold max b fun j => s (p j)) 0 := by
  apply le_antisymm
  · rw [Finset.fold_max_le]
    refine ⟨le_max_of_le_left (Finset.le_fold_max _ |>.mpr (Or.inl le_rfl)), fun x _ => ?_⟩
    by_cases h : ∃ j, p j = x
    · obtain ⟨j, rfl⟩ := h
      rw [hit j, mul_one]
      exact le_max_of_le_left (Finset.le_fold_max _ |>.mpr (Or.inr ⟨j, Finset.mem_univ _, le_rfl⟩))
    · rw [miss x fun j e => h ⟨j, e⟩, mul_zero]
      exact le_max_right _ _
  · refine max_le ?_ ?_
    · rw [Finset.fold_max_le]
      refine ⟨Finset.le_fold_max _ |>.mpr (Or.inl le_rfl), fun j _ => Finset.le_fold_max _ |>.mpr (Or.inr ⟨p j, Finset.mem_univ _, ?_⟩)⟩
      rw [hit j, mul_one]
    · obtain ⟨x, hx⟩ : ∃ x, ∀ j, p j ≠ x := by
        by_contra h
        simp only [not_exists, not_forall, not_not] at h
        have := Fintype.card_le_of_surjective p h
        simp only [Fintype.card_fin] at this
        omega
      refine Finset.le_fold_max _ |>.mpr (Or.inr ⟨x, Finset.mem_univ _, ?_⟩)
      rw [miss x hx, mul_zero]

end Cert.Model
-- ==== Proof.KernelIdeal.Cell.lean ====
/-
  One step of the recurrent cell as the kernel computes it on a block of rows, and that its eight steps are that step eight times.
-/
module

public import proofs.«01_k».proof.Proof.KernelIdeal.RegionBodies
public import proofs.«01_k».proof.Proof.Model

@[expose] public section

noncomputable section

namespace Cert.KernelIdeal.Pf

open Cert.KernelIdeal Cert.KernelIdeal.Gen
open Idealize.ShloMosaic Idealize.ShloMosaic.TcCoe

variable {F : FTy → Type} [FloatOps F]

/-- The hidden part of the gates: the hidden states times the weights, and the bias. -/
def gateH (h : FVec F S1024x128 .f32) (w : Vec F S128x384 .f32) (b : Vec F S1x384 .f32) : FVec F S1024x384 .f32 :=
  addf (matmul dot_S1024x128_S128x384_S1024x384_1_0_0_1_n_n none h (shapeCast S128x384 w shapeCasts_S128x384_S128x384) (constant S1024x384 .f32 0x00000000#32))
    (broadcastTo S1024x384 (shapeCast S1x384 b shapeCasts_S1x384_S1x384) broadcasts_S1x384_S1024x384)

/-- The new hidden states from the two parts of the gates and the old hidden states. -/
def cellH (gi gh : FVec F S1024x384 .f32) (h : FVec F S1024x128 .f32) : FVec F S1024x128 .f32 :=
  let r := logistic (addf (extractStridedSlice S1024x128 ![0, 0] gi slices_S1024x384_o0_0_S1024x128) (extractStridedSlice S1024x128 ![0, 0] gh slices_S1024x384_o0_0_S1024x128))
  let z := logistic (addf (extractStridedSlice S1024x128 ![0, 128] gi slices_S1024x384_o0_128_S1024x128) (extractStridedSlice S1024x128 ![0, 128] gh slices_S1024x384_o0_128_S1024x128))
  let n := tanh (addf (extractStridedSlice S1024x128 ![0, 256] gi slices_S1024x384_o0_256_S1024x128)
    (mulf r (extractStridedSlice S1024x128 ![0, 256] gh slices_S1024x384_o0_256_S1024x128)))
  addf (mulf (subf (broadcast S1024x128 (Scalar.ofBits .f32 0x3F800000#32)) z) n) (mulf z h)

/-- The rows whose length exceeds `t` take the new states, the others keep the old. -/
def keepH (len : IVec S1024x1 32) (t : BitVec 32) (new old : FVec F S1024x128 .f32) : FVec F S1024x128 .f32 :=
  select (broadcastTo S1024x128 (shapeCast S1024x1 (cmpi .sgt len (broadcast S1024x1 t)) shapeCasts_S1024x1_S1024x1) broadcasts_S1024x1_S1024x128) new old

/-- One step: the gates of step `t` and of the hidden states make the new states, kept where the row is long enough. -/
def stepH (len : IVec S1024x1 32) (w : Vec F S128x384 .f32) (b : Vec F S1x384 .f32) (t : BitVec 32) (gi : FVec F S1024x384 .f32) (h : FVec F S1024x128 .f32) :
    FVec F S1024x128 .f32 := keepH len t (cellH gi (gateH h w b) h) h

/-- The input part of the gates at step `t`: slice `t` of the gates of all steps. -/
def giAt (g : FVec F S8x1024x384 .f32) (o : Fin 3 → Nat) (hs : S8x1024x384.Slices o S1x1024x384) : FVec F S1024x384 .f32 :=
  shapeCast S1024x384 (extractStridedSlice S1x1024x384 o g hs) shapeCasts_S1x1024x384_S1024x384

set_option maxRecDepth 65536 in
/-- The kernel's eight steps are eight times the one step. -/
theorem gruLast_eq (v0 : Vec F S8x1024x1 .i32) (v24 : Vec F S1x1x1024 .i32) (v7 : Vec F S8x1x1024x128 .f32) (v12 : Vec F S256x128 .f32)
    (v16 v28 : Vec F S128x384 .f32) (v19 v31 : Vec F S1x384 .f32) :
    gruLast v0 v24 v7 v12 v16 v28 v19 v31 =
      let g := k2_pay2 v0 v7 v12 v16 v19
      let len := k2_pay3 (F := F) v24
      let s := stepH len v28 v31
      s 7#32 (giAt g _ slices_S8x1024x384_o7_0_0_S1x1024x384) (s 6#32 (giAt g _ slices_S8x1024x384_o6_0_0_S1x1024x384)
        (s 5#32 (giAt g _ slices_S8x1024x384_o5_0_0_S1x1024x384) (s 4#32 (giAt g _ slices_S8x1024x384_o4_0_0_S1x1024x384)
        (s 3#32 (giAt g _ slices_S8x1024x384_o3_0_0_S1x1024x384) (s 2#32 (giAt g _ slices_S8x1024x384_o2_0_0_S1x1024x384)
        (s 1#32 (giAt g _ slices_S8x1024x384_o1_0_0_S1x1024x384) (s 0#32 (giAt g _ slices_S8x1024x384_o0_0_0_S1x1024x384) k2_pay4))))))) := rfl

/-! ## A row of it, over the reals -/

open Cert.Model

set_option maxRecDepth 16384

/-- A row of one step is the step of that row. -/
theorem stepH_row (len : IVec S1024x1 32) (w : Vec Ideal S128x384 .f32) (b : Vec Ideal S1x384 .f32) (t : ℕ) (gi : FVec Ideal S1024x384 .f32)
    (h : FVec Ideal S1024x128 .f32) (r : Fin 1024) (G : Fin 384 → EReal) (H : Fin 128 → EReal) (hG : ∀ c, gi (ix2 r c) = G c) (hH : ∀ q, h (ix2 r q) = H q)
    (q : Fin 128) : stepH len w b (BitVec.ofNat 32 t) gi h (ix2 r q)
      = trip (len (ix2 r 0)) (fun k c => w (ix2 k c)) (fun c => b (ix2 0 c)) t G H q := by
  pointwise [stepH, keepH, cellH, gateH]
  simp only [hG, hH]
  rfl

/-- The input of step `t` at a row: its time row and, by the path's relation, a row of the relation table. -/
def inp (v0 : Vec Ideal S8x1024x1 .i32) (v7 : Vec Ideal S8x1x1024x128 .f32) (v12 : Vec Ideal S256x128 .f32) (r : Fin 1024) (t : Fin 8) (k : Fin 128) : EReal :=
  v7 (ix4 t 0 r k) + ∑ x : Fin 256, FloatOps.sitofp (F := Ideal) .f32 (BitVec.setWidth 32 (IntOp.cmpi .eq (v0 (ix3 t r 0)) (BitVec.ofNat 32 x.val))) * v12 (ix2 x k)

/-- A row of the input part of the gates. -/
theorem pay2_row (v0 : Vec Ideal S8x1024x1 .i32) (v7 : Vec Ideal S8x1x1024x128 .f32) (v12 : Vec Ideal S256x128 .f32) (v16 : Vec Ideal S128x384 .f32)
    (v19 : Vec Ideal S1x384 .f32) (t : Fin 8) (r : Fin 1024) (c : Fin 384) :
    k2_pay2 v0 v7 v12 v16 v19 (ix3 t r c) = gates (fun k c => v16 (ix2 k c)) (fun c => v19 (ix2 0 c)) (inp v0 v7 v12 r t) c := by
  pointwise [k2_pay2]
  rfl

/-- The column of lengths is the block of lengths, entry by entry. -/
theorem pay3_row (v24 : Vec Ideal S1x1x1024 .i32) (r : Fin 1024) : k2_pay3 (F := Ideal) v24 (ix2 r 0) = v24 (ix3 0 0 r) := by
  pointwise [k2_pay3]

/-- The cell starts from zeros. -/
theorem pay4_row (r : Fin 1024) (q : Fin 128) : k2_pay4 (F := Ideal) (ix2 r q) = 0 := by
  pointwise [k2_pay4]

/-- A row of what the kernel stores: the row's hidden state after eight steps, divided by its length. -/
theorem gruOut_row (v0 : Vec Ideal S8x1024x1 .i32) (v24 : Vec Ideal S1x1x1024 .i32) (v7 : Vec Ideal S8x1x1024x128 .f32) (v12 : Vec Ideal S256x128 .f32)
    (v16 v28 : Vec Ideal S128x384 .f32) (v19 v31 : Vec Ideal S1x384 .f32) (r : Fin 1024) (q : Fin 128) :
    gruOut v0 v24 v7 v12 v16 v28 v19 v31 (ix2 r q)
      = nrm (hid (v24 (ix3 0 0 r)) (fun k c => v28 (ix2 k c)) (fun c => v31 (ix2 0 c))
          (fun t => gates (fun k c => v16 (ix2 k c)) (fun c => v19 (ix2 0 c)) (inp v0 v7 v12 r (Fin.ofNat 8 t))) 8) q := by
  have hlast : ∀ q, gruLast v0 v24 v7 v12 v16 v28 v19 v31 (ix2 r q) = hid (v24 (ix3 0 0 r)) (fun k c => v28 (ix2 k c)) (fun c => v31 (ix2 0 c))
      (fun t => gates (fun k c => v16 (ix2 k c)) (fun c => v19 (ix2 0 c)) (inp v0 v7 v12 r (Fin.ofNat 8 t))) 8 q := by
    rw [gruLast_eq, ← pay3_row v24 r]
    dsimp only
    refine stepH_row _ _ _ 7 _ _ r _ _ (fun c => ?_) ?_
    · pointwise [giAt]; exact pay2_row ..
    refine stepH_row _ _ _ 6 _ _ r _ _ (fun c => ?_) ?_
    · pointwise [giAt]; exact pay2_row ..
    refine stepH_row _ _ _ 5 _ _ r _ _ (fun c => ?_) ?_
    · pointwise [giAt]; exact pay2_row ..
    refine stepH_row _ _ _ 4 _ _ r _ _ (fun c => ?_) ?_
    · pointwise [giAt]; exact pay2_row ..
    refine stepH_row _ _ _ 3 _ _ r _ _ (fun c => ?_) ?_
    · pointwise [giAt]; exact pay2_row ..
    refine stepH_row _ _ _ 2 _ _ r _ _ (fun c => ?_) ?_
    · pointwise [giAt]; exact pay2_row ..
    refine stepH_row _ _ _ 1 _ _ r _ _ (fun c => ?_) ?_
    · pointwise [giAt]; exact pay2_row ..
    refine stepH_row _ _ _ 0 _ _ r _ _ (fun c => ?_) (fun q => pay4_row r q)
    pointwise [giAt]; exact pay2_row ..
  pointwise [gruOut, k2_pay1]
  simp only [hlast]
  rfl

/-- A row of the time table's product. -/
theorem pay0_1_row (v : Vec Ideal S4096x128 .f32) (w : Vec Ideal S128x128 .f32) (b : Vec Ideal S1x128 .f32) (r : Fin 4096) (c : Fin 128) :
    k0_pay1 v w b (ix2 r c) = ∑ x : Fin 128, v (ix2 r x) * w (ix2 x c) + b (ix2 0 c) := by
  pointwise [k0_pay1]

/-- A row of the normalised relation table. -/
theorem pay0_2_row (v : Vec Ideal S256x128 .f32) (r : Fin 256) (c : Fin 128) : k0_pay2 v (ix2 r c) = nrm (fun x => v (ix2 r x)) c := by
  pointwise [k0_pay2]
  rfl

/-- The score of a query: the greatest of its 32 products, and zero. -/
theorem pay5_row (v : Vec Ideal S4096x128 .f32) (w : Vec Ideal S128x128 .f32) (c : Fin 128) :
    k5_pay1 v w (ix3 0 0 c) = max (Finset.univ.fold max (Ideal.ofBits .f32 4286578688#32)
      fun x : Fin 32 => ∑ k : Fin 128, v (ix2 ⟨c.val * 32 + x.val, by omega⟩ k) * w (ix2 c k)) 0 := by
  pointwise [k5_pay1]

end Cert.KernelIdeal.Pf
-- ==== Proof.KernelIdeal.RegionValues.lean ====
/-
  What the three TensorCore calls leave in their results, entry by entry, over the reals.
-/
module

public import proofs.«01_k».proof.Proof.KernelIdeal.Regions
public import proofs.«01_k».proof.Proof.KernelIdeal.Cell
public import Idealize.ShloMosaic.Lib.Pipeline.ValueKit

@[expose] public section

noncomputable section

namespace Cert.KernelIdeal.Pf

open Cert.KernelIdeal Cert.KernelIdeal.Gen
open Idealize.ShloMosaic Idealize.ShloMosaic.TcCoe
open Idealize.ShloMosaic.SparseCore.Cfg (HIx)
open Idealize.ShloMosaic.Pipeline (Dat Cfg Window)
open Cert.Model

/-! ## Which block each point takes -/

/-- The first call's one point takes each array whole. -/
theorem index0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := (by decide +kernel : ∀ t : Fin grid0.N, _)

/-- Point `t` of the recurrent cell's call takes rows `1024 t …` of the paths, the tables whole. -/
theorem index2 : ∀ t : Fin cfg2.N, win2_0.index t = ![0, t.val, 0] ∧ win2_1.index t = ![t.val, 0, 0] ∧ win2_2.index t = ![0, t.val, 0, 0]
    ∧ win2_3.index t = ![0, 0] ∧ win2_4.index t = ![0, 0] ∧ win2_5.index t = ![0, 0] ∧ win2_6.index t = ![0, 0] ∧ win2_7.index t = ![0, 0]
    ∧ win2_8.index t = ![t.val, 0] := (by decide +kernel : ∀ t : Fin grid2.N, _)

/-- Point `t` of the score's call takes queries `128 t …`. -/
theorem index5 : ∀ t : Fin cfg5.N, win5_0.index t = ![t.val, 0] ∧ win5_1.index t = ![t.val, 0] ∧ win5_2.index t = ![t.val, 0, 0] :=
  (by decide +kernel : ∀ t : Fin grid5.N, _)

variable (V : Dev nD → Valuation τ sig (Elt Ideal)) (O : Dev nD → CellTallies nD τ sig (HIx 3)) (B : Dev nD → Set (SemLoc sig × HIx 3)) (c : Dev nD)

/-! ## The first call -/

/-- The time table's product, as the first call leaves it. -/
theorem prep_time (tt : Vec Ideal S4096x128 .f32) (w : Vec Ideal S128x128 .f32) (b : Vec Ideal S1x128 .f32)
    (ht : V c (Proc.devRef .tc main_v2) = tt) (hw : V c (Proc.devRef .tc main_v6) = w) (hb : V c (Proc.devRef .tc main_v9) = b) :
    (dat0 V O B c).arrAt 4 cfg0.N = k0_pay1 tt w b := by
  subst ht hw hb
  refine (dat0 V O B c).arrAt_eq_of_covers 4 _ (by decide +kernel) fun t hf y => ?_
  have e0 : blk0_0 V c t = V c (Proc.devRef .tc main_v2) := by funext x; blk_ext [blk0_0, index0 t]
  have e1 : blk0_1 V c t = V c (Proc.devRef .tc main_v6) := by funext x; blk_ext [blk0_1, index0 t]
  have e2 : blk0_2 V c t = V c (Proc.devRef .tc main_v9) := by funext x; blk_ext [blk0_2, index0 t]
  rw [← e0, ← e1, ← e2]
  blk_simp
  show k0_pay1 (blk0_0 V c t) (blk0_1 V c t) (blk0_2 V c t) y = _
  blk_ext [index0 t]

/-- The normalised relation table, as the first call leaves it. -/
theorem prep_rel (rel : Vec Ideal S256x128 .f32) (hr : V c (Proc.devRef .tc main_v5) = rel) : (dat0 V O B c).arrAt 5 cfg0.N = k0_pay2 rel := by
  subst hr
  refine (dat0 V O B c).arrAt_eq_of_covers 5 _ (by decide +kernel) fun t hf y => ?_
  have e0 : blk0_3 V c t = V c (Proc.devRef .tc main_v5) := by funext x; blk_ext [blk0_3, index0 t]
  rw [← e0]
  blk_simp
  show k0_pay2 (blk0_3 V c t) y = _
  blk_ext [index0 t]

/-! ## The recurrent cell -/

/-- The input row of path `R` at step `t`: the time row, and the relation row its number picks. -/
def inpRow (paths : Vec Ideal S8x16384x1 .i32) (times : Vec Ideal S8x16x1024x128 .f32) (rel : Vec Ideal S256x128 .f32) (R : Fin 16384) (t : Fin 8) (k : Fin 128) : EReal :=
  times (ix4 t ⟨R.val / 1024, by omega⟩ ⟨R.val % 1024, by omega⟩ k)
    + ∑ x : Fin 256, FloatOps.sitofp (F := Ideal) .f32 (BitVec.setWidth 32 (IntOp.cmpi .eq (paths (ix3 t R 0)) (BitVec.ofNat 32 x.val))) * rel (ix2 x k)

/-- The hidden state of path `R` after its eight steps, divided by its length. -/
def gruRow (lens : Vec Ideal S16x1x1024 .i32) (whh wih : Vec Ideal S128x384 .f32) (bhh bih : Vec Ideal S1x384 .f32)
    (paths : Vec Ideal S8x16384x1 .i32) (times : Vec Ideal S8x16x1024x128 .f32) (rel : Vec Ideal S256x128 .f32) (R : Fin 16384) (q : Fin 128) : EReal :=
  nrm (hid (lens (ix3 ⟨R.val / 1024, by omega⟩ 0 ⟨R.val % 1024, by omega⟩)) (fun k g => whh (ix2 k g)) (fun g => bhh (ix2 0 g))
    (fun t => gates (fun k g => wih (ix2 k g)) (fun g => bih (ix2 0 g)) (inpRow paths times rel R (Fin.ofNat 8 t))) 8) q

/-- The blocks of the recurrent cell's call at point `t`: rows `1024 t …` of the paths, of their lengths and of their time rows; -/
theorem block2_0 (paths : Vec Ideal S8x16384x1 .i32) (hp : V c (Proc.devRef .tc main_v18) = paths) (t : Fin cfg2.N) (ht : t.val < 16) (s : Fin 8) (r : Fin 1024) :
    blk2_0 V c t (ix3 s r 0) = paths (ix3 s ⟨t.val * 1024 + r.val, by omega⟩ 0) := by
  subst hp; blk_ext [blk2_0, index2 t]
@[inherit_doc block2_0]
theorem block2_1 (lens : Vec Ideal S16x1x1024 .i32) (hl : V c (Proc.devRef .tc main_v19) = lens) (t : Fin cfg2.N) (ht : t.val < 16) (r : Fin 1024) :
    blk2_1 V c t (ix3 0 0 r) = lens (ix3 ⟨t.val, ht⟩ 0 r) := by
  subst hl; blk_ext [blk2_1, index2 t]
@[inherit_doc block2_0]
theorem block2_2 (times : Vec Ideal S8x16x1024x128 .f32) (h : V c (Proc.devRef .tc main_v16) = times) (t : Fin cfg2.N) (ht : t.val < 16)
    (s : Fin 8) (r : Fin 1024) (k : Fin 128) : blk2_2 V c t (ix4 s 0 r k) = times (ix4 s ⟨t.val, ht⟩ r k) := by
  subst h; blk_ext [blk2_2, index2 t]
/-- and the weights, the biases and the relation table whole. -/
theorem block2_3 (rel : Vec Ideal S256x128 .f32) (h : V c (Proc.devRef .tc main_v5) = rel) (t : Fin cfg2.N) : blk2_3 V c t = rel := by
  subst h; funext x; blk_ext [blk2_3, index2 t]
@[inherit_doc block2_3]
theorem block2_4 (w : Vec Ideal S128x384 .f32) (h : V c (Proc.devRef .tc main_v7) = w) (t : Fin cfg2.N) : blk2_4 V c t = w := by
  subst h; funext x; blk_ext [blk2_4, index2 t]
@[inherit_doc block2_3]
theorem block2_5 (w : Vec Ideal S128x384 .f32) (h : V c (Proc.devRef .tc main_v8) = w) (t : Fin cfg2.N) : blk2_5 V c t = w := by
  subst h; funext x; blk_ext [blk2_5, index2 t]
@[inherit_doc block2_3]
theorem block2_6 (b : Vec Ideal S1x384 .f32) (h : V c (Proc.devRef .tc main_v10) = b) (t : Fin cfg2.N) : blk2_6 V c t = b := by
  subst h; funext x; blk_ext [blk2_6, index2 t]
@[inherit_doc block2_3]
theorem block2_7 (b : Vec Ideal S1x384 .f32) (h : V c (Proc.devRef .tc main_v11) = b) (t : Fin cfg2.N) : blk2_7 V c t = b := by
  subst h; funext x; blk_ext [blk2_7, index2 t]

/-- Row `r` of block `t`'s input is the input row of path `1024 t + r`. -/
theorem inp_block (paths : Vec Ideal S8x16384x1 .i32) (times : Vec Ideal S8x16x1024x128 .f32) (rel : Vec Ideal S256x128 .f32)
    (hp : V c (Proc.devRef .tc main_v18) = paths) (h : V c (Proc.devRef .tc main_v16) = times) (t : Fin cfg2.N) (ht : t.val < 16) (r : Fin 1024) (s : Fin 8) :
    inp (blk2_0 V c t) (blk2_2 V c t) rel r s = inpRow paths times rel ⟨t.val * 1024 + r.val, by omega⟩ s := by
  funext k
  unfold inp inpRow
  rw [block2_0 V c paths hp t ht s r, block2_2 V c times h t ht s r k]
  congr 2
  congr 1 <;> exact Fin.ext (by simp only; omega)

/-- The paths' table, as the recurrent cell's call leaves it. -/
theorem gru_rows (lens : Vec Ideal S16x1x1024 .i32) (whh wih : Vec Ideal S128x384 .f32) (bhh bih : Vec Ideal S1x384 .f32)
    (paths : Vec Ideal S8x16384x1 .i32) (times : Vec Ideal S8x16x1024x128 .f32) (rel : Vec Ideal S256x128 .f32)
    (hl : V c (Proc.devRef .tc main_v19) = lens) (hwh : V c (Proc.devRef .tc main_v8) = whh) (hwi : V c (Proc.devRef .tc main_v7) = wih)
    (hbh : V c (Proc.devRef .tc main_v11) = bhh) (hbi : V c (Proc.devRef .tc main_v10) = bih) (hp : V c (Proc.devRef .tc main_v18) = paths)
    (htm : V c (Proc.devRef .tc main_v16) = times) (hr : V c (Proc.devRef .tc main_v5) = rel) :
    (dat2 V O B c).arrAt 8 cfg2.N = fun i : S16384x128.Idx => gruRow lens whh wih bhh bih paths times rel (i 0) (i 1) := by
  refine (dat2 V O B c).arrAt_eq_of_covers 8 _ (by decide +kernel) fun t hf y => ?_
  have ht : t.val < 16 := t.isLt
  obtain ⟨r, q, rfl⟩ : ∃ (r : Fin 1024) (q : Fin 128), y = ix2 r q := ⟨y 0, y 1, by funext a; match a with | 0 => rfl | 1 => rfl⟩
  blk_simp
  show gruOut (blk2_0 V c t) (blk2_1 V c t) (blk2_2 V c t) (blk2_3 V c t) (blk2_4 V c t) (blk2_5 V c t) (blk2_6 V c t) (blk2_7 V c t) (ix2 r q) = _
  rw [block2_3 V c rel hr t, block2_4 V c wih hwi t, block2_5 V c whh hwh t, block2_6 V c bih hbi t, block2_7 V c bhh hbh t]
  refine (gruOut_row (blk2_0 V c t) (blk2_1 V c t) (blk2_2 V c t) rel wih whh bih bhh r q).trans ?_
  have e0 : ((((cfg2.win 8).blk t).view.emb (ix2 r q)) 0 : Fin 16384) = (⟨t.val * 1024 + r.val, by omega⟩ : Fin 16384) := by
    apply Fin.ext; blk_simp [index2 t]
  have e1 : ((((cfg2.win 8).blk t).view.emb (ix2 r q)) 1 : Fin 128) = q := by
    apply Fin.ext; blk_simp [index2 t]
  rw [e0, e1]
  unfold gruRow
  rw [block2_1 V c lens hl t ht r]
  simp only [inp_block V c paths times rel hp htm t ht r]
  congr 3
  congr 1 <;> exact Fin.ext (by simp only; omega)

/-! ## The score -/

/-- The score of query `r`: the greatest product of one of its paths with its relation, and zero. -/
def scoreRow (P : Vec Ideal S32768x128 .f32) (Q : Vec Ideal S1024x128 .f32) (r : Fin 1024) : EReal :=
  max (Finset.univ.fold max (Ideal.ofBits .f32 4286578688#32) fun x : Fin 32 => ∑ k : Fin 128, P (ix2 ⟨r.val * 32 + x.val, by omega⟩ k) * Q (ix2 r k)) 0

/-- The blocks of the score's call at point `t`: the paths and the relations of queries `128 t …`. -/
theorem block5_0 (P : Vec Ideal S32768x128 .f32) (hP : V c (Proc.devRef .tc main_v32) = P) (t : Fin cfg5.N) (ht8 : t.val < 8) (r : Fin 4096) (k : Fin 128) :
    blk5_0 V c t (ix2 r k) = P (ix2 ⟨t.val * 4096 + r.val, by omega⟩ k) := by
  subst hP; blk_ext [blk5_0, index5 t]
@[inherit_doc block5_0]
theorem block5_1 (Q : Vec Ideal S1024x128 .f32) (hQ : V c (Proc.devRef .tc main_v33) = Q) (t : Fin cfg5.N) (ht8 : t.val < 8) (r k : Fin 128) :
    blk5_1 V c t (ix2 r k) = Q (ix2 ⟨t.val * 128 + r.val, by omega⟩ k) := by
  subst hQ; blk_ext [blk5_1, index5 t]

/-- A query's score in block `t`. -/
theorem score_block (P : Vec Ideal S32768x128 .f32) (Q : Vec Ideal S1024x128 .f32)
    (hP : V c (Proc.devRef .tc main_v32) = P) (hQ : V c (Proc.devRef .tc main_v33) = Q) (t : Fin cfg5.N) (ht8 : t.val < 8) (g : Fin 128) :
    k5_pay1 (blk5_0 V c t) (blk5_1 V c t) (ix3 0 0 g) = scoreRow P Q ⟨t.val * 128 + g.val, by omega⟩ := by
  refine (pay5_row (blk5_0 V c t) (blk5_1 V c t) g).trans ?_
  unfold scoreRow
  congr 1
  refine Finset.fold_congr fun x _ => Finset.sum_congr rfl fun k _ => ?_
  rw [block5_0 V c P hP t ht8, block5_1 V c Q hQ t ht8]
  congr 2
  congr 1
  exact Fin.ext (by simp only; omega)

/-- The scores, as the score's call leaves them. -/
theorem score_rows (P : Vec Ideal S32768x128 .f32) (Q : Vec Ideal S1024x128 .f32)
    (hP : V c (Proc.devRef .tc main_v32) = P) (hQ : V c (Proc.devRef .tc main_v33) = Q) :
    (dat5 V O B c).arrAt 2 cfg5.N = fun i : S8x1x128.Idx => scoreRow P Q ⟨(i 0).val * 128 + (i 2).val, by have := (i 0).isLt; have := (i 2).isLt; simp at *; omega⟩ := by
  refine (dat5 V O B c).arrAt_eq_of_covers 2 _ (by decide +kernel) fun t hf y => ?_
  have ht8 : t.val < 8 := t.isLt
  obtain ⟨g, rfl⟩ : ∃ g : Fin 128, y = ix3 0 0 g := ⟨y 2, by
    funext a
    match a with
    | 0 => exact Subsingleton.elim (α := Fin 1) _ _
    | 1 => exact Subsingleton.elim (α := Fin 1) _ _
    | 2 => rfl⟩
  blk_simp
  have ht8 : t.val < 8 := t.isLt
  refine (score_block V c P Q hP hQ t ht8 g).trans (congrArg (scoreRow P Q) (Fin.ext ?_))
  blk_simp [index5 t]
  rfl

end Cert.KernelIdeal.Pf
-- ==== Proof.ArrayReads.lean ====
/-
  Three host operations read at an index: a table's rows gathered at a rectangle of row numbers, a table laid over the first rows of
  a larger one, and the entries that a list of pairs of numbers sets.
-/
module

public import Idealize.ShloMosaic.Lib.Routing.Ops
public import Idealize.ShloMosaic.Lib.Routing.OpsSet
public import Idealize.ShloMosaic.Lib.Pointwise.IndexBridge

@[expose] public section

namespace Cert.Reads

open Idealize.ShloMosaic Idealize.ShloMosaic.Routing

/-- The dimension numbers of that gather. -/
abbrev rowsDims (N R C B : ℕ) (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ := ⟨[2], [0], [], [], [0], 2, ![1, B], wf⟩

/-- Rows of an `[N, B]` table at an `[R, C]` rectangle of row numbers: where the number at `(r, c)` is `b`, entry `(r, c, q)` is the table's entry `(b, q)`. -/
theorem gather_rows {α : Type} {N R C B : ℕ} (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ 32) (r : Fin R) (c : Fin C) (q : Fin B) (b : Fin N)
    (hb : idx (ix3 r c 0) = BitVec.ofNat 32 b.val) (hN : N < 2 ^ 31) :
    Host.gather (rowsDims N R C B wf) x idx (ix3 r c q) = x (ix2 b q) := by
  have hbl := b.isLt
  unfold Host.gather
  refine congrArg x (funext fun a => Fin.ext ?_)
  show GatherDims.start _ (ix3 r c q) idx a + GatherDims.batchCoord _ (ix3 r c q) a + GatherDims.offCoord _ (ix3 r c q) a = (ix2 b q a).val
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ [(0 : Fin 2)] from List.mem_singleton.mpr rfl)]
    have hsi : GatherDims.siIdx (rowsDims N R C B wf) (ix3 r c q)
        ⟨List.idxOf (0 : Fin 2) [0], List.idxOf_lt_length_iff.2 (List.mem_singleton.mpr rfl)⟩ = ix3 r c 0 := by
      funext k; refine Fin.ext ?_
      match k with
      | ⟨0, _⟩ => rfl
      | ⟨1, _⟩ => rfl
      | ⟨2, _⟩ => rfl
    have e := congrArg idx hsi
    rw [hb] at e
    show min (BitVec.toInt (idx (GatherDims.siIdx _ (ix3 r c q) _))).toNat (N - 1) = b.val
    rw [e, StableHlo.Predicate.toInt_ofNat_small _ (by omega)]
    omega
  · unfold GatherDims.start
    rw [dif_neg (fun h => absurd (congrArg Fin.val (List.mem_singleton.mp h)) Nat.one_ne_zero), Nat.zero_add]
    rfl

/-- The dimension numbers of that scatter. -/
abbrev topDims (N n B : ℕ) (wf : ScatterDims.WF ⟨2, ![N, B]⟩ ⟨1, ![1]⟩ ⟨2, ![n, B]⟩ [0, 1] [] [0] 0) :
    ScatterDims ⟨2, ![N, B]⟩ ⟨1, ![1]⟩ ⟨2, ![n, B]⟩ := ⟨[0, 1], [], [0], 0, wf⟩

/-- An `[n, B]` table written over the first rows of an `[N, B]` one: its rows there, the other rows as they were. -/
theorem scatter_top {α : Type} {N n B : ℕ} (wf : ScatterDims.WF ⟨2, ![N, B]⟩ ⟨1, ![1]⟩ ⟨2, ![n, B]⟩ [0, 1] [] [0] 0)
    (x : (⟨2, ![N, B]⟩ : Shape).Idx → α) (idx : IVec ⟨1, ![1]⟩ 32) (u : (⟨2, ![n, B]⟩ : Shape).Idx → α) (hidx : idx (ix1 0) = 0#32) (r : Fin N) (q : Fin B) :
    Host.scatter (topDims N n B wf) (fun _ b => b) x idx u (ix2 r q)
      = if h : r.val < n then u (ix2 ⟨r.val, h⟩ q) else x (ix2 r q) := by
  have hl : ∀ k : (⟨2, ![n, B]⟩ : Shape).Idx, ScatterDims.resultIdx? (topDims N n B wf) k idx = some (ix2 r q)
      ↔ (k 0).val = r.val ∧ (k 1).val = q.val := by
    intro k
    rw [resultIdx?_eq_some]
    have h0 : ScatterDims.start (topDims N n B wf) k idx 0 = 0 := by
      unfold ScatterDims.start
      rw [dif_pos (List.mem_singleton.mpr rfl)]
      have : ScatterDims.siIdx (topDims N n B wf) k ⟨List.idxOf (0 : Fin 2) [0], List.idxOf_lt_length_iff.2 (List.mem_singleton.mpr rfl)⟩ = ix1 0 :=
        funext fun a => by match a with | ⟨0, _⟩ => exact Subsingleton.elim (α := Fin 1) _ _
      have e := congrArg idx this
      rw [hidx] at e
      exact congrArg BitVec.toInt e
    have h1 : ScatterDims.start (topDims N n B wf) k idx 1 = 0 := by
      unfold ScatterDims.start
      rw [dif_neg (fun h => absurd (congrArg Fin.val (List.mem_singleton.mp h)) Nat.one_ne_zero)]
    have w0 : ScatterDims.window (topDims N n B wf) k 0 = (k 0).val := rfl
    have w1 : ScatterDims.window (topDims N n B wf) k 1 = (k 1).val := rfl
    constructor
    · intro h
      have a0 := h 0
      have a1 := h 1
      rw [h0, w0] at a0
      rw [h1, w1] at a1
      exact ⟨by have : ((ix2 r q 0).val) = r.val := rfl
                omega, by have : ((ix2 r q 1).val) = q.val := rfl
                          omega⟩
    · rintro ⟨e0, e1⟩ a
      match a with
      | ⟨0, _⟩ => show ScatterDims.start _ k idx 0 + ((ScatterDims.window _ k 0 : ℕ) : Int) = (r.val : Int); rw [h0, w0]; omega
      | ⟨1, _⟩ => show ScatterDims.start _ k idx 1 + ((ScatterDims.window _ k 1 : ℕ) : Int) = (q.val : Int); rw [h1, w1]; omega
  split
  · rename_i h
    refine scatter_set_hit _ x idx u (ix2 r q) _ (fun k hk => ?_) (ix2 ⟨r.val, h⟩ q) ((hl _).2 ⟨rfl, rfl⟩)
    obtain ⟨e0, e1⟩ := (hl k).1 hk
    refine congrArg u (funext fun a => Fin.ext ?_)
    match a with
    | ⟨0, _⟩ => exact e0
    | ⟨1, _⟩ => exact e1
  · rename_i h
    refine scatter_set_miss _ x idx u (ix2 r q) fun k hk => ?_
    have := ((hl k).1 hk).1
    have hk0 : (k 0).val < n := (k 0).isLt
    omega

/-- Rows of an `[N, B]` table at a list of row numbers: where number `r` is `b`, entry `(r, q)` is the table's entry `(b, q)`. -/
theorem gather_list {α : Type} {N n B : ℕ} (d : GatherDims ⟨2, ![N, B]⟩ ⟨2, ![n, 1]⟩ ⟨2, ![n, B]⟩) (hoff : d.offsetDims = [1])
    (hcoll : d.collapsedSliceDims = [0]) (hob : d.operandBatchingDims = []) (hsim : d.startIndexMap = [0]) (hivd : d.indexVectorDim = 1)
    (x : (⟨2, ![N, B]⟩ : Shape).Idx → α) (idx : IVec ⟨2, ![n, 1]⟩ 32) (r : Fin n) (q : Fin B) (b : Fin N)
    (hb : idx (ix2 r 0) = BitVec.ofNat 32 b.val) (hN : N < 2 ^ 31) : Host.gather d x idx (ix2 r q) = x (ix2 b q) := by
  rw [ix2_eq_valueIdx] at hb ⊢
  rw [ix2_eq_valueIdx]
  exact gather_row d hoff hcoll hob hsim hivd x idx r q b hb hN

/-- A row number below `2 ^ 31`, read as jnp wraps it, is itself. -/
theorem wrapped (x a : BitVec 32) (n : ℕ) (hn : n < 2 ^ 31) (h : x.toNat ≤ n) :
    Scalar.select (IntOp.cmpi .slt x 0#32) a x = BitVec.ofNat 32 x.toNat := by
  rw [wrap_of_lt x a (by norm_num; omega), BitVec.ofNat_toNat, BitVec.setWidth_eq]

/-- A matrix of zeros in which each pair of a `[A, B]` table of pairs of numbers sets one entry to `v`: `v` where some pair names the entry, else zero. -/
theorem scatter_marks {α : Type} {R C A B : ℕ} (d : ScatterDims ⟨2, ![R, C]⟩ ⟨3, ![A, B, 2]⟩ ⟨2, ![A, B]⟩) (hiw : d.insertedWindowDims = [0, 1])
    (hsd : d.scatterDimsToOperandDims = [0, 1]) (hivd : d.indexVectorDim = 2) (x : (⟨2, ![R, C]⟩ : Shape).Idx → α) (idx : IVec ⟨3, ![A, B, 2]⟩ 32)
    (u : (⟨2, ![A, B]⟩ : Shape).Idx → α) (v : α) (hu : ∀ a b, u (ix2 a b) = v) (r : Fin R) (c : Fin C)
    [Decidable (∃ a b, (idx (ix3 a b 0)).toInt = r.val ∧ (idx (ix3 a b 1)).toInt = c.val)] :
    Host.scatter d (fun _ b => b) x idx u (ix2 r c)
      = if ∃ a b, (idx (ix3 a b 0)).toInt = r.val ∧ (idx (ix3 a b 1)).toInt = c.val then v else x (ix2 r c) := by
  have hk : ∀ k : (⟨2, ![A, B]⟩ : Shape).Idx, ∃ (a : Fin A) (b : Fin B), k = ix2 a b := fun k =>
    ⟨k 0, k 1, funext fun a => by match a with | ⟨0, _⟩ => rfl | ⟨1, _⟩ => rfl⟩
  have hl : ∀ a b, d.resultIdx? (ix2 a b) idx = some (ix2 r c) ↔ (idx (ix3 a b 0)).toInt = r.val ∧ (idx (ix3 a b 1)).toInt = c.val := fun a b => by
    rw [ix2_eq_valueIdx, ix2_eq_valueIdx, ix3_eq_valueIdx, ix3_eq_valueIdx]
    exact scatter_lands2 d hiw hsd hivd idx a b r c
  split
  · rename_i h
    obtain ⟨a, b, h⟩ := h
    exact scatter_set_hit d x idx u (ix2 r c) v (fun k _ => by obtain ⟨a, b, rfl⟩ := hk k; exact hu a b) (ix2 a b) ((hl a b).2 h)
  · rename_i h
    refine scatter_set_miss d x idx u (ix2 r c) fun k hh => ?_
    obtain ⟨a, b, rfl⟩ := hk k
    exact h ⟨a, b, (hl a b).1 hh⟩

end Cert.Reads
-- ==== Proof.ReferenceIdeal.Reads.lean ====
/-
  The reference's results row by row over the reals: its relation rows, its path rows, its scores, and the rows its recurrent cell is fed.
-/
module

public import proofs.«01_k».proof.Proof.Gen.ReferenceIdeal.StepRun
public import proofs.«01_k».proof.Proof.Model
public import proofs.«01_k».proof.Proof.ArrayReads

@[expose] public section

noncomputable section

namespace Cert.ReferenceIdeal.Pf

open Cert.ReferenceIdeal Cert.ReferenceIdeal.Gen Cert.ReferenceIdeal.Step
open Idealize.ShloMosaic Idealize.ShloMosaic.TcCoe
open Cert.Model Cert.Reads

set_option maxRecDepth 16384

/-- The relation table as rows. -/
abbrev relT (a8 : (⟨S230x128, .f32⟩ : BufTy).Contents (Elt Ideal)) (i : Fin 230) (q : Fin 128) : EReal := a8 (ix2 i q)

/-- The paths' table under its row of zeros, normalised: row 0 is zeros. -/
def pathN (h : Fin 16384 → Fin 128 → EReal) (i : ℕ) (q : Fin 128) : EReal := nrm (fun k => if e : i < 1 then 0 else if e' : i - 1 < 16384 then h ⟨i - 1, e'⟩ k else 0) q

/-- The third result: the relation rows the numbers pick, normalised. -/
theorem rel_row (s : State Ideal) (a5 : (⟨S1024, .i32⟩ : BufTy).Contents (Elt Ideal)) (a8 : (⟨S230x128, .f32⟩ : BufTy).Contents (Elt Ideal)) (r : Fin 1024) (q : Fin 128)
    (h5 : (a5 (ix1 r) : BitVec 32).toNat ≤ 230) : R_main_v89 s a5 a8 (ix2 r q) = nrm (padded 230 (relT a8) (a5 (ix1 r) : BitVec 32).toNat) q := by
  unfold R_main_v89
  refine (gather_list _ rfl rfl rfl rfl rfl _ _ r q ⟨(a5 (ix1 r) : BitVec 32).toNat, by omega⟩ ?_ (by norm_num)).trans ?_
  · pointwise
    exact wrapped _ _ 230 (by norm_num) h5
  · pointwise
    unfold padded
    split
    · rfl
    · exact (nrm_zero q).symm

/-- The second result: the path rows the numbers pick, normalised. -/
theorem path_row (s : State Ideal) (a6 : (⟨S1024, .i32⟩ : BufTy).Contents (Elt Ideal)) (r : Fin 1024) (q : Fin 128)
    (h6 : (a6 (ix1 r) : BitVec 32).toNat ≤ 16384) : R_main_v82 s a6 (ix2 r q) = pathN (fun i k => s.main_v25_8 (ix2 i k)) (a6 (ix1 r) : BitVec 32).toNat q := by
  unfold R_main_v82
  refine (gather_list _ rfl rfl rfl rfl rfl _ _ r q ⟨(a6 (ix1 r) : BitVec 32).toNat, by omega⟩ ?_ (by norm_num)).trans ?_
  · pointwise
    exact wrapped _ _ 16384 (by norm_num) h6
  · pointwise
    unfold pathN nrm
    have e : (a6 (ix1 r) : BitVec 32).toNat - 1 < 16384 := by omega
    simp only [dif_pos e]

/-- The first result: the greatest product of one of a query's path rows with its relation row, and zero (an entry that no path of the query names counts zero). -/
theorem score_row (s : State Ideal) (a0 : (⟨S1024x32, .i32⟩ : BufTy).Contents (Elt Ideal)) (a1 : (⟨S1024, .i32⟩ : BufTy).Contents (Elt Ideal))
    (a8 : (⟨S230x128, .f32⟩ : BufTy).Contents (Elt Ideal)) (r : Fin 1024) (h0 : ∀ i, (a0 i : BitVec 32).toNat ≤ 16384) (h1 : (a1 (ix1 r) : BitVec 32).toNat ≤ 230) :
    R_main_v75 s a0 a1 a8 (ix1 r) = max (Finset.univ.fold max (Ideal.ofBits .f32 4286578688#32) fun j : Fin 32 =>
      ∑ k : Fin 128, pathN (fun i k => s.main_v25_8 (ix2 i k)) (a0 (ix2 r j) : BitVec 32).toNat k * nrm (padded 230 (relT a8) (a1 (ix1 r) : BitVec 32).toNat) k) 0 := by
  unfold R_main_v75
  generalize hM : Host.scatter scatter_S1024x16385_S1024x32x2_S1024x32_n_01_01_2 _ _ _ _ = M
  generalize hG : Host.gather gather_S231x128_S1024x1_S1024x128_1_0_n_n_0_1_1128 _ _ = G
  have hG' : ∀ k, G (ix2 r k) = nrm (padded 230 (relT a8) (a1 (ix1 r) : BitVec 32).toNat) k := fun k => by
    rw [← hG]; exact rel_row s a1 a8 r k h1
  have hM' : ∀ x : Fin 16385, M (ix2 r x) = if ∃ (a : Fin 1024) (b : Fin 32), a = r ∧ (a0 (ix2 a b) : BitVec 32).toNat = x.val then 1 else 0 := fun x => by
    rw [← hM]
    have e0 : ∀ (a : Fin 1024) (w : BitVec 32), w = BitVec.ofNat 32 a.val → (w.toInt = (r.val : Int) ↔ a = r) := fun a w hw => by
      rw [hw, StableHlo.Predicate.toInt_ofNat_small _ (by omega), Fin.ext_iff]; omega
    have e1 : ∀ (a : Fin 1024) (b : Fin 32) (w : BitVec 32), w = BitVec.ofNat 32 (a0 (ix2 a b) : BitVec 32).toNat →
        (w.toInt = (x.val : Int) ↔ (a0 (ix2 a b) : BitVec 32).toNat = x.val) := fun a b w hw => by
      have := h0 (ix2 a b)
      rw [hw, StableHlo.Predicate.toInt_ofNat_small _ (by omega)]; omega
    refine (scatter_marks scatter_S1024x16385_S1024x32x2_S1024x32_n_01_01_2 rfl rfl rfl _ _ _ (1 : EReal) (fun a b => ?_) r x).trans
      (if_congr (exists_congr fun a => exists_congr fun b => and_congr (e0 a _ ?_) (e1 a b _ ?_)) rfl ?_)
    · pointwise
    · pointwise
      exact Routing.wrap_of_lt _ _ (by rw [BitVec.toNat_ofNat]; norm_num; omega)
    · pointwise
      exact wrapped _ _ 16384 (by norm_num) (h0 _)
    · pointwise
  pointwise
  simp only [hG', hM']
  refine Eq.trans ?_ (masked_max (n := 16385) (k := 32) (by norm_num) _
    (fun x => ∑ k : Fin 128, pathN (fun i k => s.main_v25_8 (ix2 i k)) x.val k * nrm (padded 230 (relT a8) (a1 (ix1 r) : BitVec 32).toNat) k)
    (fun x => if ∃ (a : Fin 1024) (b : Fin 32), a = r ∧ (a0 (ix2 a b) : BitVec 32).toNat = x.val then 1 else 0)
    (fun j => ⟨(a0 (ix2 r j) : BitVec 32).toNat, by have := h0 (ix2 r j); omega⟩) (fun j => if_pos ⟨r, j, rfl, rfl⟩)
    (fun x hx => if_neg (by rintro ⟨a, b, rfl, e⟩; exact hx b (Fin.ext e))))
  refine Finset.fold_congr fun x _ => congrArg (· * _) (Finset.sum_congr rfl fun k _ => congrArg (· * _) ?_)
  unfold pathN nrm
  have e : x.val - 1 < 16384 := by omega
  simp only [dif_pos e]

end Cert.ReferenceIdeal.Pf
-- ==== Proof.ReferenceIdeal.Cell.lean ====
/-
  The reference's recurrent cell row by row over the reals: the rows it is fed, one step, and its eight steps.
-/
module

public import proofs.«01_k».proof.Proof.ReferenceIdeal.Reads
public import Idealize.ShloMosaic.Lib.DynamicIndex

@[expose] public section

noncomputable section

namespace Cert.ReferenceIdeal.Pf

open Cert.ReferenceIdeal Cert.ReferenceIdeal.Gen Cert.ReferenceIdeal.Step
open Idealize.ShloMosaic Idealize.ShloMosaic.TcCoe
open Cert.Model Cert.Reads

set_option maxRecDepth 16384

/-- The time table as rows. -/
abbrev timeT (a9 : (⟨S4020x128, .f32⟩ : BufTy).Contents (Elt Ideal)) (i : Fin 4020) (q : Fin 128) : EReal := a9 (ix2 i q)

/-- The row a path's step is fed: the relation row its number picks, and the product of the time row its number picks with the weights, and the bias. -/
def fedRow (a8 : (⟨S230x128, .f32⟩ : BufTy).Contents (Elt Ideal)) (a9 : (⟨S4020x128, .f32⟩ : BufTy).Contents (Elt Ideal)) (a10 : (⟨S128x128, .f32⟩ : BufTy).Contents (Elt Ideal))
    (a11 : (⟨S128, .f32⟩ : BufTy).Contents (Elt Ideal)) (p t : ℕ) (q : Fin 128) : EReal :=
  padded 230 (relT a8) p q + (∑ x : Fin 128, padded 4020 (timeT a9) t x * a10 (ix2 q x) + a11 (ix1 q))

/-- The reference's fed rows are those. -/
theorem emb_row (a2 a3 : (⟨S16384x8, .i32⟩ : BufTy).Contents (Elt Ideal)) (a8 : (⟨S230x128, .f32⟩ : BufTy).Contents (Elt Ideal)) (a9 : (⟨S4020x128, .f32⟩ : BufTy).Contents (Elt Ideal))
    (a10 : (⟨S128x128, .f32⟩ : BufTy).Contents (Elt Ideal)) (a11 : (⟨S128, .f32⟩ : BufTy).Contents (Elt Ideal)) (t : Fin 8) (r : Fin 16384) (q : Fin 128)
    (h2 : (a2 (ix2 r t) : BitVec 32).toNat ≤ 230) (h3 : (a3 (ix2 r t) : BitVec 32).toNat < 4020) :
    A_main_v23 a2 a3 a8 a9 a10 a11 (ix3 t r q) = fedRow a8 a9 a10 a11 (a2 (ix2 r t) : BitVec 32).toNat (a3 (ix2 r t) : BitVec 32).toNat q := by
  have g9 : ∀ x, Host.gather gather_S4020x128_S16384x8x1_S16384x8x128_2_0_n_n_0_2_1128 a9 (A_main_v14 a2 a3 a8 a9 a10 a11) (ix3 r t x)
      = a9 (ix2 ⟨(a3 (ix2 r t) : BitVec 32).toNat, h3⟩ x) := fun x => by
    refine gather_rows _ a9 _ r t x ⟨(a3 (ix2 r t) : BitVec 32).toNat, h3⟩ ?_ (by norm_num)
    pointwise [A_main_v14, A_main_v13, A_main_v12, A_main_v10, K_main_v9, K_main_v11, K_main_c_1]
    exact wrapped _ _ 4019 (by norm_num) (by omega)
  have g8 : A_main_v8 a2 a3 a8 a9 a10 a11 (ix3 r t q) = padded 230 (relT a8) (a2 (ix2 r t) : BitVec 32).toNat q := by
    unfold A_main_v8
    refine (gather_rows _ _ _ r t q ⟨(a2 (ix2 r t) : BitVec 32).toNat, by omega⟩ ?_ (by norm_num)).trans ?_
    · pointwise [A_main_v7, A_main_v6, A_main_v5, A_main_v3, K_main_v2, K_main_v4, K_main_c]
      exact wrapped _ _ 230 (by norm_num) h2
    · pointwise [A_main_v1, K_main_v0, K_main_cst]
      rfl
  pointwise [A_main_v23, A_main_v21, A_main_v20, A_main_v17, A_main_v15, A_main_v16, A_main_v19, A_main_v18]
  unfold fedRow padded
  simp only [g8, g9, dif_pos h3]
  rfl

/-- Step `j` reads the fed rows of step `j`, -/
theorem b3_row (j : ℕ) (hj : j < 8) (s : State Ideal) (r : Fin 16384) (k : Fin 128) : b3 j s (ix2 r k) = s.main_v25_0 (ix3 ⟨j, hj⟩ r k) := by
  have e2 : b2 j s (ix3 0 r k) = s.main_v25_0 (ix3 ⟨j, hj⟩ r k) := by
    have hs : S8x16384x128.Slices ![j, 0, 0] S1x16384x128 := ⟨rfl, fun a => by fin_cases a <;> simp [S8x16384x128, S1x16384x128, Shape.size] <;> omega⟩
    refine (congrFun (Host.dynamicSlice_eq_extractStridedSlice S1x16384x128 _ _ ![j, 0, 0] sliceFits_S8x16384x128_S1x16384x128 hs fun a => ?_) (ix3 0 r k)).trans ?_
    · fin_cases a
      exacts [toInt_ofNat_of_lt (by omega), rfl, rfl]
    · pointwise
  pointwise [b3]
  exact e2

/-- and is step number `j`. -/
theorem b5_word (j : ℕ) (hj : j < 8) (s : State Ideal) : b5 j s ix0 = BitVec.ofNat 32 j := by
  have e4 : b4 j s (ix1 0) = BitVec.ofNat 32 j := by
    have hs : S8.Slices ![j] S1 := ⟨rfl, fun a => by fin_cases a; simp [S8, S1, Shape.size]; omega⟩
    refine (congrFun (Host.dynamicSlice_eq_extractStridedSlice S1 _ _ ![j] sliceFits_S8_S1 hs fun a => ?_) (ix1 0)).trans ?_
    · fin_cases a
      exact toInt_ofNat_of_lt (by omega)
    · pointwise [K_main_v24]
  pointwise [b5]
  exact e4

/-- One step of a row. -/
theorem step_row (j : ℕ) (hj : j < 8) (s : State Ideal) (r : Fin 16384) (h : Fin 128 → EReal) (hh : ∀ k, s.main_v25_8 (ix2 r k) = h k) (q : Fin 128) :
    b53 j s (ix2 r q) = trip (s.main_v25_6 (ix1 r)) (fun k c => s.main_v25_4 (ix2 c k)) (fun c => s.main_v25_5 (ix1 c)) j
      (gates (fun k c => s.main_v25_2 (ix2 c k)) (fun c => s.main_v25_3 (ix1 c)) (fun k => s.main_v25_0 (ix3 ⟨j, hj⟩ r k))) h q := by
  have e3 := b3_row j hj s r
  have e10 : ∀ c, b10 j s (ix2 r c) = gates (fun k c => s.main_v25_2 (ix2 c k)) (fun c => s.main_v25_3 (ix1 c)) (fun k => s.main_v25_0 (ix3 ⟨j, hj⟩ r k)) c := fun c => by
    pointwise [b10, b9, b8, b7, b6]
    simp only [e3]
    rfl
  have e15 : ∀ c, b15 j s (ix2 r c) = gates (fun k c => s.main_v25_4 (ix2 c k)) (fun c => s.main_v25_5 (ix1 c)) h c := fun c => by
    pointwise [b15, b14, b13, b12, b11]
    simp only [hh]
    rfl
  pointwise [b53, b52, b51, b50, b49, b48, b47, b46, b45, b44, b43, b42, b41, b40, b39, b38, b37, b36, b35, b34, b33, b32, b31, b30, b29, b28, b27, b26, b25, b24, b23, b22, b21, b20, b19, b18, b17, b16]
  simp only [e10, e15, hh, b5_word j hj s]
  rfl

section Paths

variable (a2 a3 : (⟨S16384x8, .i32⟩ : BufTy).Contents (Elt Ideal)) (a4 : (⟨S16384, .i32⟩ : BufTy).Contents (Elt Ideal)) (a8 : (⟨S230x128, .f32⟩ : BufTy).Contents (Elt Ideal))
  (a9 : (⟨S4020x128, .f32⟩ : BufTy).Contents (Elt Ideal)) (a10 : (⟨S128x128, .f32⟩ : BufTy).Contents (Elt Ideal)) (a11 : (⟨S128, .f32⟩ : BufTy).Contents (Elt Ideal))
  (a12 a13 : (⟨S384x128, .f32⟩ : BufTy).Contents (Elt Ideal)) (a14 a15 : (⟨S384, .f32⟩ : BufTy).Contents (Elt Ideal))

/-- A path's hidden state after `n` steps. -/
def pathH (n : ℕ) (r : Fin 16384) : Fin 128 → EReal :=
  hid (a4 (ix1 r)) (fun k c => a13 (ix2 c k)) (fun c => a15 (ix1 c)) (fun t => gates (fun k c => a12 (ix2 c k)) (fun c => a14 (ix1 c))
    (fedRow a8 a9 a10 a11 (a2 (ix2 r (Fin.ofNat 8 t)) : BitVec 32).toNat (a3 (ix2 r (Fin.ofNat 8 t)) : BitVec 32).toNat)) n

/-- The reference's loop holds the paths' hidden states, row by row. -/
theorem iter_row (h2 : ∀ i, (a2 i : BitVec 32).toNat ≤ 230) (h3 : ∀ i, (a3 i : BitVec 32).toNat ≤ 4019) (it : ℕ → State Ideal)
    (h0 : it 0 = init a12 a14 a13 a15 a4 a2 a3 a8 a9 a10 a11) (hs : ∀ n, it (n + 1) = step n (it n)) (n : ℕ) (hn : n ≤ 8) :
    (∀ r q, (it n).main_v25_8 (ix2 r q) = pathH a2 a3 a4 a8 a9 a10 a11 a12 a13 a14 a15 n r q) ∧
    { it n with main_v25_8 := K_main_v22 } = init (F := Ideal) a12 a14 a13 a15 a4 a2 a3 a8 a9 a10 a11 := by
  induction n with
  | zero =>
    rw [h0]
    refine ⟨fun r q => ?_, rfl⟩
    show K_main_v22 (F := Ideal) (ix2 r q) = 0
    pointwise [K_main_v22, K_main_cst_3]
  | succ n ih =>
    obtain ⟨e, k⟩ := ih (by omega)
    have hn' : n < 8 := by omega
    rw [hs]
    refine ⟨fun r q => ?_, k⟩
    have k0 : (it n).main_v25_0 = A_main_v23 a2 a3 a8 a9 a10 a11 := congrArg State.main_v25_0 k
    have k2 : (it n).main_v25_2 = a12 := congrArg State.main_v25_2 k
    have k3 : (it n).main_v25_3 = a14 := congrArg State.main_v25_3 k
    have k4 : (it n).main_v25_4 = a13 := congrArg State.main_v25_4 k
    have k5 : (it n).main_v25_5 = a15 := congrArg State.main_v25_5 k
    have k6 : (it n).main_v25_6 = a4 := congrArg State.main_v25_6 k
    have ht : (Fin.ofNat 8 n : Fin 8) = ⟨n, hn'⟩ := Fin.ext (Nat.mod_eq_of_lt hn')
    refine (step_row n hn' (it n) r _ (e r) q).trans ?_
    rw [k0, k2, k3, k4, k5, k6]
    have hf : (fun k => A_main_v23 a2 a3 a8 a9 a10 a11 (ix3 ⟨n, hn'⟩ r k))
        = fedRow a8 a9 a10 a11 (a2 (ix2 r (Fin.ofNat 8 n)) : BitVec 32).toNat (a3 (ix2 r (Fin.ofNat 8 n)) : BitVec 32).toNat := funext fun k => by
      rw [ht]
      exact emb_row a2 a3 a8 a9 a10 a11 ⟨n, hn'⟩ r k (h2 _) (by have := h3 (ix2 r ⟨n, hn'⟩); omega)
    rw [hf]
    rfl

end Paths

end Cert.ReferenceIdeal.Pf
-- ==== Proof.KernelIdeal.Values.lean ====
/-
  What the program's buffers hold between its calls over the reals, entry by entry, from the launch memory to the results.
-/
module

public import proofs.«01_k».proof.Proof.KernelIdeal.Frame
public import proofs.«01_k».proof.Proof.KernelIdeal.RegionValues
public import proofs.«01_k».proof.Proof.ReferenceIdeal.Cell

@[expose] public section

noncomputable section

namespace Cert.KernelIdeal.Pf

open Cert.KernelIdeal Cert.KernelIdeal.Gen
open Idealize.ShloMosaic Idealize.ShloMosaic.TcCoe
open Cert.Model Cert.Reads
open Cert.ReferenceIdeal.Pf (relT timeT fedRow pathH pathN)

set_option maxRecDepth 16384

variable (m : (ℓ : Loc nD τ sig) → Buf (Elt Ideal) ℓ) (d : Dev nD)

/-! ## The arguments, as arrays -/

/-- Each query's paths. -/
abbrev x0 : Vec Ideal S1024x32 .i32 := arg m d main_arg0
/-- Each query's relation. -/
abbrev x1 : Vec Ideal S1024 .i32 := arg m d main_arg1
/-- Each path's relations, step by step. -/
abbrev x2 : Vec Ideal S16384x8 .i32 := arg m d main_arg2
/-- Each path's times, step by step. -/
abbrev x3 : Vec Ideal S16384x8 .i32 := arg m d main_arg3
/-- The paths' lengths. -/
abbrev x4 : Vec Ideal S16384 .i32 := arg m d main_arg4
/-- The relations asked for. -/
abbrev x5 : Vec Ideal S1024 .i32 := arg m d main_arg5
/-- The negatives: paths asked for. -/
abbrev x6 : Vec Ideal S1024 .i32 := arg m d main_arg6
/-- The relation table. -/
abbrev x8 : Vec Ideal S230x128 .f32 := arg m d main_arg8
/-- The time table. -/
abbrev x9 : Vec Ideal S4020x128 .f32 := arg m d main_arg9
/-- The weights the time rows are multiplied by. -/
abbrev x10 : Vec Ideal S128x128 .f32 := arg m d main_arg10
/-- Their bias. -/
abbrev x11 : Vec Ideal S128 .f32 := arg m d main_arg11
/-- The cell's weights for its input. -/
abbrev x12 : Vec Ideal S384x128 .f32 := arg m d main_arg12
/-- The cell's weights for its state. -/
abbrev x13 : Vec Ideal S384x128 .f32 := arg m d main_arg13
/-- The bias of its input. -/
abbrev x14 : Vec Ideal S384 .f32 := arg m d main_arg14
/-- The bias of its state. -/
abbrev x15 : Vec Ideal S384 .f32 := arg m d main_arg15

/-! ## Before the first call -/

/-- The padded time table. -/
def timeTab : Vec Ideal S4096x128 .f32 := C0 m d (Proc.devRef .tc main_v2)
/-- The padded relation table. -/
def relTab : Vec Ideal S256x128 .f32 := C0 m d (Proc.devRef .tc main_v5)

/-- The padded time table is the time table, and zeros below it. -/
theorem timeTab_row (p : Fin 4096) (q : Fin 128) : timeTab m d (ix2 p q) = padded 4020 (timeT (x9 m d)) p.val q := by
  have h : timeTab m d = Host.scatter scatter_S4096x128_S1_S4020x128_01_n_0_0 (fun _ b => b) (broadcastInDim S4096x128 ![] bcast_S_S4096x128 (constant (F := Ideal) S_ .f32 0x00000000#32))
      (broadcastInDim S1 ![] bcast_S_S1 (constantI S_ 32 0#32)) (x9 m d) := by
    unfold timeTab C0; after_results <;> rfl
  rw [h]
  refine (scatter_top (N := 4096) (n := 4020) _ _ _ _ ?_ p q).trans ?_
  · pointwise
  · pointwise
    rfl

/-- The padded relation table is the relation table, and zeros below it. -/
theorem relTab_row (p : Fin 256) (q : Fin 128) : relTab m d (ix2 p q) = padded 230 (relT (x8 m d)) p.val q := by
  have h : relTab m d = Host.scatter scatter_S256x128_S1_S230x128_01_n_0_0 (fun _ b => b) (broadcastInDim S256x128 ![] bcast_S_S256x128 (constant (F := Ideal) S_ .f32 0x00000000#32))
      (broadcastInDim S1 ![] bcast_S_S1 (constantI S_ 32 0#32)) (x8 m d) := by
    unfold relTab C0; after_results <;> rfl
  rw [h]
  refine (scatter_top (N := 256) (n := 230) _ _ _ _ ?_ p q).trans ?_
  · pointwise
  · pointwise
    rfl

/-- The weights' transposes and the biases' rows. -/
theorem weights : (C0 m d (Proc.devRef .tc main_v6) : Vec Ideal S128x128 .f32) = transpose S128x128 [1, 0] (x10 m d) transposes_S128x128_S128x128_1_0
    ∧ (C0 m d (Proc.devRef .tc main_v7) : Vec Ideal S128x384 .f32) = transpose S128x384 [1, 0] (x12 m d) transposes_S384x128_S128x384_1_0
    ∧ (C0 m d (Proc.devRef .tc main_v8) : Vec Ideal S128x384 .f32) = transpose S128x384 [1, 0] (x13 m d) transposes_S384x128_S128x384_1_0
    ∧ (C0 m d (Proc.devRef .tc main_v9) : Vec Ideal S1x128 .f32) = shapeCast S1x128 (x11 m d) shapeCasts_S128_S1x128
    ∧ (C0 m d (Proc.devRef .tc main_v10) : Vec Ideal S1x384 .f32) = shapeCast S1x384 (x14 m d) shapeCasts_S384_S1x384
    ∧ (C0 m d (Proc.devRef .tc main_v11) : Vec Ideal S1x384 .f32) = shapeCast S1x384 (x15 m d) shapeCasts_S384_S1x384 := by
  unfold C0
  refine ⟨?_, ?_, ?_, ?_, ?_, ?_⟩ <;> after_results <;> rfl

/-! ## The first call's results -/

/-- A row of the time table's product. -/
theorem time_row (p : Fin 4096) (q : Fin 128) : (C1 m d (Proc.devRef .tc main_v12_0) : Vec Ideal S4096x128 .f32) (ix2 p q)
    = ∑ x : Fin 128, padded 4020 (timeT (x9 m d)) p.val x * x10 m d (ix2 q x) + x11 m d (ix1 q) := by
  obtain ⟨w6, -, -, w9, -, -⟩ := weights m d
  have h : C1 m d (Proc.devRef .tc main_v12_0) = k0_pay1 (timeTab m d) (transpose S128x128 [1, 0] (x10 m d) transposes_S128x128_S128x128_1_0) (shapeCast S1x128 (x11 m d) shapeCasts_S128_S1x128) :=
    (Pipeline.afterRegion_arr _ _ launch0.win.arr_inj 4).trans (prep_time (C0 m) _ _ d _ _ _ rfl w6 w9)
  refine (congrFun h _).trans ((pay0_1_row _ _ _ p q).trans ?_)
  refine congrArg₂ (· + ·) (Finset.sum_congr rfl fun x _ => congrArg₂ (· * ·) (timeTab_row m d p x) ?_) ?_
  · pointwise
  · pointwise

/-- A row of the relation table, normalised. -/
theorem reln_row (p : Fin 256) (q : Fin 128) : (C1 m d (Proc.devRef .tc main_v12_1) : Vec Ideal S256x128 .f32) (ix2 p q) = nrm (padded 230 (relT (x8 m d)) p.val) q := by
  have h : C1 m d (Proc.devRef .tc main_v12_1) = k0_pay2 (relTab m d) := (Pipeline.afterRegion_arr _ _ launch0.win.arr_inj 5).trans (prep_rel (C0 m) _ _ d _ rfl)
  refine (congrFun h _).trans ((pay0_2_row _ p q).trans ?_)
  exact congrArg (nrm · q) (funext fun x => relTab_row m d p x)

/-! ## A gather's rows -/

/-- Row `r` of a gather is the row its word names. -/
theorem gathered_row {T n b R : ℕ} [NeZero T] [NeZero n] [NeZero b] (t : (⟨2, ![T, 128]⟩ : Shape).Idx → EReal) (w : (⟨3, ![32, n, b]⟩ : Shape).Idx → BitVec 32) (r : Fin R)
    (q : Fin 128) (p : Fin T) (h : (w (ix3 (Fin.ofNat 32 (r.val / b / n)) (Fin.ofNat n (r.val / b)) (Fin.ofNat b r.val))).toNat = p.val) :
    (Cert.Proof.GatherTile.gathered t w : (⟨2, ![R, 128]⟩ : Shape).Idx → EReal) (ix2 r q) = t (ix2 p q) := by
  rw [ix3_eq_valueIdx] at h
  have e : (Fin.ofNat T (w (ValueIdx.ix3 (Fin.ofNat 32 (r.val / b / n)) (Fin.ofNat n (r.val / b)) (Fin.ofNat b r.val))).toNat : Fin T) = p :=
    Fin.ext (by show _ % T = _; rw [h]; exact Nat.mod_eq_of_lt p.isLt)
  rw [ix2_eq_valueIdx p q, ← e]
  rfl

variable {m d}

/-- The gathered time row of path `r` at step `t`. -/
theorem time_gathered (h3 : ∀ i, (x3 m d i : BitVec 32).toNat ≤ 4019) (t : Fin 8) (r : Fin 16384) (q : Fin 128) :
    (C3 m d (Proc.devRef .tc main_v15) : Vec Ideal S131072x128 .f32) (ix2 ⟨t.val * 16384 + r.val, by omega⟩ q)
      = ∑ x : Fin 128, padded 4020 (timeT (x9 m d)) (x3 m d (ix2 r t) : BitVec 32).toNat x * x10 m d (ix2 q x) + x11 m d (ix1 q) := by
  have hv : C3 m d (Proc.devRef .tc main_v15) = res0 (C2 m d) := Function.update_self _ _ _
  have hb : (x3 m d (ix2 r t) : BitVec 32).toNat < 4096 := lt_of_le_of_lt (h3 _) (by norm_num)
  refine (congrFun hv _).trans ((gathered_row _ _ _ q ⟨(x3 m d (ix2 r t) : BitVec 32).toNat, hb⟩ ?_).trans ?_)
  · refine (congrArg BitVec.toNat (congrFun (idx0 m d) _)).trans ?_
    pointwise
    refine congrArg (fun i => BitVec.toNat (x3 m d i)) (congrArg₂ ix2 (Fin.ext ?_) (Fin.ext ?_)) <;> simp only [Fin.val_ofNat] <;> omega
  · refine (congrFun (keep1 (C1 m d) main_v12_0 (by decide)) _).trans (time_row m d _ q)

/-! ## The recurrent cell's call -/

/-- The row the cell is fed. -/
theorem inp_row (h2 : ∀ i, (x2 m d i : BitVec 32).toNat ≤ 230) (h3 : ∀ i, (x3 m d i : BitVec 32).toNat ≤ 4019) (t : Fin 8) (r : Fin 16384) (q : Fin 128) :
    inpRow (shapeCast S8x16384x1 (transpose S8x16384 [1, 0] (x2 m d) transposes_S16384x8_S8x16384_1_0) shapeCasts_S8x16384_S8x16384x1)
        (shapeCast S8x16x1024x128 (C3 m d (Proc.devRef .tc main_v15) : Vec Ideal S131072x128 .f32) shapeCasts_S131072x128_S8x16x1024x128) (relTab m d) r t q
      = fedRow (x8 m d) (x9 m d) (x10 m d) (x11 m d) (x2 m d (ix2 r t) : BitVec 32).toNat (x3 m d (ix2 r t) : BitVec 32).toNat q := by
  have hb : (x2 m d (ix2 r t) : BitVec 32).toNat < 256 := lt_of_le_of_lt (h2 _) (by norm_num)
  have e1 : shapeCast S8x16x1024x128 (C3 m d (Proc.devRef .tc main_v15) : Vec Ideal S131072x128 .f32) shapeCasts_S131072x128_S8x16x1024x128
      (ix4 t ⟨r.val / 1024, by omega⟩ ⟨r.val % 1024, by omega⟩ q)
      = ∑ x : Fin 128, padded 4020 (timeT (x9 m d)) (x3 m d (ix2 r t) : BitVec 32).toNat x * x10 m d (ix2 q x) + x11 m d (ix1 q) := by
    rw [← time_gathered h3 t r q]
    generalize (C3 m d (Proc.devRef .tc main_v15) : Vec Ideal S131072x128 .f32) = v
    pointwise
    exact congrArg (fun i => v (ix2 i q)) (Fin.ext (by show t.val * 16384 + r.val / 1024 * 1024 + r.val % 1024 = t.val * 16384 + r.val; omega))
  have e2 : shapeCast S8x16384x1 (transpose S8x16384 [1, 0] (x2 m d) transposes_S16384x8_S8x16384_1_0) shapeCasts_S8x16384_S8x16384x1 (ix3 t r 0) = x2 m d (ix2 r t) := by
    pointwise
  unfold inpRow
  unfold fedRow
  rw [e1]
  simp only [e2]
  have e3 := (onehot 256 (by norm_num) (fun x : Fin 256 => relTab m d (ix2 x q)) ⟨(x2 m d (ix2 r t) : BitVec 32).toNat, hb⟩ (x2 m d (ix2 r t))
    ((BitVec.ofNat_toNat _ _).trans (BitVec.setWidth_eq _)).symm).trans (relTab_row m d _ q)
  rw [e3]
  generalize (∑ x : Fin 128, padded 4020 (timeT (x9 m d)) (x3 m d (ix2 r t) : BitVec 32).toNat x * x10 m d (ix2 q x) + x11 m d (ix1 q)) = a
  exact add_comm _ _

/-- Equal lengths, weights and inputs give equal hidden states. -/
theorem hid_congr {l l' : BitVec 32} {w w' : Fin 128 → Fin 384 → EReal} {b b' : Fin 384 → EReal} {f f' : ℕ → Fin 384 → EReal} (n : ℕ) (hl : l = l') (hw : w = w') (hb : b = b')
    (hf : f = f') : hid l w b f n = hid l' w' b' f' n := by
  subst hl hw hb hf; rfl

/-- The paths' table: each path's hidden state after its steps, normalised. -/
theorem cell_row (h2 : ∀ i, (x2 m d i : BitVec 32).toNat ≤ 230) (h3 : ∀ i, (x3 m d i : BitVec 32).toNat ≤ 4019) (r : Fin 16384) (q : Fin 128) :
    (C5 m d (Proc.devRef .tc main_v20) : Vec Ideal S16384x128 .f32) (ix2 r q)
      = nrm (pathH (x2 m d) (x3 m d) (x4 m d) (x8 m d) (x9 m d) (x10 m d) (x11 m d) (x12 m d) (x13 m d) (x14 m d) (x15 m d) 8 r) q := by
  obtain ⟨-, w7, w8, -, w10, w11⟩ := weights m d
  have k5 : C4 m d (Proc.devRef .tc main_v5) = relTab m d := (k4 main_v5 m d (by decide)).trans (k2 main_v5 m d (by decide))
  have k7 := ((k4 main_v7 m d (by decide)).trans (k2 main_v7 m d (by decide))).trans w7
  have k8 := ((k4 main_v8 m d (by decide)).trans (k2 main_v8 m d (by decide))).trans w8
  have k10 := ((k4 main_v10 m d (by decide)).trans (k2 main_v10 m d (by decide))).trans w10
  have k11 := ((k4 main_v11 m d (by decide)).trans (k2 main_v11 m d (by decide))).trans w11
  have c16 : (C4 m d (Proc.devRef .tc main_v16) : Vec Ideal S8x16x1024x128 .f32)
      = shapeCast S8x16x1024x128 (C3 m d (Proc.devRef .tc main_v15) : Vec Ideal S131072x128 .f32) shapeCasts_S131072x128_S8x16x1024x128 := by
    unfold C4; after_results <;> rfl
  have c18 : (C4 m d (Proc.devRef .tc main_v18) : Vec Ideal S8x16384x1 .i32)
      = shapeCast S8x16384x1 (transpose S8x16384 [1, 0] (C3 m d (Proc.devRef .tc main_arg2) : Vec Ideal S16384x8 .i32) transposes_S16384x8_S8x16384_1_0) shapeCasts_S8x16384_S8x16384x1 := by
    unfold C4; after_results <;> rfl
  have c19 : (C4 m d (Proc.devRef .tc main_v19) : Vec Ideal S16x1x1024 .i32) = shapeCast S16x1x1024 (C3 m d (Proc.devRef .tc main_arg4) : Vec Ideal S16384 .i32) shapeCasts_S16384_S16x1x1024 := by
    unfold C4; after_results <;> rfl
  rw [keepG0 main_arg2 m d (by decide), a2 m d (by decide)] at c18
  rw [keepG0 main_arg4 m d (by decide), a2 m d (by decide)] at c19
  have h := (Pipeline.afterRegion_arr (dat2 (C4 m) (Oq (F := Ideal) 1) (Bq (F := Ideal) 1) d) (C4 m d) launch2.win.arr_inj 8).trans
    (gru_rows (C4 m) _ _ d _ _ _ _ _ _ _ _ c19 k8 k7 k11 k10 c18 c16 k5)
  refine (congrFun h (ix2 r q)).trans ?_
  show gruRow _ _ _ _ _ _ _ _ r q = _
  unfold gruRow pathH
  have hi : (fun t => inpRow (shapeCast S8x16384x1 (transpose S8x16384 [1, 0] (x2 m d) transposes_S16384x8_S8x16384_1_0) shapeCasts_S8x16384_S8x16384x1)
        (shapeCast S8x16x1024x128 (C3 m d (Proc.devRef .tc main_v15) : Vec Ideal S131072x128 .f32) shapeCasts_S131072x128_S8x16x1024x128) (relTab m d) r (Fin.ofNat 8 t))
      = fun t => fedRow (x8 m d) (x9 m d) (x10 m d) (x11 m d) (x2 m d (ix2 r (Fin.ofNat 8 t)) : BitVec 32).toNat (x3 m d (ix2 r (Fin.ofNat 8 t)) : BitVec 32).toNat :=
    funext fun t => funext fun k => inp_row h2 h3 (Fin.ofNat 8 t) r k
  have hl : shapeCast S16x1x1024 (x4 m d) shapeCasts_S16384_S16x1x1024 (ix3 ⟨r.val / 1024, by omega⟩ 0 ⟨r.val % 1024, by omega⟩) = x4 m d (ix1 r) := by
    pointwise
  have t7 : (fun (k : Fin 128) (g : Fin 384) => transpose S128x384 [1, 0] (x12 m d) transposes_S384x128_S128x384_1_0 (ix2 k g)) = fun k g => x12 m d (ix2 g k) :=
    funext fun k => funext fun g => by pointwise
  have t8 : (fun (k : Fin 128) (g : Fin 384) => transpose S128x384 [1, 0] (x13 m d) transposes_S384x128_S128x384_1_0 (ix2 k g)) = fun k g => x13 m d (ix2 g k) :=
    funext fun k => funext fun g => by pointwise
  have t10 : (fun g : Fin 384 => shapeCast S1x384 (x14 m d) shapeCasts_S384_S1x384 (ix2 0 g)) = fun g => x14 m d (ix1 g) := funext fun g => by pointwise
  have t11 : (fun g : Fin 384 => shapeCast S1x384 (x15 m d) shapeCasts_S384_S1x384 (ix2 0 g)) = fun g => x15 m d (ix1 g) := funext fun g => by pointwise
  exact congrFun (congrArg nrm (hid_congr 8 hl t8 t11 (funext fun t => congr (congr (congrArg gates t7) t10) (congrFun hi t)))) q

/-! ## The second gather -/

/-- Word `R` of the list of paths: the query's paths in turn, then the negatives. -/
def pathWord (x0 : Vec Ideal S1024x32 .i32) (x6 : Vec Ideal S1024 .i32) (R : Fin 33792) : BitVec 32 :=
  if h : R.val < 32768 then x0 (ix2 ⟨R.val / 32, by omega⟩ ⟨R.val % 32, by omega⟩) else x6 (ix1 ⟨R.val - 32768, by omega⟩)

/-- Row 0 of the paths' table is zeros, -/
theorem pathN_zero (h : Fin 16384 → Fin 128 → EReal) (i : ℕ) (q : Fin 128) (h0 : i < 1) : pathN h i q = 0 := by
  unfold pathN
  simp only [dif_pos h0]
  exact nrm_zero q

/-- a later row a path's hidden state, normalised. -/
theorem pathN_pos (h : Fin 16384 → Fin 128 → EReal) (i : ℕ) (q : Fin 128) (h0 : ¬ i < 1) (h1 : i - 1 < 16384) : pathN h i q = nrm (h ⟨i - 1, h1⟩) q := by
  unfold pathN
  simp only [dif_neg h0, dif_pos h1]

/-- A query's paths in the list, -/
theorem pathWord_path (x0 : Vec Ideal S1024x32 .i32) (x6 : Vec Ideal S1024 .i32) (r : Fin 1024) (j : Fin 32) (h : r.val * 32 + j.val < 33792) :
    pathWord x0 x6 ⟨r.val * 32 + j.val, h⟩ = x0 (ix2 r j) := by
  unfold pathWord
  rw [dif_pos (by show r.val * 32 + j.val < 32768; omega)]
  exact congrArg x0 (congrArg₂ ix2 (Fin.ext (by show (r.val * 32 + j.val) / 32 = r.val; omega)) (Fin.ext (by show (r.val * 32 + j.val) % 32 = j.val; omega)))

/-- and the negatives. -/
theorem pathWord_neg (x0 : Vec Ideal S1024x32 .i32) (x6 : Vec Ideal S1024 .i32) (r : Fin 1024) (h : 32768 + r.val < 33792) :
    pathWord x0 x6 ⟨32768 + r.val, h⟩ = x6 (ix1 r) := by
  unfold pathWord
  rw [dif_neg (by show ¬ 32768 + r.val < 32768; omega)]
  exact congrArg x6 (congrArg ix1 (Fin.ext (by show 32768 + r.val - 32768 = r.val; omega)))

/-- Row `R` the gather of paths leaves: the path its word names, normalised. -/
theorem path_gathered (h : Cert.Proof.Ranges.InRange (arg m d main_arg0) (arg m d main_arg1) (arg m d main_arg2) (arg m d main_arg3) (arg m d main_arg5) (arg m d main_arg6))
    (R : Fin 33792) (q : Fin 128) : (C7 m d (Proc.devRef .tc main_v28) : Vec Ideal S33792x128 .f32) (ix2 R q)
      = pathN (pathH (x2 m d) (x3 m d) (x4 m d) (x8 m d) (x9 m d) (x10 m d) (x11 m d) (x12 m d) (x13 m d) (x14 m d) (x15 m d) 8) (pathWord (x0 m d) (x6 m d) R).toNat q := by
  have hv : C7 m d (Proc.devRef .tc main_v28) = res1 (C6 m d) := Function.update_self _ _ _
  have hw : (pathWord (x0 m d) (x6 m d) R).toNat ≤ 16384 := by
    unfold pathWord
    split
    · exact h.path _
    · exact h.neg _
  have c22 : (C6 m d (Proc.devRef .tc main_v22) : Vec Ideal S16392x128 .f32)
      = concatenate S16392x128 0 [⟨S8x128, broadcastInDim S8x128 ![] bcast_S_S8x128 (constant (F := Ideal) S_ .f32 0x00000000#32)⟩,
        ⟨S16384x128, (C5 m d (Proc.devRef .tc main_v20) : Vec Ideal S16384x128 .f32)⟩] concatenates_S8x128_S16384x128_S16392x128_d0 := by
    unfold C6; after_results <;> rfl
  refine (congrFun hv _).trans ((gathered_row _ _ _ q ⟨(pathWord (x0 m d) (x6 m d) R).toNat + 7, by omega⟩ ?_).trans ?_)
  · refine (congrArg BitVec.toNat (congrFun (idx1 m d) _)).trans (Eq.trans ?_ (add_seven hw))
    pointwise
    have e : (Fin.ofNat 32 (R.val / 96 / 11)).val * 1056 + (Fin.ofNat 11 (R.val / 96)).val * 96 + (Fin.ofNat 96 R.val).val = R.val := by simp only [Fin.val_ofNat]; omega
    simp only [e]
    rfl
  · refine (congrFun c22 _).trans ?_
    have hc := cell_row (m := m) (d := d) h.paths h.time
    generalize (C5 m d (Proc.devRef .tc main_v20) : Vec Ideal S16384x128 .f32) = v at hc
    pointwise
    by_cases h0 : (pathWord (x0 m d) (x6 m d) R).toNat < 1
    · rw [dif_pos (by omega)]
      exact (pathN_zero _ _ q h0).symm
    · rw [dif_neg (by omega), hc]
      refine Eq.trans ?_ (pathN_pos _ _ q h0 (by omega)).symm
      exact congrArg (fun i => nrm (pathH (x2 m d) (x3 m d) (x4 m d) (x8 m d) (x9 m d) (x10 m d) (x11 m d) (x12 m d) (x13 m d) (x14 m d) (x15 m d) 8 i) q)
        (Fin.ext (by show _ + 7 - 8 = _ - 1; omega))

/-! ## The third gather -/

/-- Word `R` of the list of relations: the given ones, then the queries'. -/
def relWord (x5 x1 : Vec Ideal S1024 .i32) (R : Fin 2048) : BitVec 32 :=
  if h : R.val < 1024 then x5 (ix1 ⟨R.val, h⟩) else x1 (ix1 ⟨R.val - 1024, by omega⟩)

/-- The given relations in the list, -/
theorem relWord_given (x5 x1 : Vec Ideal S1024 .i32) (r : Fin 1024) (h : r.val < 2048) : relWord x5 x1 ⟨r.val, h⟩ = x5 (ix1 r) := by
  unfold relWord
  rw [dif_pos (show r.val < 1024 from r.isLt)]

/-- and the queries'. -/
theorem relWord_query (x5 x1 : Vec Ideal S1024 .i32) (r : Fin 1024) (h : 1024 + r.val < 2048) : relWord x5 x1 ⟨1024 + r.val, h⟩ = x1 (ix1 r) := by
  unfold relWord
  rw [dif_neg (by show ¬ 1024 + r.val < 1024; omega)]
  exact congrArg x1 (congrArg ix1 (Fin.ext (by show 1024 + r.val - 1024 = r.val; omega)))

/-- Row `R` the gather of relations leaves: the relation its word names, normalised. -/
theorem rel_gathered (h : Cert.Proof.Ranges.InRange (arg m d main_arg0) (arg m d main_arg1) (arg m d main_arg2) (arg m d main_arg3) (arg m d main_arg5) (arg m d main_arg6))
    (R : Fin 2048) (q : Fin 128) : (C9 m d (Proc.devRef .tc main_v31) : Vec Ideal S2048x128 .f32) (ix2 R q)
      = nrm (padded 230 (relT (x8 m d)) (relWord (x5 m d) (x1 m d) R).toNat) q := by
  have hv : C9 m d (Proc.devRef .tc main_v31) = res2 (C8 m d) := Function.update_self _ _ _
  have hw : (relWord (x5 m d) (x1 m d) R).toNat ≤ 230 := by
    unfold relWord
    split
    · exact h.rpos _
    · exact h.rel _
  have kr : C8 m d (Proc.devRef .tc main_v12_1) = C1 m d (Proc.devRef .tc main_v12_1) :=
    ((k8 main_v12_1 m d (by decide)).trans ((k6 main_v12_1 m d (by decide)).trans (k4 main_v12_1 m d (by decide)))).trans (keep1 (C1 m d) main_v12_1 (by decide))
  refine (congrFun hv _).trans ((gathered_row _ _ _ q ⟨(relWord (x5 m d) (x1 m d) R).toNat, by omega⟩ ?_).trans ?_)
  · refine (congrArg BitVec.toNat (congrFun (idx2 m d) _)).trans ?_
    pointwise
    have e : (Fin.ofNat 32 (R.val / 64)).val * 64 + (Fin.ofNat 64 R.val).val = R.val := by simp only [Fin.val_ofNat]; omega
    simp only [e]
    rfl
  · exact (congrFun kr _).trans (reln_row m d _ q)

/-! ## The results -/

/-- The third result: the given relations, normalised. -/
theorem out_rel (h : Cert.Proof.Ranges.InRange (arg m d main_arg0) (arg m d main_arg1) (arg m d main_arg2) (arg m d main_arg3) (arg m d main_arg5) (arg m d main_arg6))
    (r : Fin 1024) (q : Fin 128) : (C12 m d (Proc.devRef .tc main_v37) : Vec Ideal S1024x128 .f32) (ix2 r q) = nrm (padded 230 (relT (x8 m d)) (x5 m d (ix1 r) : BitVec 32).toNat) q := by
  have c : (C12 m d (Proc.devRef .tc main_v37) : Vec Ideal S1024x128 .f32)
      = extractStridedSlice S1024x128 ![0, 0] (C11 m d (Proc.devRef .tc main_v31) : Vec Ideal S2048x128 .f32) slices_S2048x128_S1024x128_0_0 := by
    unfold C12; after_results <;> rfl
  rw [keepR2 main_v31 m d (by decide), show C10 m d (Proc.devRef .tc main_v31) = C9 m d (Proc.devRef .tc main_v31) from keep5 (C9 m d) main_v31 (by decide)] at c
  refine (congrFun c _).trans ?_
  have hg := rel_gathered h ⟨r.val, by omega⟩ q
  generalize (C9 m d (Proc.devRef .tc main_v31) : Vec Ideal S2048x128 .f32) = v at hg
  rw [relWord_given] at hg
  pointwise
  exact hg

/-- The second result: the negatives' paths, normalised. -/
theorem out_path (h : Cert.Proof.Ranges.InRange (arg m d main_arg0) (arg m d main_arg1) (arg m d main_arg2) (arg m d main_arg3) (arg m d main_arg5) (arg m d main_arg6))
    (r : Fin 1024) (q : Fin 128) : (C12 m d (Proc.devRef .tc main_v36) : Vec Ideal S1024x128 .f32) (ix2 r q)
      = pathN (pathH (x2 m d) (x3 m d) (x4 m d) (x8 m d) (x9 m d) (x10 m d) (x11 m d) (x12 m d) (x13 m d) (x14 m d) (x15 m d) 8) (x6 m d (ix1 r) : BitVec 32).toNat q := by
  have c : (C12 m d (Proc.devRef .tc main_v36) : Vec Ideal S1024x128 .f32)
      = extractStridedSlice S1024x128 ![32768, 0] (C11 m d (Proc.devRef .tc main_v28) : Vec Ideal S33792x128 .f32) slices_S33792x128_S1024x128_32768_0 := by
    unfold C12; after_results <;> rfl
  rw [keepR2 main_v28 m d (by decide), k10 main_v28 m d (by decide), show C8 m d (Proc.devRef .tc main_v28) = C7 m d (Proc.devRef .tc main_v28) from keep4 (C7 m d) main_v28 (by decide)] at c
  refine (congrFun c _).trans ?_
  have hg := path_gathered h ⟨32768 + r.val, by omega⟩ q
  generalize (C7 m d (Proc.devRef .tc main_v28) : Vec Ideal S33792x128 .f32) = v at hg
  rw [pathWord_neg] at hg
  pointwise
  exact hg

/-- The first result: the greatest product of one of a query's path rows with its relation row, and zero. -/
theorem out_score (h : Cert.Proof.Ranges.InRange (arg m d main_arg0) (arg m d main_arg1) (arg m d main_arg2) (arg m d main_arg3) (arg m d main_arg5) (arg m d main_arg6))
    (r : Fin 1024) : (C12 m d (Proc.devRef .tc main_v35) : Vec Ideal S1024 .f32) (ix1 r)
      = max (Finset.univ.fold max (Ideal.ofBits .f32 4286578688#32) fun j : Fin 32 => ∑ k : Fin 128,
        pathN (pathH (x2 m d) (x3 m d) (x4 m d) (x8 m d) (x9 m d) (x10 m d) (x11 m d) (x12 m d) (x13 m d) (x14 m d) (x15 m d) 8) (x0 m d (ix2 r j) : BitVec 32).toNat k
          * nrm (padded 230 (relT (x8 m d)) (x1 m d (ix1 r) : BitVec 32).toNat) k) 0 := by
  have c : (C12 m d (Proc.devRef .tc main_v35) : Vec Ideal S1024 .f32) = shapeCast S1024 (C11 m d (Proc.devRef .tc main_v34) : Vec Ideal S8x1x128 .f32) shapeCasts_S8x1x128_S1024 := by
    unfold C12; after_results <;> rfl
  have c32 : (C10 m d (Proc.devRef .tc main_v32) : Vec Ideal S32768x128 .f32)
      = extractStridedSlice S32768x128 ![0, 0] (C9 m d (Proc.devRef .tc main_v28) : Vec Ideal S33792x128 .f32) slices_S33792x128_S32768x128_0_0 := by
    unfold C10; after_results <;> rfl
  have c33 : (C10 m d (Proc.devRef .tc main_v33) : Vec Ideal S1024x128 .f32)
      = extractStridedSlice S1024x128 ![1024, 0] (C9 m d (Proc.devRef .tc main_v31) : Vec Ideal S2048x128 .f32) slices_S2048x128_S1024x128_1024_0 := by
    unfold C10; after_results <;> rfl
  rw [keepG2 main_v28 m d (by decide), show C8 m d (Proc.devRef .tc main_v28) = C7 m d (Proc.devRef .tc main_v28) from keep4 (C7 m d) main_v28 (by decide)] at c32
  have hs := (Pipeline.afterRegion_arr (dat5 (C10 m) (Oq (F := Ideal) 3) (Bq (F := Ideal) 3) d) (C10 m d) launch5.win.arr_inj 2).trans (score_rows (C10 m) _ _ d _ _ c32 c33)
  have hr : r.val / 128 < 8 := by omega
  have e : (C12 m d (Proc.devRef .tc main_v35) : Vec Ideal S1024 .f32) (ix1 r)
      = (C11 m d (Proc.devRef .tc main_v34) : Vec Ideal S8x1x128 .f32) (ix3 ⟨r.val / 128, hr⟩ 0 ⟨r.val % 128, by omega⟩) := by
    rw [c]
    generalize (C11 m d (Proc.devRef .tc main_v34) : Vec Ideal S8x1x128 .f32) = v
    pointwise
  refine e.trans ((congrFun hs _).trans ?_)
  have er : (⟨r.val / 128 * 128 + r.val % 128, by omega⟩ : Fin 1024) = r := Fin.ext (by show r.val / 128 * 128 + r.val % 128 = r.val; omega)
  show scoreRow _ _ (⟨r.val / 128 * 128 + r.val % 128, by omega⟩ : Fin 1024) = _
  rw [er]
  have hp := path_gathered h
  have hq := rel_gathered h
  generalize (C7 m d (Proc.devRef .tc main_v28) : Vec Ideal S33792x128 .f32) = v at hp
  generalize (C9 m d (Proc.devRef .tc main_v31) : Vec Ideal S2048x128 .f32) = w at hq
  unfold scoreRow
  refine congrArg (max · 0) (congrArg (Finset.fold max _ · Finset.univ) (funext fun j => Finset.sum_congr rfl fun k _ => congrArg₂ (· * ·) ?_ ?_))
  · have hg := hp ⟨r.val * 32 + j.val, by omega⟩ k
    rw [pathWord_path] at hg
    pointwise
    exact hg
  · have hg := hq ⟨1024 + r.val, by omega⟩ k
    rw [relWord_query] at hg
    pointwise
    exact hg

end Cert.KernelIdeal.Pf
-- ==== Proof.Algebraic.lean ====
/-
  Over the reals the program's three results are the reference's.
-/
module

public import proofs.«01_k».proof.Defs
public import proofs.«01_k».proof.Proof.Frames
public import proofs.«01_k».proof.Proof.KernelIdeal.Values

@[expose] public section

noncomputable section

namespace Cert.Proof

open Idealize.ShloMosaic Idealize.SL.Sem
open Cert.KernelIdeal (nD τ sig main_arg0 main_arg1 main_arg2 main_arg3 main_arg5 main_arg6 main_v35 main_v36 main_v37)
open Cert.KernelIdeal.Pf
open Cert.ReferenceIdeal.Pf (pathH pathN iter_row score_row path_row rel_row)
open Cert.ReferenceIdeal.Step (State step init R_main_v75 R_main_v82 R_main_v89)

section Results

variable {m : (ℓ : Loc nD τ sig) → Buf (Elt Ideal) ℓ} {d : Dev nD} {s : State Ideal}
  (h : Ranges.InRange (arg m d main_arg0) (arg m d main_arg1) (arg m d main_arg2) (arg m d main_arg3) (arg m d main_arg5) (arg m d main_arg6))
  (hs : ∀ r q, s.main_v25_8 (ix2 r q) = pathH (x2 m d) (x3 m d) (x4 m d) (x8 m d) (x9 m d) (x10 m d) (x11 m d) (x12 m d) (x13 m d) (x14 m d) (x15 m d) 8 r q)

include h hs

/-- The scores. -/
theorem score_eq : R_main_v75 s (x0 m d) (x1 m d) (x8 m d) = C12 m d (Proc.devRef .tc main_v35) := by
  funext i
  obtain ⟨r, rfl⟩ : ∃ r : Fin 1024, i = ix1 r := ⟨i 0, by funext a; match a with | 0 => rfl⟩
  have e := score_row s (x0 m d) (x1 m d) (x8 m d) r h.path (h.rel _)
  rw [show (fun i k => s.main_v25_8 (ix2 i k)) = _ from funext fun r => funext fun q => hs r q] at e
  exact e.trans (out_score h r).symm

/-- The negatives' paths. -/
theorem path_eq : R_main_v82 s (x6 m d) = C12 m d (Proc.devRef .tc main_v36) := by
  funext i
  obtain ⟨r, q, rfl⟩ : ∃ (r : Fin 1024) (q : Fin 128), i = ix2 r q := ⟨i 0, i 1, by funext a; match a with | 0 => rfl | 1 => rfl⟩
  have e := path_row s (x6 m d) r q (h.neg _)
  rw [show (fun i k => s.main_v25_8 (ix2 i k)) = _ from funext fun r => funext fun q => hs r q] at e
  exact e.trans (out_path h r q).symm

omit hs in
/-- The relations. -/
theorem rel_eq : R_main_v89 s (x5 m d) (x8 m d) = C12 m d (Proc.devRef .tc main_v37) := by
  funext i
  obtain ⟨r, q, rfl⟩ : ∃ (r : Fin 1024) (q : Fin 128), i = ix2 r q := ⟨i 0, i 1, by funext a; match a with | 0 => rfl | 1 => rfl⟩
  exact (rel_row s (x5 m d) (x8 m d) r q (h.rpos _)).trans (out_rel h r q).symm

end Results

/-- The states the reference's loop goes through. -/
def states (m' : (ℓ : Loc Cert.ReferenceIdeal.nD Cert.ReferenceIdeal.τ Cert.ReferenceIdeal.sig) → Buf (Elt Ideal) ℓ) (c : Dev Cert.ReferenceIdeal.nD) : ℕ → State Ideal
  | 0 => Cert.ReferenceIdeal.StepRun.initState m' c
  | n + 1 => step n (states m' c n)

/-- From the same arguments, in their ranges, the program and the reference end with the same three results, and their arguments as they were. -/
theorem algebraic : algebraic_KernelIdeal_ReferenceIdeal (hKernelIdeal := Cert.KernelIdeal.Gen.facts) (hReferenceIdeal := Cert.ReferenceIdeal.Gen.facts) (hPre_in_range := preFacts) := by
  intro m g m' g' hm ha
  have : Cert.Pre_in_range.Facts := preFacts
  have : ∀ e, Nonempty (Elt Ideal e) := fun e => by cases e <;> exact ⟨0⟩
  have hR := fun d => Ranges.inRange _ _ _ _ _ _ _ _ _ _ _ _ _ _ _ _ (hm d)
  refine ⟨fun c => C12 m c (Proc.devRef .tc main_v35), fun c => C12 m c (Proc.devRef .tc main_v36), fun c => C12 m c (Proc.devRef .tc main_v37), ?_, ?_⟩
  · refine (θ_run _ _ _).mono (fun r h c => ?_) (run_main m g (inRows hR))
    have k := fun c b hb hs => arg_kept h c b hb hs
    exact ⟨h.1 c _ (mem_ucRefs main_v35 (by decide)), h.1 c _ (mem_ucRefs main_v36 (by decide)), h.1 c _ (mem_ucRefs main_v37 (by decide)),
      k c _ (by decide) (by decide), k c _ (by decide) (by decide), k c _ (by decide) (by decide), k c _ (by decide) (by decide),
      k c _ (by decide) (by decide), k c _ (by decide) (by decide), k c _ (by decide) (by decide), k c _ (by decide) (by decide),
      k c _ (by decide) (by decide), k c _ (by decide) (by decide), k c _ (by decide) (by decide), k c _ (by decide) (by decide),
      k c _ (by decide) (by decide), k c _ (by decide) (by decide), k c _ (by decide) (by decide), k c _ (by decide) (by decide)⟩
  · refine (θ_run _ _ _).mono (fun r h c => ?_) (Cert.ReferenceIdeal.StepRun.run_iter m' g' (states m') (fun _ => rfl) (fun _ _ => rfl))
    obtain ⟨e0, e1, e2, e3, e4, e5, e6, e7, e8, e9, e10, e11, e12, e13, e14, e15⟩ := ha c
    obtain ⟨h0, h1, h2, hk⟩ := h c
    have hi : states m' c 0 = init (x12 m c) (x14 m c) (x13 m c) (x15 m c) (x4 m c) (x2 m c) (x3 m c) (x8 m c) (x9 m c) (x10 m c) (x11 m c) := by
      show init _ _ _ _ _ _ _ _ _ _ _ = _
      rw [e2, e3, e4, e8, e9, e10, e11, e12, e13, e14, e15]
    have hs := (iter_row (x2 m c) (x3 m c) (x4 m c) (x8 m c) (x9 m c) (x10 m c) (x11 m c) (x12 m c) (x13 m c) (x14 m c) (x15 m c) (hR c).paths (hR c).time
      (states m' c) hi (fun _ => rfl) 8 le_rfl).1
    rw [e0, e1, e8] at h0
    rw [e6] at h1
    rw [e5, e8] at h2
    exact ⟨h0.trans (score_eq (hR c) hs), h1.trans (path_eq (hR c) hs), h2.trans (rel_eq (hR c)), hk⟩

end Cert.Proof
-- ==== Proof.lean ====
module

public import proofs.«01_k».proof.Defs
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim :=
  ⟨Cert.Kernel.Gen.facts, Cert.KernelIdeal.Gen.facts, Cert.ReferenceIdeal.Gen.facts, preFacts, frame_Kernel, frame_KernelIdeal, frame_ReferenceIdeal, frame_ReferenceIdeal_in_range, trivial, algebraic⟩

end Cert.Proof

end
